-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v50) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  IdealRules.named_const.Statement Cert.Kernel8Ideal.κ "k_scale" .f32 0x3D3504F3#32 (((Real.sqrt 512)⁻¹ : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v44_0)) (v1 : (c : Dev Cert.Kernel8Ideal.nD) → Buf (Elt Ideal) ((c.tc : Thread Cert.Kernel8Ideal.nD Cert.Kernel8Ideal.τ).loc Cert.Kernel8Ideal.main_v44_1)) (v2 : (c : Dev Cert.Kernel8Ideal.nD) → Buf (Elt Ideal) ((c.tc : Thread Cert.Kernel8Ideal.nD Cert.Kernel8Ideal.τ).loc Cert.Kernel8Ideal.main_v44_2)) (v3 : (c : Dev Cert.Kernel8Ideal.nD) → Buf (Elt Ideal) ((c.tc : Thread Cert.Kernel8Ideal.nD Cert.Kernel8Ideal.τ).loc Cert.Kernel8Ideal.main_v44_3)) (v4 : (c : Dev Cert.Kernel8Ideal.nD) → Buf (Elt Ideal) ((c.tc : Thread Cert.Kernel8Ideal.nD Cert.Kernel8Ideal.τ).loc Cert.Kernel8Ideal.main_v44_4)) (v5 : (c : Dev Cert.Kernel8Ideal.nD) → Buf (Elt Ideal) ((c.tc : Thread Cert.Kernel8Ideal.nD Cert.Kernel8Ideal.τ).loc Cert.Kernel8Ideal.main_v44_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v44_0) = v0 c
          ∧ r.2.mem ((c.tc : Thread Cert.Kernel8Ideal.nD Cert.Kernel8Ideal.τ).loc Cert.Kernel8Ideal.main_v44_1) = v1 c
          ∧ r.2.mem ((c.tc : Thread Cert.Kernel8Ideal.nD Cert.Kernel8Ideal.τ).loc Cert.Kernel8Ideal.main_v44_2) = v2 c
          ∧ r.2.mem ((c.tc : Thread Cert.Kernel8Ideal.nD Cert.Kernel8Ideal.τ).loc Cert.Kernel8Ideal.main_v44_3) = v3 c
          ∧ r.2.mem ((c.tc : Thread Cert.Kernel8Ideal.nD Cert.Kernel8Ideal.τ).loc Cert.Kernel8Ideal.main_v44_4) = v4 c
          ∧ r.2.mem ((c.tc : Thread Cert.Kernel8Ideal.nD Cert.Kernel8Ideal.τ).loc Cert.Kernel8Ideal.main_v44_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v54) = v0 c
          ∧ r.2.mem ((c.tc : Thread Cert.Reference8Ideal.nD Cert.Reference8Ideal.τ).loc Cert.Reference8Ideal.main_v70) = v1 c
          ∧ r.2.mem ((c.tc : Thread Cert.Reference8Ideal.nD Cert.Reference8Ideal.τ).loc Cert.Reference8Ideal.main_v62) = v2 c
          ∧ r.2.mem ((c.tc : Thread Cert.Reference8Ideal.nD Cert.Reference8Ideal.τ).loc Cert.Reference8Ideal.main_v50) = v3 c
          ∧ r.2.mem ((c.tc : Thread Cert.Reference8Ideal.nD Cert.Reference8Ideal.τ).loc Cert.Reference8Ideal.main_v23) = v4 c
          ∧ r.2.mem ((c.tc : Thread Cert.Reference8Ideal.nD Cert.Reference8Ideal.τ).loc Cert.Reference8Ideal.main_v67) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S4x8192x2048 : Shape := ⟨3, ![4, 8192, 2048]⟩
abbrev S4x8192x16 : Shape := ⟨3, ![4, 8192, 16]⟩
abbrev S2x4x4x512x640 : Shape := ⟨5, ![2, 4, 4, 512, 640]⟩
abbrev S2x4x4x8x128 : Shape := ⟨5, ![2, 4, 4, 8, 128]⟩
abbrev S_ : Shape := ⟨0, ![]⟩

class Facts : Prop where
  bcast_S_S4x8192x2048 : S_.BroadcastsInDim S4x8192x2048 (![] : Fin 0 → Fin S4x8192x2048.rank)
  bcast_S_S4x8192x16 : S_.BroadcastsInDim S4x8192x16 (![] : Fin 0 → Fin S4x8192x16.rank)
  bcast_S_S2x4x4x512x640 : S_.BroadcastsInDim S2x4x4x512x640 (![] : Fin 0 → Fin S2x4x4x512x640.rank)
  bcast_S_S2x4x4x8x128 : S_.BroadcastsInDim S2x4x4x8x128 (![] : Fin 0 → Fin S2x4x4x8x128.rank)

variable [Facts]

def fn {F : FTy → Type} [FloatOps F] (main_arg0 : FVec F S4x8192x2048 .f32) (main_arg1 : FVec F S4x8192x2048 .f32) (main_arg2 : FVec F S4x8192x2048 .f32) (main_arg3 : FVec F S4x8192x16 .f32) (main_arg4 : FVec F S2x4x4x512x640 .f32) (main_arg5 : FVec F S2x4x4x8x128 .f32) : IVec S4x8192x2048 1 × IVec S4x8192x2048 1 × IVec S4x8192x2048 1 × IVec S4x8192x16 1 × IVec S2x4x4x512x640 1 × IVec S2x4x4x8x128 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_v3 : FVec F S4x8192x2048 .f32 := Host.absf main_arg1
  let main_cst_0 : FVec F S_ .f32 := constant S_ .f32 0x7F800000#32
  let main_v4 : FVec F S4x8192x2048 .f32 := broadcastInDim S4x8192x2048 ![] bcast_S_S4x8192x2048 main_cst_0
  let main_v5 : IVec S4x8192x2048 1 := cmpf .olt main_v3 main_v4
  let main_v6 : FVec F S4x8192x2048 .f32 := Host.absf main_arg2
  let main_cst_1 : FVec F S_ .f32 := constant S_ .f32 0x7F800000#32
  let main_v7 : FVec F S4x8192x2048 .f32 := broadcastInDim S4x8192x2048 ![] bcast_S_S4x8192x2048 main_cst_1
  let main_v8 : IVec S4x8192x2048 1 := cmpf .olt main_v6 main_v7
  let main_v9 : FVec F S4x8192x16 .f32 := Host.absf main_arg3
  let main_cst_2 : FVec F S_ .f32 := constant S_ .f32 0x7F800000#32
  let main_v10 : FVec F S4x8192x16 .f32 := broadcastInDim S4x8192x16 ![] bcast_S_S4x8192x16 main_cst_2
  let main_v11 : IVec S4x8192x16 1 := cmpf .olt main_v9 main_v10
  let main_v12 : FVec F S2x4x4x512x640 .f32 := Host.absf main_arg4
  let main_cst_3 : FVec F S_ .f32 := constant S_ .f32 0x7F800000#32
  let main_v13 : FVec F S2x4x4x512x640 .f32 := broadcastInDim S2x4x4x512x640 ![] bcast_S_S2x4x4x512x640 main_cst_3
  let main_v14 : IVec S2x4x4x512x640 1 := cmpf .olt main_v12 main_v13
  let main_v15 : FVec F S2x4x4x8x128 .f32 := Host.absf main_arg5
  let main_cst_4 : FVec F S_ .f32 := constant S_ .f32 0x7F800000#32
  let main_v16 : FVec F S2x4x4x8x128 .f32 := broadcastInDim S2x4x4x8x128 ![] bcast_S_S2x4x4x8x128 main_cst_4
  let main_v17 : IVec S2x4x4x8x128 1 := cmpf .olt main_v15 main_v16
  (main_v2, main_v5, main_v8, main_v11, main_v14, main_v17)
-- ==== Kernel.lean ====
abbrev S4x8192x2048 : Shape := ⟨3, ![4, 8192, 2048]⟩
abbrev S4x8192x16 : Shape := ⟨3, ![4, 8192, 16]⟩
abbrev S2x4x4x512x640 : Shape := ⟨5, ![2, 4, 4, 512, 640]⟩
abbrev S2x4x4x8x128 : Shape := ⟨5, ![2, 4, 4, 8, 128]⟩
abbrev S4x8192x2x2x4 : Shape := ⟨5, ![4, 8192, 2, 2, 4]⟩
abbrev S4x2x4x2x8192 : Shape := ⟨5, ![4, 2, 4, 2, 8192]⟩
abbrev S2x4x8192x2048 : Shape := ⟨4, ![2, 4, 8192, 2048]⟩
abbrev S1x256x512 : Shape := ⟨3, ![1, 256, 512]⟩
abbrev S1x1x1x2x256 : Shape := ⟨5, ![1, 1, 1, 2, 256]⟩
abbrev S1x1x1x512x640 : Shape := ⟨5, ![1, 1, 1, 512, 640]⟩
abbrev S1x1x1x8x128 : Shape := ⟨5, ![1, 1, 1, 8, 128]⟩
abbrev S1x1x256x512 : Shape := ⟨4, ![1, 1, 256, 512]⟩
abbrev S512x640 : Shape := ⟨2, ![512, 640]⟩
abbrev S8x128 : Shape := ⟨2, ![8, 128]⟩
abbrev S256x256 : Shape := ⟨2, ![256, 256]⟩
abbrev S1x1x1x1x256 : Shape := ⟨5, ![1, 1, 1, 1, 256]⟩
abbrev S1x256 : Shape := ⟨2, ![1, 256]⟩
abbrev S2x256 : Shape := ⟨2, ![2, 256]⟩
abbrev S8x256 : Shape := ⟨2, ![8, 256]⟩
abbrev S256x8 : Shape := ⟨2, ![256, 8]⟩
abbrev S256x1 : Shape := ⟨2, ![256, 1]⟩
abbrev S1 : Shape := ⟨1, ![1]⟩
abbrev S1x1 : Shape := ⟨2, ![1, 1]⟩
abbrev S256 : Shape := ⟨1, ![256]⟩
abbrev S256x512 : Shape := ⟨2, ![256, 512]⟩
abbrev S256x128 : Shape := ⟨2, ![256, 128]⟩
abbrev S256x640 : Shape := ⟨2, ![256, 640]⟩

abbrev nBuf : Space → Nat
  | .hbm => 9
  | .vmem => 16
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S4x8192x2048, .f32⟩
  | .hbm, ⟨3, _⟩ => ⟨S4x8192x16, .f32⟩
  | .hbm, ⟨4, _⟩ => ⟨S2x4x4x512x640, .f32⟩
  | .hbm, ⟨5, _⟩ => ⟨S2x4x4x8x128, .f32⟩
  | .hbm, ⟨6, _⟩ => ⟨S4x8192x2x2x4, .f32⟩
  | .hbm, ⟨7, _⟩ => ⟨S4x2x4x2x8192, .f32⟩
  | .hbm, ⟨8, _⟩ => ⟨S2x4x8192x2048, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x1x1x2x256, .f32⟩
  | .local _ .vmem, ⟨7, _⟩ => ⟨S1x1x1x2x256, .f32⟩
  | .local _ .vmem, ⟨8, _⟩ => ⟨S1x1x1x512x640, .f32⟩
  | .local _ .vmem, ⟨9, _⟩ => ⟨S1x1x1x512x640, .f32⟩
  | .local _ .vmem, ⟨10, _⟩ => ⟨S1x1x1x8x128, .f32⟩
  | .local _ .vmem, ⟨11, _⟩ => ⟨S1x1x1x8x128, .f32⟩
  | .local _ .vmem, ⟨12, _⟩ => ⟨S1x1x256x512, .f32⟩
  | .local _ .vmem, ⟨13, _⟩ => ⟨S1x1x256x512, .f32⟩
  | .local _ .vmem, ⟨14, _⟩ => ⟨S512x640, .f32⟩
  | .local _ .vmem, ⟨15, _⟩ => ⟨S8x128, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨4, ![2, 4, 4, 32], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c31_i32 : BitVec 32 := 31#32
  let v1 : BitVec 32 := Scalar.subi c31_i32 v0
  let v2 : BitVec 32 := Scalar.muli arg0 v1
  let v3 : BitVec 32 := Scalar.addi arg3 v2
  let c0_i32 : BitVec 32 := 0#32
  ![arg1.toNat, v3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c31_i32 : BitVec 32 := 31#32
  let v1 : BitVec 32 := Scalar.subi c31_i32 v0
  let v2 : BitVec 32 := Scalar.muli arg0 v1
  let v3 : BitVec 32 := Scalar.addi arg3 v2
  let c0_i32 : BitVec 32 := 0#32
  ![arg1.toNat, v3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c31_i32 : BitVec 32 := 31#32
  let v1 : BitVec 32 := Scalar.subi c31_i32 v0
  let v2 : BitVec 32 := Scalar.muli arg0 v1
  let v3 : BitVec 32 := Scalar.addi arg3 v2
  let c0_i32 : BitVec 32 := 0#32
  ![arg1.toNat, v3.toNat, arg2.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c31_i32 : BitVec 32 := 31#32
  let v1 : BitVec 32 := Scalar.subi c31_i32 v0
  let v2 : BitVec 32 := Scalar.muli arg0 v1
  let v3 : BitVec 32 := Scalar.addi arg3 v2
  let c0_i32 : BitVec 32 := 0#32
  let c0_i32_0 : BitVec 32 := 0#32
  ![arg1.toNat, arg0.toNat, arg2.toNat, c0_i32.toNat, v3.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c31_i32 : BitVec 32 := 31#32
  let v1 : BitVec 32 := Scalar.subi c31_i32 v0
  let v2 : BitVec 32 := Scalar.muli arg0 v1
  let v3 : BitVec 32 := Scalar.addi arg3 v2
  let c0_i32 : BitVec 32 := 0#32
  ![arg0.toNat, arg1.toNat, v3.toNat, arg2.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x1x1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x1x1x512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]

abbrev stage0_5 : Fin 2 → Memref sig .tc .vmem S1x1x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]

abbrev stage0_6 : Fin 2 → Memref sig .tc .vmem S1x1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]
-- ==== ReferenceIdeal.lean ====
abbrev S4x8192x2048 : Shape := ⟨3, ![4, 8192, 2048]⟩
abbrev S4x8192x16 : Shape := ⟨3, ![4, 8192, 16]⟩
abbrev S2x4x4x512x640 : Shape := ⟨5, ![2, 4, 4, 512, 640]⟩
abbrev S2x4x4x8x128 : Shape := ⟨5, ![2, 4, 4, 8, 128]⟩
abbrev S4x8192x2x2x4 : Shape := ⟨5, ![4, 8192, 2, 2, 4]⟩
abbrev S4x8192x4x512 : Shape := ⟨4, ![4, 8192, 4, 512]⟩
abbrev S8x8192x4x512 : Shape := ⟨4, ![8, 8192, 4, 512]⟩
abbrev S4x8192x1x1x4 : Shape := ⟨5, ![4, 8192, 1, 1, 4]⟩
abbrev S4x8192x4 : Shape := ⟨3, ![4, 8192, 4]⟩
abbrev S8x8192x4 : Shape := ⟨3, ![8, 8192, 4]⟩
abbrev S8x4x512x640 : Shape := ⟨4, ![8, 4, 512, 640]⟩
abbrev S8x4x8x128 : Shape := ⟨4, ![8, 4, 8, 128]⟩
abbrev S8x4x512x512 : Shape := ⟨4, ![8, 4, 512, 512]⟩
abbrev S8x4x512x1 : Shape := ⟨4, ![8, 4, 512, 1]⟩
abbrev S8x4x512 : Shape := ⟨3, ![8, 4, 512]⟩
abbrev S8x4x1x1 : Shape := ⟨4, ![8, 4, 1, 1]⟩
abbrev S8x4 : Shape := ⟨2, ![8, 4]⟩
abbrev S_ : Shape := ⟨0, ![]⟩
abbrev S64x64 : Shape := ⟨2, ![64, 64]⟩
abbrev S8x128x64x4x512 : Shape := ⟨5, ![8, 128, 64, 4, 512]⟩
abbrev S128x8x4x64x512 : Shape := ⟨5, ![128, 8, 4, 64, 512]⟩
abbrev S8x128x64x4 : Shape := ⟨4, ![8, 128, 64, 4]⟩
abbrev S128x8x4x64 : Shape := ⟨4, ![128, 8, 4, 64]⟩
abbrev S1x8x4x64x512 : Shape := ⟨5, ![1, 8, 4, 64, 512]⟩
abbrev S8x4x64x512 : Shape := ⟨4, ![8, 4, 64, 512]⟩
abbrev S1x8x4x64 : Shape := ⟨4, ![1, 8, 4, 64]⟩
abbrev S8x4x64 : Shape := ⟨3, ![8, 4, 64]⟩
abbrev S8x4x1 : Shape := ⟨3, ![8, 4, 1]⟩
abbrev S8x4x64x1 : Shape := ⟨4, ![8, 4, 64, 1]⟩
abbrev S8x4x1x64 : Shape := ⟨4, ![8, 4, 1, 64]⟩
abbrev S8x4x64x64 : Shape := ⟨4, ![8, 4, 64, 64]⟩
abbrev S8x8192x2048 : Shape := ⟨3, ![8, 8192, 2048]⟩
abbrev S1x4x8192x2048 : Shape := ⟨4, ![1, 4, 8192, 2048]⟩
abbrev S2x4x8192x2048 : Shape := ⟨4, ![2, 4, 8192, 2048]⟩

abbrev nBuf : Space → Nat
  | .hbm => 211
  | .vmem => 0
  | .smem => 0
  | _ => 0

abbrev hbmTy0_0 (i : Nat) : BufTy := match i % 128 with
  | 0 => ⟨S4x8192x2048, .f32⟩
  | 1 => ⟨S4x8192x2048, .f32⟩
  | 2 => ⟨S4x8192x2048, .f32⟩
  | 3 => ⟨S4x8192x16, .f32⟩
  | 4 => ⟨S2x4x4x512x640, .f32⟩
  | 5 => ⟨S2x4x4x8x128, .f32⟩
  | 6 => ⟨S4x8192x2x2x4, .f32⟩
  | 7 => ⟨S4x8192x4x512, .f32⟩
  | 8 => ⟨S4x8192x4x512, .f32⟩
  | 9 => ⟨S4x8192x4x512, .f32⟩
  | 10 => ⟨S4x8192x4x512, .f32⟩
  | 11 => ⟨S8x8192x4x512, .f32⟩
  | 12 => ⟨S4x8192x4x512, .f32⟩
  | 13 => ⟨S8x8192x4x512, .f32⟩
  | 14 => ⟨S4x8192x4x512, .f32⟩
  | 15 => ⟨S8x8192x4x512, .f32⟩
  | 16 => ⟨S4x8192x1x1x4, .f32⟩
  | 17 => ⟨S4x8192x4, .f32⟩
  | 18 => ⟨S4x8192x1x1x4, .f32⟩
  | 19 => ⟨S4x8192x4, .f32⟩
  | 20 => ⟨S4x8192x4, .f32⟩
  | 21 => ⟨S8x8192x4, .f32⟩
  | 22 => ⟨S4x8192x1x1x4, .f32⟩
  | 23 => ⟨S4x8192x4, .f32⟩
  | 24 => ⟨S4x8192x1x1x4, .f32⟩
  | 25 => ⟨S4x8192x4, .f32⟩
  | 26 => ⟨S4x8192x4, .f32⟩
  | 27 => ⟨S8x8192x4, .f32⟩
  | 28 => ⟨S8x4x512x640, .f32⟩
  | 29 => ⟨S8x4x8x128, .f32⟩
  | 30 => ⟨S8x4x512x512, .f32⟩
  | 31 => ⟨S8x4x512x1, .f32⟩
  | 32 => ⟨S8x4x512, .f32⟩
  | 33 => ⟨S8x4x1x1, .f32⟩
  | 34 => ⟨S8x4, .f32⟩
  | 35 => ⟨S8x8192x4, .f32⟩
  | 36 => ⟨S_, .f32⟩
  | 37 => ⟨S8x8192x4, .f32⟩
  | 38 => ⟨S8x8192x4, .f32⟩
  | 39 => ⟨S8x8192x4, .f32⟩
  | 40 => ⟨S8x8192x4, .f32⟩
  | 41 => ⟨S8x8192x4, .i1⟩
  | 42 => ⟨S8x8192x4, .f32⟩
  | 43 => ⟨S8x8192x4, .f32⟩
  | 44 => ⟨S8x8192x4, .f32⟩
  | 45 => ⟨S8x8192x4, .f32⟩
  | 46 => ⟨S8x8192x4, .f32⟩
  | 47 => ⟨S8x8192x4, .f32⟩
  | 48 => ⟨S8x8192x4, .f32⟩
  | 49 => ⟨S8x8192x4, .f32⟩
  | 50 => ⟨S8x8192x4, .f32⟩
  | 51 => ⟨S_, .i1⟩
  | 52 => ⟨S64x64, .i1⟩
  | 53 => ⟨S64x64, .i32⟩
  | 54 => ⟨S_, .i32⟩
  | 55 => ⟨S64x64, .i32⟩
  | 56 => ⟨S64x64, .i32⟩
  | 57 => ⟨S64x64, .i32⟩
  | 58 => ⟨S64x64, .i1⟩
  | 59 => ⟨S_, .i1⟩
  | 60 => ⟨S64x64, .i1⟩
  | 61 => ⟨S64x64, .i1⟩
  | 62 => ⟨S8x128x64x4x512, .f32⟩
  | 63 => ⟨S128x8x4x64x512, .f32⟩
  | 64 => ⟨S8x128x64x4x512, .f32⟩
  | 65 => ⟨S128x8x4x64x512, .f32⟩
  | 66 => ⟨S8x128x64x4x512, .f32⟩
  | 67 => ⟨S128x8x4x64x512, .f32⟩
  | 68 => ⟨S8x128x64x4, .f32⟩
  | 69 => ⟨S128x8x4x64, .f32⟩
  | 70 => ⟨S8x128x64x4, .f32⟩
  | 71 => ⟨S128x8x4x64, .f32⟩
  | 72 => ⟨S_, .f32⟩
  | 73 => ⟨S128x8x4x64x512, .f32⟩
  | 74 => ⟨S_, .i32⟩
  | 75 => ⟨S128x8x4x64x512, .f32⟩
  | 76 => ⟨S128x8x4x64x512, .f32⟩
  | 77 => ⟨S128x8x4x64x512, .f32⟩
  | 78 => ⟨S128x8x4x64, .f32⟩
  | 79 => ⟨S128x8x4x64, .f32⟩
  | 80 => ⟨S64x64, .i1⟩
  | 81 => ⟨S_, .i32⟩
  | 82 => ⟨S8x4x512x512, .f32⟩
  | 83 => ⟨S8x4x512, .f32⟩
  | 84 => ⟨S8x4, .f32⟩
  | 85 => ⟨S128x8x4x64x512, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S1x8x4x64x512, .f32⟩
  | 93 => ⟨S8x4x64x512, .f32⟩
  | 94 => ⟨S_, .i32⟩
  | 95 => ⟨S_, .i32⟩
  | 96 => ⟨S_, .i32⟩
  | 97 => ⟨S_, .i32⟩
  | 98 => ⟨S1x8x4x64x512, .f32⟩
  | 99 => ⟨S8x4x64x512, .f32⟩
  | 100 => ⟨S_, .i32⟩
  | 101 => ⟨S_, .i32⟩
  | 102 => ⟨S_, .i32⟩
  | 103 => ⟨S_, .i32⟩
  | 104 => ⟨S1x8x4x64x512, .f32⟩
  | 105 => ⟨S8x4x64x512, .f32⟩
  | 106 => ⟨S_, .i32⟩
  | 107 => ⟨S_, .i32⟩
  | 108 => ⟨S_, .i32⟩
  | 109 => ⟨S1x8x4x64, .f32⟩
  | 110 => ⟨S8x4x64, .f32⟩
  | 111 => ⟨S_, .i32⟩
  | 112 => ⟨S_, .i32⟩
  | 113 => ⟨S_, .i32⟩
  | 114 => ⟨S1x8x4x64, .f32⟩
  | 115 => ⟨S8x4x64, .f32⟩
  | 116 => ⟨S_, .f32⟩
  | 117 => ⟨S_, .f32⟩
  | 118 => ⟨S8x4x64, .f32⟩
  | 119 => ⟨S8x4x1, .f32⟩
  | 120 => ⟨S8x4x64, .f32⟩
  | 121 => ⟨S8x4x64, .f32⟩
  | 122 => ⟨S8x4x64x1, .f32⟩
  | 123 => ⟨S8x4x1x64, .f32⟩
  | 124 => ⟨S8x4x64x64, .f32⟩
  | 125 => ⟨S8x4x64x64, .f32⟩
  | 126 => ⟨S8x4x64x64, .f32⟩
  | 127 => ⟨S8x4x1x64, .f32⟩
  | _ => ⟨S4x8192x2048, .f32⟩

abbrev hbmTy0_1 (i : Nat) : BufTy := match i % 128 with
  | 0 => ⟨S8x4x64x64, .f32⟩
  | 1 => ⟨S8x4x64x64, .f32⟩
  | 2 => ⟨S_, .f32⟩
  | 3 => ⟨S_, .f32⟩
  | 4 => ⟨S8x4x64x64, .i1⟩
  | 5 => ⟨S8x4x64x64, .f32⟩
  | 6 => ⟨S8x4x64x64, .f32⟩
  | 7 => ⟨S_, .f32⟩
  | 8 => ⟨S8x4x64, .f32⟩
  | 9 => ⟨S8x4x64, .f32⟩
  | 10 => ⟨S8x4x64, .f32⟩
  | 11 => ⟨S8x4x64, .f32⟩
  | 12 => ⟨S8x4x64x64, .f32⟩
  | 13 => ⟨S8x4x64x1, .f32⟩
  | 14 => ⟨S8x4x64x64, .f32⟩
  | 15 => ⟨S8x4x64x64, .f32⟩
  | 16 => ⟨S8x4x64x64, .f32⟩
  | 17 => ⟨S8x4x64x64, .f32⟩
  | 18 => ⟨S8x4x64x1, .f32⟩
  | 19 => ⟨S8x4x64x512, .f32⟩
  | 20 => ⟨S8x4x64x512, .f32⟩
  | 21 => ⟨S8x4x64x512, .f32⟩
  | 22 => ⟨S8x4x64x512, .f32⟩
  | 23 => ⟨S8x4x64x512, .f32⟩
  | 24 => ⟨S8x4x64, .f32⟩
  | 25 => ⟨S8x4x64, .f32⟩
  | 26 => ⟨S_, .f32⟩
  | 27 => ⟨S8x4x64, .f32⟩
  | 28 => ⟨S8x4x64, .f32⟩
  | 29 => ⟨S8x4x64, .f32⟩
  | 30 => ⟨S8x4x64, .f32⟩
  | 31 => ⟨S8x4x64, .f32⟩
  | 32 => ⟨S8x4x64, .f32⟩
  | 33 => ⟨S8x4x64x1, .f32⟩
  | 34 => ⟨S8x4x64x512, .f32⟩
  | 35 => ⟨S8x4x64x512, .f32⟩
  | 36 => ⟨S8x4x1, .f32⟩
  | 37 => ⟨S8x4, .f32⟩
  | 38 => ⟨S8x4x1, .f32⟩
  | 39 => ⟨S8x4x64, .f32⟩
  | 40 => ⟨S8x4x64, .f32⟩
  | 41 => ⟨S8x4x64, .f32⟩
  | 42 => ⟨S8x4, .f32⟩
  | 43 => ⟨S_, .f32⟩
  | 44 => ⟨S8x4, .f32⟩
  | 45 => ⟨S8x4, .f32⟩
  | 46 => ⟨S8x4, .f32⟩
  | 47 => ⟨S8x4, .f32⟩
  | 48 => ⟨S8x4, .f32⟩
  | 49 => ⟨S8x4x1, .f32⟩
  | 50 => ⟨S8x4x64, .f32⟩
  | 51 => ⟨S8x4x64, .f32⟩
  | 52 => ⟨S8x4x64, .f32⟩
  | 53 => ⟨S8x4x64x1, .f32⟩
  | 54 => ⟨S8x4x64x512, .f32⟩
  | 55 => ⟨S8x4x64x512, .f32⟩
  | 56 => ⟨S8x4x1x1, .f32⟩
  | 57 => ⟨S8x4x512x512, .f32⟩
  | 58 => ⟨S8x4x512x512, .f32⟩
  | 59 => ⟨S8x4x512x512, .f32⟩
  | 60 => ⟨S8x4x512x512, .f32⟩
  | 61 => ⟨S8x4x1, .f32⟩
  | 62 => ⟨S8x4x512, .f32⟩
  | 63 => ⟨S8x4x512, .f32⟩
  | 64 => ⟨S_, .f32⟩
  | 65 => ⟨S8x4x512, .f32⟩
  | 66 => ⟨S8x4x512, .f32⟩
  | 67 => ⟨S1x8x4x64x512, .f32⟩
  | 68 => ⟨S_, .i32⟩
  | 69 => ⟨S_, .i32⟩
  | 70 => ⟨S_, .i32⟩
  | 71 => ⟨S_, .i32⟩
  | 72 => ⟨S128x8x4x64x512, .f32⟩
  | 73 => ⟨S_, .i32⟩
  | 74 => ⟨S_, .i32⟩
  | 75 => ⟨S8x128x64x4x512, .f32⟩
  | 76 => ⟨S8x8192x2048, .f32⟩
  | 77 => ⟨S4x8192x2048, .f32⟩
  | 78 => ⟨S4x8192x2048, .f32⟩
  | 79 => ⟨S4x8192x2048, .f32⟩
  | 80 => ⟨S1x4x8192x2048, .f32⟩
  | 81 => ⟨S1x4x8192x2048, .f32⟩
  | 82 => ⟨S2x4x8192x2048, .f32⟩
  | _ => ⟨S4x8192x2048, .f32⟩

abbrev hbmTy (i : Nat) : BufTy := match i / 128 with
  | 0 => hbmTy0_0 i
  | 1 => hbmTy0_1 i
  | _ => ⟨S4x8192x2048, .f32⟩

abbrev bufTy : (tb : Table) → Fin (tcTables nBuf tb) → BufTy
  | .hbm, ⟨i, _⟩ => hbmTy i
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_call0_cst : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_v1 : Ref sig .tc := ⟨.hbm, 49, rfl⟩
abbrev main_v29 : Ref sig .tc := ⟨.hbm, 50, rfl⟩
abbrev main_c : Ref sig .tc := ⟨.hbm, 51, rfl⟩
abbrev main_v30 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_0 : Ref sig .tc := ⟨.hbm, 59, rfl⟩
abbrev main_call1_v5 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst : Ref sig .tc := ⟨.hbm, 72, rfl⟩
abbrev main_v42 : Ref sig .tc := ⟨.hbm, 73, rfl⟩
abbrev main_c_0 : Ref sig .tc := ⟨.hbm, 74, rfl⟩
abbrev main_v43_0 : Ref sig .tc := ⟨.hbm, 75, rfl⟩
abbrev main_v43_1 : Ref sig .tc := ⟨.hbm, 76, rfl⟩
abbrev main_v43_2 : Ref sig .tc := ⟨.hbm, 77, rfl⟩
abbrev main_v43_3 : Ref sig .tc := ⟨.hbm, 78, rfl⟩
abbrev main_v43_4 : Ref sig .tc := ⟨.hbm, 79, rfl⟩
abbrev main_v43_5 : Ref sig .tc := ⟨.hbm, 80, rfl⟩
abbrev main_v43_6 : Ref sig .tc := ⟨.hbm, 81, rfl⟩
abbrev main_v43_7 : Ref sig .tc := ⟨.hbm, 82, rfl⟩
abbrev main_v43_8 : Ref sig .tc := ⟨.hbm, 83, rfl⟩
abbrev main_v43_9 : Ref sig .tc := ⟨.hbm, 84, rfl⟩
abbrev main_v43_10 : Ref sig .tc := ⟨.hbm, 85, rfl⟩
abbrev main_while0c_c_11 : Ref sig .tc := ⟨.hbm, 86, rfl⟩
abbrev main_while0c_v52 : Ref sig .tc := ⟨.hbm, 87, rfl⟩
abbrev main_while0b_call2_c : Ref sig .tc := ⟨.hbm, 88, rfl⟩
abbrev main_while0b_call2_c_0 : Ref sig .tc := ⟨.hbm, 89, rfl⟩
abbrev main_while0b_call2_c_1 : Ref sig .tc := ⟨.hbm, 90, rfl⟩
abbrev main_while0b_call2_c_2 : Ref sig .tc := ⟨.hbm, 91, rfl⟩
abbrev main_while0b_call2_v0 : Ref sig .tc := ⟨.hbm, 92, rfl⟩
abbrev main_while0b_v52 : Ref sig .tc := ⟨.hbm, 93, rfl⟩
abbrev main_while0b_call3_c : Ref sig .tc := ⟨.hbm, 94, rfl⟩
abbrev main_while0b_call3_c_0 : Ref sig .tc := ⟨.hbm, 95, rfl⟩
abbrev main_while0b_call3_c_1 : Ref sig .tc := ⟨.hbm, 96, rfl⟩
abbrev main_while0b_call3_c_2 : Ref sig .tc := ⟨.hbm, 97, rfl⟩
abbrev main_while0b_call3_v0 : Ref sig .tc := ⟨.hbm, 98, rfl⟩
abbrev main_while0b_v53 : Ref sig .tc := ⟨.hbm, 99, rfl⟩
abbrev main_while0b_call4_c : Ref sig .tc := ⟨.hbm, 100, rfl⟩
abbrev main_while0b_call4_c_0 : Ref sig .tc := ⟨.hbm, 101, rfl⟩
abbrev main_while0b_call4_c_1 : Ref sig .tc := ⟨.hbm, 102, rfl⟩
abbrev main_while0b_call4_c_2 : Ref sig .tc := ⟨.hbm, 103, rfl⟩
abbrev main_while0b_call4_v0 : Ref sig .tc := ⟨.hbm, 104, rfl⟩
abbrev main_while0b_v54 : Ref sig .tc := ⟨.hbm, 105, rfl⟩
abbrev main_while0b_call5_c : Ref sig .tc := ⟨.hbm, 106, rfl⟩
abbrev main_while0b_call5_c_0 : Ref sig .tc := ⟨.hbm, 107, rfl⟩
abbrev main_while0b_call5_c_1 : Ref sig .tc := ⟨.hbm, 108, rfl⟩
abbrev main_while0b_call5_v0 : Ref sig .tc := ⟨.hbm, 109, rfl⟩
abbrev main_while0b_v55 : Ref sig .tc := ⟨.hbm, 110, rfl⟩
abbrev main_while0b_call6_c : Ref sig .tc := ⟨.hbm, 111, rfl⟩
abbrev main_while0b_call6_c_0 : Ref sig .tc := ⟨.hbm, 112, rfl⟩
abbrev main_while0b_call6_c_1 : Ref sig .tc := ⟨.hbm, 113, rfl⟩
abbrev main_while0b_call6_v0 : Ref sig .tc := ⟨.hbm, 114, rfl⟩
abbrev main_while0b_v56 : Ref sig .tc := ⟨.hbm, 115, rfl⟩
abbrev main_while0b_call7_call0_cst : Ref sig .tc := ⟨.hbm, 116, rfl⟩
abbrev main_while0b_call7_call0_v0 : Ref sig .tc := ⟨.hbm, 117, rfl⟩
abbrev main_while0b_v57 : Ref sig .tc := ⟨.hbm, 118, rfl⟩
abbrev main_while0b_v58 : Ref sig .tc := ⟨.hbm, 119, rfl⟩
abbrev main_while0b_v59 : Ref sig .tc := ⟨.hbm, 120, rfl⟩
abbrev main_while0b_v60 : Ref sig .tc := ⟨.hbm, 121, rfl⟩
abbrev main_while0b_v61 : Ref sig .tc := ⟨.hbm, 122, rfl⟩
abbrev main_while0b_v62 : Ref sig .tc := ⟨.hbm, 123, rfl⟩
abbrev main_while0b_v63 : Ref sig .tc := ⟨.hbm, 124, rfl⟩
abbrev main_while0b_v64 : Ref sig .tc := ⟨.hbm, 125, rfl⟩
abbrev main_while0b_v65 : Ref sig .tc := ⟨.hbm, 126, rfl⟩
abbrev main_while0b_v66 : Ref sig .tc := ⟨.hbm, 127, rfl⟩
abbrev main_while0b_v67 : Ref sig .tc := ⟨.hbm, 128, rfl⟩
abbrev main_while0b_v68 : Ref sig .tc := ⟨.hbm, 129, rfl⟩
abbrev main_while0b_cst_11 : Ref sig .tc := ⟨.hbm, 130, rfl⟩
abbrev main_while0b_call8_v0 : Ref sig .tc := ⟨.hbm, 131, rfl⟩
abbrev main_while0b_call8_v1 : Ref sig .tc := ⟨.hbm, 132, rfl⟩
abbrev main_while0b_call8_v2 : Ref sig .tc := ⟨.hbm, 133, rfl⟩
abbrev main_while0b_v69 : Ref sig .tc := ⟨.hbm, 134, rfl⟩
abbrev main_while0b_cst_12 : Ref sig .tc := ⟨.hbm, 135, rfl⟩
abbrev main_while0b_v70 : Ref sig .tc := ⟨.hbm, 136, rfl⟩
abbrev main_while0b_v71 : Ref sig .tc := ⟨.hbm, 137, rfl⟩
abbrev main_while0b_v72 : Ref sig .tc := ⟨.hbm, 138, rfl⟩
abbrev main_while0b_v73 : Ref sig .tc := ⟨.hbm, 139, rfl⟩
abbrev main_while0b_v74 : Ref sig .tc := ⟨.hbm, 140, rfl⟩
abbrev main_while0b_v75 : Ref sig .tc := ⟨.hbm, 141, rfl⟩
abbrev main_while0b_v76 : Ref sig .tc := ⟨.hbm, 142, rfl⟩
abbrev main_while0b_v77 : Ref sig .tc := ⟨.hbm, 143, rfl⟩
abbrev main_while0b_v78 : Ref sig .tc := ⟨.hbm, 144, rfl⟩
abbrev main_while0b_v79 : Ref sig .tc := ⟨.hbm, 145, rfl⟩
abbrev main_while0b_v80 : Ref sig .tc := ⟨.hbm, 146, rfl⟩
abbrev main_while0b_v81 : Ref sig .tc := ⟨.hbm, 147, rfl⟩
abbrev main_while0b_v82 : Ref sig .tc := ⟨.hbm, 148, rfl⟩
abbrev main_while0b_v83 : Ref sig .tc := ⟨.hbm, 149, rfl⟩
abbrev main_while0b_v84 : Ref sig .tc := ⟨.hbm, 150, rfl⟩
abbrev main_while0b_v85 : Ref sig .tc := ⟨.hbm, 151, rfl⟩
abbrev main_while0b_v86 : Ref sig .tc := ⟨.hbm, 152, rfl⟩
abbrev main_while0b_v87 : Ref sig .tc := ⟨.hbm, 153, rfl⟩
abbrev main_while0b_cst_13 : Ref sig .tc := ⟨.hbm, 154, rfl⟩
abbrev main_while0b_v88 : Ref sig .tc := ⟨.hbm, 155, rfl⟩
abbrev main_while0b_v89 : Ref sig .tc := ⟨.hbm, 156, rfl⟩
abbrev main_while0b_v90 : Ref sig .tc := ⟨.hbm, 157, rfl⟩
abbrev main_while0b_v91 : Ref sig .tc := ⟨.hbm, 158, rfl⟩
abbrev main_while0b_v92 : Ref sig .tc := ⟨.hbm, 159, rfl⟩
abbrev main_while0b_v93 : Ref sig .tc := ⟨.hbm, 160, rfl⟩
abbrev main_while0b_v94 : Ref sig .tc := ⟨.hbm, 161, rfl⟩
abbrev main_while0b_v95 : Ref sig .tc := ⟨.hbm, 162, rfl⟩
abbrev main_while0b_v96 : Ref sig .tc := ⟨.hbm, 163, rfl⟩
abbrev main_while0b_v97 : Ref sig .tc := ⟨.hbm, 164, rfl⟩
abbrev main_while0b_v98 : Ref sig .tc := ⟨.hbm, 165, rfl⟩
abbrev main_while0b_v99 : Ref sig .tc := ⟨.hbm, 166, rfl⟩
abbrev main_while0b_v100 : Ref sig .tc := ⟨.hbm, 167, rfl⟩
abbrev main_while0b_v101 : Ref sig .tc := ⟨.hbm, 168, rfl⟩
abbrev main_while0b_v102 : Ref sig .tc := ⟨.hbm, 169, rfl⟩
abbrev main_while0b_v103 : Ref sig .tc := ⟨.hbm, 170, rfl⟩
abbrev main_while0b_cst_14 : Ref sig .tc := ⟨.hbm, 171, rfl⟩
abbrev main_while0b_v104 : Ref sig .tc := ⟨.hbm, 172, rfl⟩
abbrev main_while0b_v105 : Ref sig .tc := ⟨.hbm, 173, rfl⟩
abbrev main_while0b_v106 : Ref sig .tc := ⟨.hbm, 174, rfl⟩
abbrev main_while0b_v107 : Ref sig .tc := ⟨.hbm, 175, rfl⟩
abbrev main_while0b_v108 : Ref sig .tc := ⟨.hbm, 176, rfl⟩
abbrev main_while0b_v109 : Ref sig .tc := ⟨.hbm, 177, rfl⟩
abbrev main_while0b_v110 : Ref sig .tc := ⟨.hbm, 178, rfl⟩
abbrev main_while0b_v111 : Ref sig .tc := ⟨.hbm, 179, rfl⟩
abbrev main_while0b_v112 : Ref sig .tc := ⟨.hbm, 180, rfl⟩
abbrev main_while0b_v113 : Ref sig .tc := ⟨.hbm, 181, rfl⟩
abbrev main_while0b_v114 : Ref sig .tc := ⟨.hbm, 182, rfl⟩
abbrev main_while0b_v115 : Ref sig .tc := ⟨.hbm, 183, rfl⟩
abbrev main_while0b_v116 : Ref sig .tc := ⟨.hbm, 184, rfl⟩
abbrev main_while0b_v117 : Ref sig .tc := ⟨.hbm, 185, rfl⟩
abbrev main_while0b_v118 : Ref sig .tc := ⟨.hbm, 186, rfl⟩
abbrev main_while0b_v119 : Ref sig .tc := ⟨.hbm, 187, rfl⟩
abbrev main_while0b_v120 : Ref sig .tc := ⟨.hbm, 188, rfl⟩
abbrev main_while0b_v121 : Ref sig .tc := ⟨.hbm, 189, rfl⟩
abbrev main_while0b_v122 : Ref sig .tc := ⟨.hbm, 190, rfl⟩
abbrev main_while0b_v123 : Ref sig .tc := ⟨.hbm, 191, rfl⟩
abbrev main_while0b_cst_15 : Ref sig .tc := ⟨.hbm, 192, rfl⟩
abbrev main_while0b_v124 : Ref sig .tc := ⟨.hbm, 193, rfl⟩
abbrev main_while0b_v125 : Ref sig .tc := ⟨.hbm, 194, rfl⟩
abbrev main_while0b_call9_v0 : Ref sig .tc := ⟨.hbm, 195, rfl⟩
abbrev main_while0b_call9_c : Ref sig .tc := ⟨.hbm, 196, rfl⟩
abbrev main_while0b_call9_c_0 : Ref sig .tc := ⟨.hbm, 197, rfl⟩
abbrev main_while0b_call9_c_1 : Ref sig .tc := ⟨.hbm, 198, rfl⟩
abbrev main_while0b_call9_c_2 : Ref sig .tc := ⟨.hbm, 199, rfl⟩
abbrev main_while0b_v126 : Ref sig .tc := ⟨.hbm, 200, rfl⟩
abbrev main_while0b_c_16 : Ref sig .tc := ⟨.hbm, 201, rfl⟩
abbrev main_while0b_v127 : Ref sig .tc := ⟨.hbm, 202, rfl⟩
abbrev main_v44 : Ref sig .tc := ⟨.hbm, 203, rfl⟩
abbrev main_v45 : Ref sig .tc := ⟨.hbm, 204, rfl⟩
abbrev main_v46 : Ref sig .tc := ⟨.hbm, 205, rfl⟩
abbrev main_v47 : Ref sig .tc := ⟨.hbm, 206, rfl⟩
abbrev main_v48 : Ref sig .tc := ⟨.hbm, 207, rfl⟩
abbrev main_v49 : Ref sig .tc := ⟨.hbm, 208, rfl⟩
abbrev main_v50 : Ref sig .tc := ⟨.hbm, 209, rfl⟩
abbrev main_v51 : Ref sig .tc := ⟨.hbm, 210, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S4x8192x1024 : Shape := ⟨3, ![4, 8192, 1024]⟩
abbrev S4x3x1024 : Shape := ⟨3, ![4, 3, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x3x1024 : Shape := ⟨3, ![1, 3, 1024]⟩
abbrev S1024x1408 : Shape := ⟨2, ![1024, 1408]⟩
abbrev S1408x1024 : Shape := ⟨2, ![1408, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x1408 : Shape := ⟨2, ![512, 1408]⟩

abbrev nBuf : Space → Nat
  | .hbm => 9
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x3x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1408x1024, .bf16⟩
  | .local _ .vmem, ⟨10, _⟩ => ⟨S1408x1024, .bf16⟩
  | .local _ .vmem, ⟨11, _⟩ => ⟨S1x512x1024, .f32⟩
  | .local _ .vmem, ⟨12, _⟩ => ⟨S1x512x1024, .f32⟩
  | .local _ .vmem, ⟨13, _⟩ => ⟨S512x1024, .bf16⟩
  | .local _ .vmem, ⟨14, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 16, 2], ![false, false, false]⟩

def k0_cond2 (i : grid0.Coords) : BitVec 1 :=
  let arg2 : BitVec 32 := BitVec.ofNat 32 (i 2).val
  let c1_i32 : BitVec 32 := 1#32
  let v28 : BitVec 1 := Scalar.cmpi .eq arg2 c1_i32
  let v29 : BitVec 32 := Scalar.extui v28
  let c0_i32_17 : BitVec 32 := 0#32
  let v30 : BitVec 1 := Scalar.cmpi .ne v29 c0_i32_17
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference2Ideal.lean ====
abbrev S4x8192x1024 : Shape := ⟨3, ![4, 8192, 1024]⟩
abbrev S4x3x1024 : Shape := ⟨3, ![4, 3, 1024]⟩
abbrev S1024 : Shape := ⟨1, ![1024]⟩
abbrev S1024x5632 : Shape := ⟨2, ![1024, 5632]⟩
abbrev S2816x1024 : Shape := ⟨2, ![2816, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩

abbrev nBuf : Space → Nat
  | .hbm => 51
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x3x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x5632, .f32⟩
  | .hbm, ⟨32, _⟩ => ⟨S4x8192x2816, .f32⟩
  | .hbm, ⟨33, _⟩ => ⟨S4x8192x2816, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x8192x2816, .f32⟩
  | .hbm, ⟨38, _⟩ => ⟨S4x8192x2816, .f32⟩
  | .hbm, ⟨39, _⟩ => ⟨S_, .f32⟩
  | .hbm, ⟨40, _⟩ => ⟨S4x8192x2816, .f32⟩
  | .hbm, ⟨41, _⟩ => ⟨S4x8192x2816, .f32⟩
  | .hbm, ⟨42, _⟩ => ⟨S_, .f32⟩
  | .hbm, ⟨43, _⟩ => ⟨S4x8192x2816, .f32⟩
  | .hbm, ⟨44, _⟩ => ⟨S4x8192x2816, .f32⟩
  | .hbm, ⟨45, _⟩ => ⟨S4x8192x2816, .f32⟩
  | .hbm, ⟨46, _⟩ => ⟨S4x8192x2816, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x3x1024 : Shape := ⟨3, ![4, 3, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x3x1024 : Shape := ⟨3, ![1, 3, 1024]⟩
abbrev S1024x1408 : Shape := ⟨2, ![1024, 1408]⟩
abbrev S1408x1024 : Shape := ⟨2, ![1408, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x1408 : Shape := ⟨2, ![512, 1408]⟩

abbrev nBuf : Space → Nat
  | .hbm => 11
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S4x3x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1408x1024, .bf16⟩
  | .local _ .vmem, ⟨10, _⟩ => ⟨S1408x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .bf16⟩
  | .local _ .vmem, ⟨15, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 16, 2], ![false, false, false]⟩

def k0_cond2 (i : grid0.Coords) : BitVec 1 :=
  let arg2 : BitVec 32 := BitVec.ofNat 32 (i 2).val
  let c1_i32 : BitVec 32 := 1#32
  let v28 : BitVec 1 := Scalar.cmpi .eq arg2 c1_i32
  let v29 : BitVec 32 := Scalar.extui v28
  let c0_i32_17 : BitVec 32 := 0#32
  let v30 : BitVec 1 := Scalar.cmpi .ne v29 c0_i32_17
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference3Ideal.lean ====
abbrev S4x8192x1024 : Shape := ⟨3, ![4, 8192, 1024]⟩
abbrev S4x3x1024 : Shape := ⟨3, ![4, 3, 1024]⟩
abbrev S1024 : Shape := ⟨1, ![1024]⟩
abbrev S1024x5632 : Shape := ⟨2, ![1024, 5632]⟩
abbrev S2816x1024 : Shape := ⟨2, ![2816, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩

abbrev nBuf : Space → Nat
  | .hbm => 68
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x3x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x5632, .f32⟩
  | .hbm, ⟨33, _⟩ => ⟨S4x8192x2816, .f32⟩
  | .hbm, ⟨34, _⟩ => ⟨S4x8192x2816, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x8192x2816, .f32⟩
  | .hbm, ⟨39, _⟩ => ⟨S4x8192x2816, .f32⟩
  | .hbm, ⟨40, _⟩ => ⟨S_, .f32⟩
  | .hbm, ⟨41, _⟩ => ⟨S4x8192x2816, .f32⟩
  | .hbm, ⟨42, _⟩ => ⟨S4x8192x2816, .f32⟩
  | .hbm, ⟨43, _⟩ => ⟨S_, .f32⟩
  | .hbm, ⟨44, _⟩ => ⟨S4x8192x2816, .f32⟩
  | .hbm, ⟨45, _⟩ => ⟨S4x8192x2816, .f32⟩
  | .hbm, ⟨46, _⟩ => ⟨S4x8192x2816, .f32⟩
  | .hbm, ⟨47, _⟩ => ⟨S4x8192x2816, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S_, .f32⟩
  | .hbm, ⟨54, _⟩ => ⟨S4x8192, .f32⟩
  | .hbm, ⟨55, _⟩ => ⟨S4x8192x1, .f32⟩
  | .hbm, ⟨56, _⟩ => ⟨S_, .f32⟩
  | .hbm, ⟨57, _⟩ => ⟨S4x8192x1, .f32⟩
  | .hbm, ⟨58, _⟩ => ⟨S4x8192x1, .f32⟩
  | .hbm, ⟨59, _⟩ => ⟨S_, .f32⟩
  | .hbm, ⟨60, _⟩ => ⟨S4x8192x1, .f32⟩
  | .hbm, ⟨61, _⟩ => ⟨S4x8192x1, .f32⟩
  | .hbm, ⟨62, _⟩ => ⟨S4x8192x1, .f32⟩
  | .hbm, ⟨63, _⟩ => ⟨S4x8192x1024, .f32⟩
  | .hbm, ⟨64, _⟩ => ⟨S4x8192x1024, .f32⟩
  | .hbm, ⟨65, _⟩ => ⟨S1x1x1024, .f32⟩
  | .hbm, ⟨66, _⟩ => ⟨S4x8192x1024, .f32⟩
  | .hbm, ⟨67, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== Kernel4.lean ====
abbrev S4x8192x1024 : Shape := ⟨3, ![4, 8192, 1024]⟩
abbrev S8192x1024 : Shape := ⟨2, ![8192, 1024]⟩
abbrev S4x3x1024 : Shape := ⟨3, ![4, 3, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S512x1024 : Shape := ⟨2, ![512, 1024]⟩
abbrev S1x3x1024 : Shape := ⟨3, ![1, 3, 1024]⟩
abbrev S1024x1408 : Shape := ⟨2, ![1024, 1408]⟩
abbrev S1408x1024 : Shape := ⟨2, ![1408, 1024]⟩
abbrev S1x1x1024 : Shape := ⟨3, ![1, 1, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S4x3x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x3x1024, .f32⟩
  | .local _ .vmem, ⟨5, _⟩ => ⟨S1x3x1024, .f32⟩
  | .local _ .vmem, ⟨6, _⟩ => ⟨S1x1024, .f32⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1408x1024, .bf16⟩
  | .local _ .vmem, ⟨12, _⟩ => ⟨S1408x1024, .bf16⟩
  | .local _ .vmem, ⟨13, _⟩ => ⟨S1x512x1024, .f32⟩
  | .local _ .vmem, ⟨14, _⟩ => ⟨S1x512x1024, .f32⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 16, 2], ![false, false, false]⟩

def k0_cond2 (i : grid0.Coords) : BitVec 1 :=
  let arg2 : BitVec 32 := BitVec.ofNat 32 (i 2).val
  let c1_i32 : BitVec 32 := 1#32
  let v28 : BitVec 1 := Scalar.cmpi .eq arg2 c1_i32
  let v29 : BitVec 32 := Scalar.extui v28
  let c0_i32_17 : BitVec 32 := 0#32
  let v30 : BitVec 1 := Scalar.cmpi .ne v29 c0_i32_17
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference4Ideal.lean ====
abbrev S4x8192x1024 : Shape := ⟨3, ![4, 8192, 1024]⟩
abbrev S8192x1024 : Shape := ⟨2, ![8192, 1024]⟩
abbrev S4x3x1024 : Shape := ⟨3, ![4, 3, 1024]⟩
abbrev S1024 : Shape := ⟨1, ![1024]⟩
abbrev S1024x5632 : Shape := ⟨2, ![1024, 5632]⟩
abbrev S2816x1024 : Shape := ⟨2, ![2816, 1024]⟩
abbrev S1x8192x1024 : Shape := ⟨3, ![1, 8192, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S4x3x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1x8192x1024, .f32⟩
  | .hbm, ⟨7, _⟩ => ⟨S4x8192x1024, .f32⟩
  | .hbm, ⟨8, _⟩ => ⟨S4x8192x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x5632, .f32⟩
  | .hbm, ⟨36, _⟩ => ⟨S4x8192x2816, .f32⟩
  | .hbm, ⟨37, _⟩ => ⟨S4x8192x2816, .f32⟩
  | .hbm, ⟨38, _⟩ => ⟨S_, .f32⟩
  | .hbm, ⟨39, _⟩ => ⟨S4x1x1024, .f32⟩
  | .hbm, ⟨40, _⟩ => ⟨S4x1x1024, .f32⟩
  | .hbm, ⟨41, _⟩ => ⟨S4x8192x2816, .f32⟩
  | .hbm, ⟨42, _⟩ => ⟨S4x8192x2816, .f32⟩
  | .hbm, ⟨43, _⟩ => ⟨S_, .f32⟩
  | .hbm, ⟨44, _⟩ => ⟨S4x8192x2816, .f32⟩
  | .hbm, ⟨45, _⟩ => ⟨S4x8192x2816, .f32⟩
  | .hbm, ⟨46, _⟩ => ⟨S_, .f32⟩
  | .hbm, ⟨47, _⟩ => ⟨S4x8192x2816, .f32⟩
  | .hbm, ⟨48, _⟩ => ⟨S4x8192x2816, .f32⟩
  | .hbm, ⟨49, _⟩ => ⟨S4x8192x2816, .f32⟩
  | .hbm, ⟨50, _⟩ => ⟨S4x8192x2816, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x1x1024 : Shape := ⟨3, ![4, 1, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x1x1024, .f32⟩
  | .hbm, ⟨3, _⟩ => ⟨S1024x1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4x8192x1024 : Shape := ⟨3, ![4, 8192, 1024]⟩
abbrev S4x1x1024 : Shape := ⟨3, ![4, 1, 1024]⟩
abbrev S1024x1024 : Shape := ⟨2, ![1024, 1024]⟩
abbrev S1024 : Shape := ⟨1, ![1024]⟩
abbrev S1x1x1024 : Shape := ⟨3, ![1, 1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x1x1024, .f32⟩
  | .hbm, ⟨3, _⟩ => ⟨S1024x1024, .f32⟩
  | .hbm, ⟨4, _⟩ => ⟨S1024, .f32⟩
  | .hbm, ⟨5, _⟩ => ⟨S4x8192x1024, .f32⟩
  | .hbm, ⟨6, _⟩ => ⟨S1x1x1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel6.lean ====
abbrev S2x4x8192x2048 : Shape := ⟨4, ![2, 4, 8192, 2048]⟩
abbrev S4x8192x2048 : Shape := ⟨3, ![4, 8192, 2048]⟩
abbrev S4x8192x1024 : Shape := ⟨3, ![4, 8192, 1024]⟩
abbrev S4x1x1024 : Shape := ⟨3, ![4, 1, 1024]⟩
abbrev S2048 : Shape := ⟨1, ![2048]⟩
abbrev S2048x1024 : Shape := ⟨2, ![2048, 1024]⟩
abbrev S1x2048 : Shape := ⟨2, ![1, 2048]⟩
abbrev S1x1x256x2048 : Shape := ⟨4, ![1, 1, 256, 2048]⟩
abbrev S1x256x2048 : Shape := ⟨3, ![1, 256, 2048]⟩
abbrev S1x256x1024 : Shape := ⟨3, ![1, 256, 1024]⟩
abbrev S1x1x1024 : Shape := ⟨3, ![1, 1, 1024]⟩
abbrev S256x1024 : Shape := ⟨2, ![256, 1024]⟩
abbrev S1x1x256x512 : Shape := ⟨4, ![1, 1, 256, 512]⟩
abbrev S256x512 : Shape := ⟨2, ![256, 512]⟩
abbrev S256 : Shape := ⟨1, ![256]⟩
abbrev S256x1 : Shape := ⟨2, ![256, 1]⟩
abbrev S1x512 : Shape := ⟨2, ![1, 512]⟩
abbrev S1x256x512 : Shape := ⟨3, ![1, 256, 512]⟩
abbrev S512x1024 : Shape := ⟨2, ![512, 1024]⟩
abbrev S1x1024 : Shape := ⟨2, ![1, 1024]⟩

abbrev nBuf : Space → Nat
  | .hbm => 12
  | .vmem => 17
  | .smem => 0
  | _ => 0

abbrev bufTy : (tb : Table) → Fin (tcTables nBuf tb) → BufTy
  | .hbm, ⟨0, _⟩ => ⟨S2x4x8192x2048, .f32⟩
  | .hbm, ⟨1, _⟩ => ⟨S4x8192x2048, .f32⟩
  | .hbm, ⟨2, _⟩ => ⟨S4x8192x2048, .f32⟩
  | .hbm, ⟨3, _⟩ => ⟨S4x8192x1024, .f32⟩
  | .hbm, ⟨4, _⟩ => ⟨S4x1x1024, .f32⟩
  | .hbm, ⟨5, _⟩ => ⟨S2048, .f32⟩
  | .hbm, ⟨6, _⟩ => ⟨S2048, .f32⟩
  | .hbm, ⟨7, _⟩ => ⟨S2048x1024, .f32⟩
  | .hbm, ⟨8, _⟩ => ⟨S2048x1024, .bf16⟩
  | .hbm, ⟨9, _⟩ => ⟨S1x2048, .f32⟩
  | .hbm, ⟨10, _⟩ => ⟨S1x2048, .f32⟩
  | .hbm, ⟨11, _⟩ => ⟨S4x8192x1024, .f32⟩
  | .local _ .vmem, ⟨0, _⟩ => ⟨S1x1x256x2048, .f32⟩
  | .local _ .vmem, ⟨1, _⟩ => ⟨S1x1x256x2048, .f32⟩
  | .local _ .vmem, ⟨2, _⟩ => ⟨S1x1x256x2048, .f32⟩
  | .local _ .vmem, ⟨3, _⟩ => ⟨S1x1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x1024, .f32⟩
  | .local _ .vmem, ⟨9, _⟩ => ⟨S1x256x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x2048, .f32⟩
  | .local _ .vmem, ⟨13, _⟩ => ⟨S1x2048, .f32⟩
  | .local _ .vmem, ⟨14, _⟩ => ⟨S2048x1024, .bf16⟩
  | .local _ .vmem, ⟨15, _⟩ => ⟨S1x256x1024, .f32⟩
  | .local _ .vmem, ⟨16, _⟩ => ⟨S1x256x1024, .f32⟩
  | _, _ => ⟨S2x4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S2x4x8192x2048 : Shape := ⟨4, ![2, 4, 8192, 2048]⟩
abbrev S4x8192x2048 : Shape := ⟨3, ![4, 8192, 2048]⟩
abbrev S4x8192x1024 : Shape := ⟨3, ![4, 8192, 1024]⟩
abbrev S4x1x1024 : Shape := ⟨3, ![4, 1, 1024]⟩
abbrev S2048 : Shape := ⟨1, ![2048]⟩
abbrev S2048x1024 : Shape := ⟨2, ![2048, 1024]⟩
abbrev S1x4x8192x2048 : Shape := ⟨4, ![1, 4, 8192, 2048]⟩
abbrev S4x8192x4x512 : Shape := ⟨4, ![4, 8192, 4, 512]⟩
abbrev S_ : Shape := ⟨0, ![]⟩
abbrev S4x8192x4 : Shape := ⟨3, ![4, 8192, 4]⟩
abbrev S4x8192x4x1 : Shape := ⟨4, ![4, 8192, 4, 1]⟩
abbrev S1x1x2048 : Shape := ⟨3, ![1, 1, 2048]⟩

abbrev nBuf : Space → Nat
  | .hbm => 59
  | .vmem => 0
  | .smem => 0
  | _ => 0

abbrev bufTy : (tb : Table) → Fin (tcTables nBuf tb) → BufTy
  | .hbm, ⟨0, _⟩ => ⟨S2x4x8192x2048, .f32⟩
  | .hbm, ⟨1, _⟩ => ⟨S4x8192x2048, .f32⟩
  | .hbm, ⟨2, _⟩ => ⟨S4x8192x2048, .f32⟩
  | .hbm, ⟨3, _⟩ => ⟨S4x8192x1024, .f32⟩
  | .hbm, ⟨4, _⟩ => ⟨S4x1x1024, .f32⟩
  | .hbm, ⟨5, _⟩ => ⟨S2048, .f32⟩
  | .hbm, ⟨6, _⟩ => ⟨S2048, .f32⟩
  | .hbm, ⟨7, _⟩ => ⟨S2048x1024, .f32⟩
  | .hbm, ⟨8, _⟩ => ⟨S1x4x8192x2048, .f32⟩
  | .hbm, ⟨9, _⟩ => ⟨S4x8192x2048, .f32⟩
  | .hbm, ⟨10, _⟩ => ⟨S1x4x8192x2048, .f32⟩
  | .hbm, ⟨11, _⟩ => ⟨S4x8192x2048, .f32⟩
  | .hbm, ⟨12, _⟩ => ⟨S4x8192x2048, .f32⟩
  | .hbm, ⟨13, _⟩ => ⟨S4x8192x4x512, .f32⟩
  | .hbm, ⟨14, _⟩ => ⟨S_, .f32⟩
  | .hbm, ⟨15, _⟩ => ⟨S4x8192x4, .f32⟩
  | .hbm, ⟨16, _⟩ => ⟨S4x8192x4x1, .f32⟩
  | .hbm, ⟨17, _⟩ => ⟨S_, .f32⟩
  | .hbm, ⟨18, _⟩ => ⟨S4x8192x4x1, .f32⟩
  | .hbm, ⟨19, _⟩ => ⟨S4x8192x4x1, .f32⟩
  | .hbm, ⟨20, _⟩ => ⟨S4x8192x4x512, .f32⟩
  | .hbm, ⟨21, _⟩ => ⟨S4x8192x4x512, .f32⟩
  | .hbm, ⟨22, _⟩ => ⟨S4x8192x4x512, .f32⟩
  | .hbm, ⟨23, _⟩ => ⟨S_, .f32⟩
  | .hbm, ⟨24, _⟩ => ⟨S4x8192x4, .f32⟩
  | .hbm, ⟨25, _⟩ => ⟨S4x8192x4x1, .f32⟩
  | .hbm, ⟨26, _⟩ => ⟨S_, .f32⟩
  | .hbm, ⟨27, _⟩ => ⟨S4x8192x4x1, .f32⟩
  | .hbm, ⟨28, _⟩ => ⟨S4x8192x4x1, .f32⟩
  | .hbm, ⟨29, _⟩ => ⟨S4x8192x4x512, .f32⟩
  | .hbm, ⟨30, _⟩ => ⟨S4x8192x4x512, .f32⟩
  | .hbm, ⟨31, _⟩ => ⟨S_, .f32⟩
  | .hbm, ⟨32, _⟩ => ⟨S4x8192x4x1, .f32⟩
  | .hbm, ⟨33, _⟩ => ⟨S4x8192x4x1, .f32⟩
  | .hbm, ⟨34, _⟩ => ⟨S4x8192x4x1, .f32⟩
  | .hbm, ⟨35, _⟩ => ⟨S4x8192x4x512, .f32⟩
  | .hbm, ⟨36, _⟩ => ⟨S4x8192x4x512, .f32⟩
  | .hbm, ⟨37, _⟩ => ⟨S4x8192x2048, .f32⟩
  | .hbm, ⟨38, _⟩ => ⟨S1x1x2048, .f32⟩
  | .hbm, ⟨39, _⟩ => ⟨S4x8192x2048, .f32⟩
  | .hbm, ⟨40, _⟩ => ⟨S4x8192x2048, .f32⟩
  | .hbm, ⟨41, _⟩ => ⟨S1x1x2048, .f32⟩
  | .hbm, ⟨42, _⟩ => ⟨S4x8192x2048, .f32⟩
  | .hbm, ⟨43, _⟩ => ⟨S4x8192x2048, .f32⟩
  | .hbm, ⟨44, _⟩ => ⟨S4x8192x2048, .f32⟩
  | .hbm, ⟨45, _⟩ => ⟨S4x8192x2048, .f32⟩
  | .hbm, ⟨46, _⟩ => ⟨S4x8192x2048, .f32⟩
  | .hbm, ⟨47, _⟩ => ⟨S_, .f32⟩
  | .hbm, ⟨48, _⟩ => ⟨S4x8192x2048, .f32⟩
  | .hbm, ⟨49, _⟩ => ⟨S4x8192x2048, .f32⟩
  | .hbm, ⟨50, _⟩ => ⟨S_, .f32⟩
  | .hbm, ⟨51, _⟩ => ⟨S4x8192x2048, .f32⟩
  | .hbm, ⟨52, _⟩ => ⟨S4x8192x2048, .f32⟩
  | .hbm, ⟨53, _⟩ => ⟨S4x8192x2048, .f32⟩
  | .hbm, ⟨54, _⟩ => ⟨S4x8192x2048, .f32⟩
  | .hbm, ⟨55, _⟩ => ⟨S4x8192x1024, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | _, _ => ⟨S2x4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel7.lean ====
abbrev S4x8192x1024 : Shape := ⟨3, ![4, 8192, 1024]⟩
abbrev S4x3x1024 : Shape := ⟨3, ![4, 3, 1024]⟩
abbrev S1024 : Shape := ⟨1, ![1024]⟩
abbrev S1024x3072 : Shape := ⟨2, ![1024, 3072]⟩
abbrev S3072 : Shape := ⟨1, ![3072]⟩
abbrev S3x3072 : Shape := ⟨2, ![3, 3072]⟩
abbrev S1x1024 : Shape := ⟨2, ![1, 1024]⟩
abbrev S1x3072 : Shape := ⟨2, ![1, 3072]⟩
abbrev S4x8192x3072 : Shape := ⟨3, ![4, 8192, 3072]⟩
abbrev S1x8x1024 : Shape := ⟨3, ![1, 8, 1024]⟩
abbrev S1x512x1024 : Shape := ⟨3, ![1, 512, 1024]⟩
abbrev S1x3x1024 : Shape := ⟨3, ![1, 3, 1024]⟩
abbrev S1x512x3072 : Shape := ⟨3, ![1, 512, 3072]⟩
abbrev S8x1024 : Shape := ⟨2, ![8, 1024]⟩
abbrev S512x1024 : Shape := ⟨2, ![512, 1024]⟩
abbrev S528x1024 : Shape := ⟨2, ![528, 1024]⟩
abbrev S1x1x1024 : Shape := ⟨3, ![1, 1, 1024]⟩
abbrev S528 : Shape := ⟨1, ![528]⟩
abbrev S528x1 : Shape := ⟨2, ![528, 1]⟩
abbrev S528x3072 : Shape := ⟨2, ![528, 3072]⟩
abbrev S512x3072 : Shape := ⟨2, ![512, 3072]⟩

abbrev nBuf : Space → Nat
  | .hbm => 12
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x3x1024, .f32⟩
  | .hbm, ⟨2, _⟩ => ⟨S1024, .f32⟩
  | .hbm, ⟨3, _⟩ => ⟨S1024x3072, .f32⟩
  | .hbm, ⟨4, _⟩ => ⟨S3072, .f32⟩
  | .hbm, ⟨5, _⟩ => ⟨S3x3072, .f32⟩
  | .hbm, ⟨6, _⟩ => ⟨S3072, .f32⟩
  | .hbm, ⟨7, _⟩ => ⟨S1024x3072, .bf16⟩
  | .hbm, ⟨8, _⟩ => ⟨S1x1024, .f32⟩
  | .hbm, ⟨9, _⟩ => ⟨S1x3072, .f32⟩
  | .hbm, ⟨10, _⟩ => ⟨S1x3072, .f32⟩
  | .hbm, ⟨11, _⟩ => ⟨S4x8192x3072, .f32⟩
  | .local _ .vmem, ⟨0, _⟩ => ⟨S1x8x1024, .f32⟩
  | .local _ .vmem, ⟨1, _⟩ => ⟨S1x8x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x3x1024, .f32⟩
  | .local _ .vmem, ⟨7, _⟩ => ⟨S1x3x1024, .f32⟩
  | .local _ .vmem, ⟨8, _⟩ => ⟨S1x1024, .f32⟩
  | .local _ .vmem, ⟨9, _⟩ => ⟨S1024x3072, .bf16⟩
  | .local _ .vmem, ⟨10, _⟩ => ⟨S1x3072, .f32⟩
  | .local _ .vmem, ⟨11, _⟩ => ⟨S3x3072, .f32⟩
  | .local _ .vmem, ⟨12, _⟩ => ⟨S1x3072, .f32⟩
  | .local _ .vmem, ⟨13, _⟩ => ⟨S1x512x3072, .f32⟩
  | .local _ .vmem, ⟨14, _⟩ => ⟨S1x512x3072, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference7Ideal.lean ====
abbrev S4x8192x1024 : Shape := ⟨3, ![4, 8192, 1024]⟩
abbrev S4x3x1024 : Shape := ⟨3, ![4, 3, 1024]⟩
abbrev S1024 : Shape := ⟨1, ![1024]⟩
abbrev S1024x3072 : Shape := ⟨2, ![1024, 3072]⟩
abbrev S3072 : Shape := ⟨1, ![3072]⟩
abbrev S3x3072 : Shape := ⟨2, ![3, 3072]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S1x1x3072 : Shape := ⟨3, ![1, 1, 3072]⟩
abbrev S4x8194x3072 : Shape := ⟨3, ![4, 8194, 3072]⟩
abbrev S1x3072 : Shape := ⟨2, ![1, 3072]⟩

abbrev nBuf : Space → Nat
  | .hbm => 65
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x3x1024, .f32⟩
  | .hbm, ⟨2, _⟩ => ⟨S1024, .f32⟩
  | .hbm, ⟨3, _⟩ => ⟨S1024x3072, .f32⟩
  | .hbm, ⟨4, _⟩ => ⟨S3072, .f32⟩
  | .hbm, ⟨5, _⟩ => ⟨S3x3072, .f32⟩
  | .hbm, ⟨6, _⟩ => ⟨S3072, .f32⟩
  | .hbm, ⟨7, _⟩ => ⟨S4x1x1024, .f32⟩
  | .hbm, ⟨8, _⟩ => ⟨S4x1x1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x3072, .f32⟩
  | .hbm, ⟨33, _⟩ => ⟨S1x1x3072, .f32⟩
  | .hbm, ⟨34, _⟩ => ⟨S4x8192x3072, .f32⟩
  | .hbm, ⟨35, _⟩ => ⟨S4x8192x3072, .f32⟩
  | .hbm, ⟨36, _⟩ => ⟨S_, .i32⟩
  | .hbm, ⟨37, _⟩ => ⟨S_, .f32⟩
  | .hbm, ⟨38, _⟩ => ⟨S4x8194x3072, .f32⟩
  | .hbm, ⟨39, _⟩ => ⟨S4x8192x3072, .f32⟩
  | .hbm, ⟨40, _⟩ => ⟨S1x3072, .f32⟩
  | .hbm, ⟨41, _⟩ => ⟨S3072, .f32⟩
  | .hbm, ⟨42, _⟩ => ⟨S1x1x3072, .f32⟩
  | .hbm, ⟨43, _⟩ => ⟨S4x8192x3072, .f32⟩
  | .hbm, ⟨44, _⟩ => ⟨S4x8192x3072, .f32⟩
  | .hbm, ⟨45, _⟩ => ⟨S_, .f32⟩
  | .hbm, ⟨46, _⟩ => ⟨S4x8192x3072, .f32⟩
  | .hbm, ⟨47, _⟩ => ⟨S4x8192x3072, .f32⟩
  | .hbm, ⟨48, _⟩ => ⟨S4x8192x3072, .f32⟩
  | .hbm, ⟨49, _⟩ => ⟨S1x3072, .f32⟩
  | .hbm, ⟨50, _⟩ => ⟨S3072, .f32⟩
  | .hbm, ⟨51, _⟩ => ⟨S1x1x3072, .f32⟩
  | .hbm, ⟨52, _⟩ => ⟨S4x8192x3072, .f32⟩
  | .hbm, ⟨53, _⟩ => ⟨S4x8192x3072, .f32⟩
  | .hbm, ⟨54, _⟩ => ⟨S4x8192x3072, .f32⟩
  | .hbm, ⟨55, _⟩ => ⟨S4x8192x3072, .f32⟩
  | .hbm, ⟨56, _⟩ => ⟨S1x3072, .f32⟩
  | .hbm, ⟨57, _⟩ => ⟨S3072, .f32⟩
  | .hbm, ⟨58, _⟩ => ⟨S1x1x3072, .f32⟩
  | .hbm, ⟨59, _⟩ => ⟨S4x8192x3072, .f32⟩
  | .hbm, ⟨60, _⟩ => ⟨S4x8192x3072, .f32⟩
  | .hbm, ⟨61, _⟩ => ⟨S4x8192x3072, .f32⟩
  | .hbm, ⟨62, _⟩ => ⟨S1x1x3072, .f32⟩
  | .hbm, ⟨63, _⟩ => ⟨S4x8192x3072, .f32⟩
  | .hbm, ⟨64, _⟩ => ⟨S4x8192x3072, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_call0_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Kernel8.lean ====
abbrev S4x8192x1024 : Shape := ⟨3, ![4, 8192, 1024]⟩
abbrev S4x3x1024 : Shape := ⟨3, ![4, 3, 1024]⟩
abbrev S1024 : Shape := ⟨1, ![1024]⟩
abbrev S1024x4096 : Shape := ⟨2, ![1024, 4096]⟩
abbrev S3x2048 : Shape := ⟨2, ![3, 2048]⟩
abbrev S2048 : Shape := ⟨1, ![2048]⟩
abbrev S512x4x4 : Shape := ⟨3, ![512, 4, 4]⟩
abbrev S6144x16 : Shape := ⟨2, ![6144, 16]⟩
abbrev S16 : Shape := ⟨1, ![16]⟩
abbrev S64x64 : Shape := ⟨2, ![64, 64]⟩
abbrev S_ : Shape := ⟨0, ![]⟩
abbrev S8x64x4x1x4 : Shape := ⟨5, ![8, 64, 4, 1, 4]⟩
abbrev S1x64x1x64x1 : Shape := ⟨5, ![1, 64, 1, 64, 1]⟩
abbrev S8x64x4x64x4 : Shape := ⟨5, ![8, 64, 4, 64, 4]⟩
abbrev S8x256x256 : Shape := ⟨3, ![8, 256, 256]⟩
abbrev S1x1024 : Shape := ⟨2, ![1, 1024]⟩
abbrev S1x2048 : Shape := ⟨2, ![1, 2048]⟩
abbrev S1x16 : Shape := ⟨2, ![1, 16]⟩
abbrev S4x8192x2048 : Shape := ⟨3, ![4, 8192, 2048]⟩
abbrev S4x8192x16 : Shape := ⟨3, ![4, 8192, 16]⟩
abbrev S1x8x1024 : Shape := ⟨3, ![1, 8, 1024]⟩
abbrev S1x256x1024 : Shape := ⟨3, ![1, 256, 1024]⟩
abbrev S1x3x1024 : Shape := ⟨3, ![1, 3, 1024]⟩
abbrev S1x256x2048 : Shape := ⟨3, ![1, 256, 2048]⟩
abbrev S1x256x16 : Shape := ⟨3, ![1, 256, 16]⟩
abbrev S8x1024 : Shape := ⟨2, ![8, 1024]⟩
abbrev S256x1024 : Shape := ⟨2, ![256, 1024]⟩
abbrev S272x1024 : Shape := ⟨2, ![272, 1024]⟩
abbrev S1x1x1024 : Shape := ⟨3, ![1, 1, 1024]⟩
abbrev S272 : Shape := ⟨1, ![272]⟩
abbrev S272x1 : Shape := ⟨2, ![272, 1]⟩
abbrev S272x4096 : Shape := ⟨2, ![272, 4096]⟩
abbrev S272x2048 : Shape := ⟨2, ![272, 2048]⟩
abbrev S256x2048 : Shape := ⟨2, ![256, 2048]⟩
abbrev S256x16 : Shape := ⟨2, ![256, 16]⟩
abbrev S256x256 : Shape := ⟨2, ![256, 256]⟩
abbrev S1x256x256 : Shape := ⟨3, ![1, 256, 256]⟩

abbrev nBuf : Space → Nat
  | .hbm => 64
  | .vmem => 29
  | .smem => 0
  | _ => 0

abbrev bufTy : (tb : Table) → Fin (tcTables nBuf tb) → BufTy
  | .hbm, ⟨0, _⟩ => ⟨S4x8192x1024, .f32⟩
  | .hbm, ⟨1, _⟩ => ⟨S4x3x1024, .f32⟩
  | .hbm, ⟨2, _⟩ => ⟨S1024, .f32⟩
  | .hbm, ⟨3, _⟩ => ⟨S1024x4096, .f32⟩
  | .hbm, ⟨4, _⟩ => ⟨S3x2048, .f32⟩
  | .hbm, ⟨5, _⟩ => ⟨S2048, .f32⟩
  | .hbm, ⟨6, _⟩ => ⟨S512x4x4, .f32⟩
  | .hbm, ⟨7, _⟩ => ⟨S512x4x4, .f32⟩
  | .hbm, ⟨8, _⟩ => ⟨S512x4x4, .f32⟩
  | .hbm, ⟨9, _⟩ => ⟨S6144x16, .f32⟩
  | .hbm, ⟨10, _⟩ => ⟨S16, .f32⟩
  | .hbm, ⟨11, _⟩ => ⟨S1024x4096, .bf16⟩
  | .hbm, ⟨12, _⟩ => ⟨S64x64, .i32⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S64x64, .i1⟩
  | .hbm, ⟨18, _⟩ => ⟨S64x64, .f32⟩
  | .hbm, ⟨19, _⟩ => ⟨S8x64x4x1x4, .f32⟩
  | .hbm, ⟨20, _⟩ => ⟨S1x64x1x64x1, .f32⟩
  | .hbm, ⟨21, _⟩ => ⟨S8x64x4x64x4, .f32⟩
  | .hbm, ⟨22, _⟩ => ⟨S8x64x4x64x4, .f32⟩
  | .hbm, ⟨23, _⟩ => ⟨S8x64x4x64x4, .f32⟩
  | .hbm, ⟨24, _⟩ => ⟨S8x256x256, .f32⟩
  | .hbm, ⟨25, _⟩ => ⟨S8x256x256, .bf16⟩
  | .hbm, ⟨26, _⟩ => ⟨S64x64, .i32⟩
  | .hbm, ⟨27, _⟩ => ⟨S64x64, .i32⟩
  | .hbm, ⟨28, _⟩ => ⟨S_, .i32⟩
  | .hbm, ⟨29, _⟩ => ⟨S64x64, .i32⟩
  | .hbm, ⟨30, _⟩ => ⟨S64x64, .i32⟩
  | .hbm, ⟨31, _⟩ => ⟨S64x64, .i1⟩
  | .hbm, ⟨32, _⟩ => ⟨S64x64, .f32⟩
  | .hbm, ⟨33, _⟩ => ⟨S8x64x4x1x4, .f32⟩
  | .hbm, ⟨34, _⟩ => ⟨S1x64x1x64x1, .f32⟩
  | .hbm, ⟨35, _⟩ => ⟨S8x64x4x64x4, .f32⟩
  | .hbm, ⟨36, _⟩ => ⟨S8x64x4x64x4, .f32⟩
  | .hbm, ⟨37, _⟩ => ⟨S8x64x4x64x4, .f32⟩
  | .hbm, ⟨38, _⟩ => ⟨S8x256x256, .f32⟩
  | .hbm, ⟨39, _⟩ => ⟨S8x256x256, .bf16⟩
  | .hbm, ⟨40, _⟩ => ⟨S64x64, .i32⟩
  | .hbm, ⟨41, _⟩ => ⟨S64x64, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S64x64, .i1⟩
  | .hbm, ⟨46, _⟩ => ⟨S64x64, .f32⟩
  | .hbm, ⟨47, _⟩ => ⟨S8x64x4x1x4, .f32⟩
  | .hbm, ⟨48, _⟩ => ⟨S1x64x1x64x1, .f32⟩
  | .hbm, ⟨49, _⟩ => ⟨S8x64x4x64x4, .f32⟩
  | .hbm, ⟨50, _⟩ => ⟨S8x64x4x64x4, .f32⟩
  | .hbm, ⟨51, _⟩ => ⟨S8x64x4x64x4, .f32⟩
  | .hbm, ⟨52, _⟩ => ⟨S8x256x256, .f32⟩
  | .hbm, ⟨53, _⟩ => ⟨S8x256x256, .bf16⟩
  | .hbm, ⟨54, _⟩ => ⟨S6144x16, .bf16⟩
  | .hbm, ⟨55, _⟩ => ⟨S1x1024, .f32⟩
  | .hbm, ⟨56, _⟩ => ⟨S1x2048, .f32⟩
  | .hbm, ⟨57, _⟩ => ⟨S1x16, .f32⟩
  | .hbm, ⟨58, _⟩ => ⟨S4x8192x2048, .f32⟩
  | .hbm, ⟨59, _⟩ => ⟨S4x8192x2048, .f32⟩
  | .hbm, ⟨60, _⟩ => ⟨S4x8192x2048, .f32⟩
  | .hbm, ⟨61, _⟩ => ⟨S4x8192x2048, .f32⟩
  | .hbm, ⟨62, _⟩ => ⟨S4x8192x2048, .f32⟩
  | .hbm, ⟨63, _⟩ => ⟨S4x8192x16, .f32⟩
  | .local _ .vmem, ⟨0, _⟩ => ⟨S1x8x1024, .f32⟩
  | .local _ .vmem, ⟨1, _⟩ => ⟨S1x8x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x3x1024, .f32⟩
  | .local _ .vmem, ⟨7, _⟩ => ⟨S1x3x1024, .f32⟩
  | .local _ .vmem, ⟨8, _⟩ => ⟨S1x1024, .f32⟩
  | .local _ .vmem, ⟨9, _⟩ => ⟨S1024x4096, .bf16⟩
  | .local _ .vmem, ⟨10, _⟩ => ⟨S3x2048, .f32⟩
  | .local _ .vmem, ⟨11, _⟩ => ⟨S1x2048, .f32⟩
  | .local _ .vmem, ⟨12, _⟩ => ⟨S8x256x256, .bf16⟩
  | .local _ .vmem, ⟨13, _⟩ => ⟨S8x256x256, .bf16⟩
  | .local _ .vmem, ⟨14, _⟩ => ⟨S8x256x256, .bf16⟩
  | .local _ .vmem, ⟨15, _⟩ => ⟨S6144x16, .bf16⟩
  | .local _ .vmem, ⟨16, _⟩ => ⟨S1x16, .f32⟩
  | .local _ .vmem, ⟨17, _⟩ => ⟨S1x256x2048, .f32⟩
  | .local _ .vmem, ⟨18, _⟩ => ⟨S1x256x2048, .f32⟩
  | .local _ .vmem, ⟨19, _⟩ => ⟨S1x256x2048, .f32⟩
  | .local _ .vmem, ⟨20, _⟩ => ⟨S1x256x2048, .f32⟩
  | .local _ .vmem, ⟨21, _⟩ => ⟨S1x256x2048, .f32⟩
  | .local _ .vmem, ⟨22, _⟩ => ⟨S1x256x2048, .f32⟩
  | .local _ .vmem, ⟨23, _⟩ => ⟨S1x256x2048, .f32⟩
  | .local _ .vmem, ⟨24, _⟩ => ⟨S1x256x2048, .f32⟩
  | .local _ .vmem, ⟨25, _⟩ => ⟨S1x256x2048, .f32⟩
  | .local _ .vmem, ⟨26, _⟩ => ⟨S1x256x2048, .f32⟩
  | .local _ .vmem, ⟨27, _⟩ => ⟨S1x256x16, .f32⟩
  | .local _ .vmem, ⟨28, _⟩ => ⟨S1x256x16, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44_0 : Ref sig .tc := ⟨.hbm, 58, rfl⟩
abbrev main_v44_1 : Ref sig .tc := ⟨.hbm, 59, rfl⟩
abbrev main_v44_2 : Ref sig .tc := ⟨.hbm, 60, rfl⟩
abbrev main_v44_3 : Ref sig .tc := ⟨.hbm, 61, rfl⟩
abbrev main_v44_4 : Ref sig .tc := ⟨.hbm, 62, rfl⟩
abbrev main_v44_5 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S6144x16 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x16 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Kernel8Ideal.lean ====
variable {F : FTy → Type} [FloatOps F] [Named F]
def κ : String → Option EReal := fun
  | "k_scale" => some (((Real.sqrt 512)⁻¹ : ℝ) : EReal)
  | _ => none
-- ==== Reference8Ideal.lean ====
abbrev S4x8192x1024 : Shape := ⟨3, ![4, 8192, 1024]⟩
abbrev S4x3x1024 : Shape := ⟨3, ![4, 3, 1024]⟩
abbrev S1024 : Shape := ⟨1, ![1024]⟩
abbrev S1024x4096 : Shape := ⟨2, ![1024, 4096]⟩
abbrev S3x2048 : Shape := ⟨2, ![3, 2048]⟩
abbrev S2048 : Shape := ⟨1, ![2048]⟩
abbrev S512x4x4 : Shape := ⟨3, ![512, 4, 4]⟩
abbrev S6144x16 : Shape := ⟨2, ![6144, 16]⟩
abbrev S16 : Shape := ⟨1, ![16]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S4x8192x2048 : Shape := ⟨3, ![4, 8192, 2048]⟩
abbrev S4x8194x2048 : Shape := ⟨3, ![4, 8194, 2048]⟩
abbrev S1x2048 : Shape := ⟨2, ![1, 2048]⟩
abbrev S1x1x2048 : Shape := ⟨3, ![1, 1, 2048]⟩
abbrev S4x8192x512x4 : Shape := ⟨4, ![4, 8192, 512, 4]⟩
abbrev S512x4x4x8192 : Shape := ⟨4, ![512, 4, 4, 8192]⟩
abbrev S4x8192x6144 : Shape := ⟨3, ![4, 8192, 6144]⟩
abbrev S4x8192x16 : Shape := ⟨3, ![4, 8192, 16]⟩
abbrev S1x1x16 : Shape := ⟨3, ![1, 1, 16]⟩

abbrev nBuf : Space → Nat
  | .hbm => 98
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x3x1024, .f32⟩
  | .hbm, ⟨2, _⟩ => ⟨S1024, .f32⟩
  | .hbm, ⟨3, _⟩ => ⟨S1024x4096, .f32⟩
  | .hbm, ⟨4, _⟩ => ⟨S3x2048, .f32⟩
  | .hbm, ⟨5, _⟩ => ⟨S2048, .f32⟩
  | .hbm, ⟨6, _⟩ => ⟨S512x4x4, .f32⟩
  | .hbm, ⟨7, _⟩ => ⟨S512x4x4, .f32⟩
  | .hbm, ⟨8, _⟩ => ⟨S512x4x4, .f32⟩
  | .hbm, ⟨9, _⟩ => ⟨S6144x16, .f32⟩
  | .hbm, ⟨10, _⟩ => ⟨S16, .f32⟩
  | .hbm, ⟨11, _⟩ => ⟨S4x1x1024, .f32⟩
  | .hbm, ⟨12, _⟩ => ⟨S4x1x1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x4096, .f32⟩
  | .hbm, ⟨37, _⟩ => ⟨S4x8192x2048, .f32⟩
  | .hbm, ⟨38, _⟩ => ⟨S4x8192x2048, .f32⟩
  | .hbm, ⟨39, _⟩ => ⟨S_, .i32⟩
  | .hbm, ⟨40, _⟩ => ⟨S_, .f32⟩
  | .hbm, ⟨41, _⟩ => ⟨S4x8194x2048, .f32⟩
  | .hbm, ⟨42, _⟩ => ⟨S4x8192x2048, .f32⟩
  | .hbm, ⟨43, _⟩ => ⟨S1x2048, .f32⟩
  | .hbm, ⟨44, _⟩ => ⟨S2048, .f32⟩
  | .hbm, ⟨45, _⟩ => ⟨S1x1x2048, .f32⟩
  | .hbm, ⟨46, _⟩ => ⟨S4x8192x2048, .f32⟩
  | .hbm, ⟨47, _⟩ => ⟨S4x8192x2048, .f32⟩
  | .hbm, ⟨48, _⟩ => ⟨S_, .f32⟩
  | .hbm, ⟨49, _⟩ => ⟨S4x8192x2048, .f32⟩
  | .hbm, ⟨50, _⟩ => ⟨S4x8192x2048, .f32⟩
  | .hbm, ⟨51, _⟩ => ⟨S4x8192x2048, .f32⟩
  | .hbm, ⟨52, _⟩ => ⟨S1x2048, .f32⟩
  | .hbm, ⟨53, _⟩ => ⟨S2048, .f32⟩
  | .hbm, ⟨54, _⟩ => ⟨S1x1x2048, .f32⟩
  | .hbm, ⟨55, _⟩ => ⟨S4x8192x2048, .f32⟩
  | .hbm, ⟨56, _⟩ => ⟨S4x8192x2048, .f32⟩
  | .hbm, ⟨57, _⟩ => ⟨S4x8192x2048, .f32⟩
  | .hbm, ⟨58, _⟩ => ⟨S4x8192x2048, .f32⟩
  | .hbm, ⟨59, _⟩ => ⟨S1x2048, .f32⟩
  | .hbm, ⟨60, _⟩ => ⟨S2048, .f32⟩
  | .hbm, ⟨61, _⟩ => ⟨S1x1x2048, .f32⟩
  | .hbm, ⟨62, _⟩ => ⟨S4x8192x2048, .f32⟩
  | .hbm, ⟨63, _⟩ => ⟨S4x8192x2048, .f32⟩
  | .hbm, ⟨64, _⟩ => ⟨S4x8192x2048, .f32⟩
  | .hbm, ⟨65, _⟩ => ⟨S1x1x2048, .f32⟩
  | .hbm, ⟨66, _⟩ => ⟨S4x8192x2048, .f32⟩
  | .hbm, ⟨67, _⟩ => ⟨S4x8192x2048, .f32⟩
  | .hbm, ⟨68, _⟩ => ⟨S4x8192x2048, .f32⟩
  | .hbm, ⟨69, _⟩ => ⟨S4x8192x2048, .f32⟩
  | .hbm, ⟨70, _⟩ => ⟨S_, .f32⟩
  | .hbm, ⟨71, _⟩ => ⟨S4x8192x2048, .f32⟩
  | .hbm, ⟨72, _⟩ => ⟨S4x8192x2048, .f32⟩
  | .hbm, ⟨73, _⟩ => ⟨S_, .f32⟩
  | .hbm, ⟨74, _⟩ => ⟨S4x8192x2048, .f32⟩
  | .hbm, ⟨75, _⟩ => ⟨S4x8192x2048, .f32⟩
  | .hbm, ⟨76, _⟩ => ⟨S4x8192x2048, .f32⟩
  | .hbm, ⟨77, _⟩ => ⟨S4x8192x512x4, .f32⟩
  | .hbm, ⟨78, _⟩ => ⟨S512x4x4x8192, .f32⟩
  | .hbm, ⟨79, _⟩ => ⟨S4x8192x512x4, .f32⟩
  | .hbm, ⟨80, _⟩ => ⟨S4x8192x2048, .f32⟩
  | .hbm, ⟨81, _⟩ => ⟨S4x8192x512x4, .f32⟩
  | .hbm, ⟨82, _⟩ => ⟨S512x4x4x8192, .f32⟩
  | .hbm, ⟨83, _⟩ => ⟨S4x8192x512x4, .f32⟩
  | .hbm, ⟨84, _⟩ => ⟨S4x8192x2048, .f32⟩
  | .hbm, ⟨85, _⟩ => ⟨S4x8192x512x4, .f32⟩
  | .hbm, ⟨86, _⟩ => ⟨S512x4x4x8192, .f32⟩
  | .hbm, ⟨87, _⟩ => ⟨S4x8192x512x4, .f32⟩
  | .hbm, ⟨88, _⟩ => ⟨S4x8192x2048, .f32⟩
  | .hbm, ⟨89, _⟩ => ⟨S4x8192x6144, .f32⟩
  | .hbm, ⟨90, _⟩ => ⟨S4x8192x16, .f32⟩
  | .hbm, ⟨91, _⟩ => ⟨S1x1x16, .f32⟩
  | .hbm, ⟨92, _⟩ => ⟨S4x8192x16, .f32⟩
  | .hbm, ⟨93, _⟩ => ⟨S4x8192x16, .f32⟩
  | .hbm, ⟨94, _⟩ => ⟨S_, .f32⟩
  | .hbm, ⟨95, _⟩ => ⟨S_, .f32⟩
  | .hbm, ⟨96, _⟩ => ⟨S4x8192x2048, .f32⟩
  | .hbm, ⟨97, _⟩ => ⟨S4x8192x2048, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_4 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]
-- ==== Proof.Chunk.lean ====
/-
  The gated recurrence of one chain (one direction, one batch row, one head) over the real numbers, in closed form, and
  what a chunk of any length makes of it. Nothing here mentions a program.
-/
module

public import Idealize.ShloMosaic.PureOps.Ideal
public import Mathlib.Analysis.SpecialFunctions.Exp

@[expose] public section

noncomputable section

namespace Cert.Scan

/-- What one chain of the scan reads: at each step of the chain a query, a key, a row of values (the last used column,
    column 512, is the normalizer's: constantly one), the logarithm of the forget gate and the input gate; and the
    state it starts from. -/
structure Chain where
  q : ℕ → Fin 512 → ℝ
  k : ℕ → Fin 512 → ℝ
  w : ℕ → Fin 640 → ℝ
  lf : ℕ → ℝ
  ig : ℕ → ℝ
  c0 : Fin 512 → Fin 640 → ℝ
  m0 : ℝ

namespace Chain

variable (C : Chain)

/-- The sum of the log forget gates before step `t`. -/
def F (t : ℕ) : ℝ := ∑ s ∈ Finset.range t, C.lf s

/-- The log weight of step `s`, relative to the start of the chain. -/
def G (s : ℕ) : ℝ := C.ig s - C.F (s + 1)

/-- The running maximum of the log weights of the start state and of the steps before `t`. -/
def X : ℕ → ℝ
  | 0 => C.m0
  | t + 1 => max (X t) (C.G t)

/-- The state before step `t`, not stabilized and relative to the start of the chain. -/
def Y (t : ℕ) (d : Fin 512) (e : Fin 640) : ℝ :=
  Real.exp C.m0 * C.c0 d e + ∑ s ∈ Finset.range t, Real.exp (C.G s) * (C.k s d * C.w s e)

/-- The stabilizer before step `t`. -/
def M (t : ℕ) : ℝ := C.F t + C.X t

/-- The stabilized state before step `t`. -/
def St (t : ℕ) (d : Fin 512) (e : Fin 640) : ℝ := Real.exp (-C.X t) * C.Y t d e

/-- Column `e` of what the query of step `t` reads from the state after the step. -/
def num (t : ℕ) (e : Fin 640) : ℝ := ∑ d, C.q t d * C.St (t + 1) d e

/-- The normalizer of step `t`. -/
def den (t : ℕ) : ℝ := max |C.num t 512| (Real.exp (-C.M (t + 1)))

/-- The output of step `t`. -/
def H (t : ℕ) (e : Fin 640) : ℝ := C.num t e / C.den t

/-- The normalizer is positive. -/
theorem den_pos (t : ℕ) : 0 < C.den t := lt_max_of_lt_right (Real.exp_pos _)

/-- The start: the stabilizer is the given one. -/
theorem M_zero : C.M 0 = C.m0 := by simp [M, F, X]

/-- The start: the state is the given one. -/
theorem St_zero (d : Fin 512) (e : Fin 640) : C.St 0 d e = C.c0 d e := by
  simp [St, Y, X, ← mul_assoc, ← Real.exp_add]

/-- The running maximum `n` steps on, by its upper bounds. -/
theorem X_le_iff (T n : ℕ) (z : EReal) :
    (C.X (T + n) : EReal) ≤ z ↔ (C.X T : EReal) ≤ z ∧ ∀ p < n, (C.G (T + p) : EReal) ≤ z := by
  induction n with
  | zero => simp
  | succ n ih =>
    rw [← Nat.add_assoc, X, EReal.coe_strictMono.monotone.map_max, max_le_iff, ih, and_assoc]
    refine and_congr_right fun _ => ⟨fun h p hp => ?_, fun h => ⟨fun p hp => h p (hp.trans (Nat.lt_succ_self n)), h n (Nat.lt_succ_self n)⟩⟩
    rcases Nat.lt_succ_iff_lt_or_eq.mp hp with hp | rfl
    · exact h.1 p hp
    · exact h.2

variable {L : ℕ} (pos : Fin L ≃ Fin L) (T : ℕ)

/-- A sum over the rows of a chunk that do not come after row `j` is a difference of two prefix sums. -/
theorem sum_upto (f : ℕ → ℝ) (j : Fin L) :
    (∑ s : Fin L, if pos s ≤ pos j then f (T + pos s) else 0)
      = ∑ r ∈ Finset.range (T + pos j + 1), f r - ∑ r ∈ Finset.range T, f r := by
  rw [Equiv.sum_comp pos (fun s => if s ≤ pos j then f (T + s) else 0)]
  rw [Nat.add_assoc, Finset.sum_range_add, add_sub_cancel_left]
  rw [Finset.sum_range fun x => f (T + x)]
  rw [← Finset.sum_filter]
  refine (Finset.sum_nbij' (fun s : Fin (pos j + 1) => (⟨s, by have := s.2; have := (pos j).2; omega⟩ : Fin L))
    (fun s => if h : (s : ℕ) < pos j + 1 then ⟨s, h⟩ else 0) ?_ ?_ ?_ ?_ ?_).symm
  · intro s _; simp only [Finset.mem_filter, Finset.mem_univ, true_and, Fin.le_def]; omega
  · intro s _; exact Finset.mem_univ _
  · intro s _; exact dif_pos s.2
  · intro s hs
    simp only [Finset.mem_filter, Finset.mem_univ, true_and, Fin.le_def] at hs
    rw [dif_pos (by omega)]
  · intro s _; rfl

/-- A sum over all rows of a chunk is a difference of two prefix sums. -/
theorem sum_chunk (f : ℕ → ℝ) :
    (∑ s : Fin L, f (T + pos s)) = ∑ r ∈ Finset.range (T + L), f r - ∑ r ∈ Finset.range T, f r := by
  rw [Equiv.sum_comp pos (fun s => f (T + s)), Finset.sum_range_add, add_sub_cancel_left, Finset.sum_range]

/-- The cumulative log forget gate within a chunk. -/
theorem cum_eq (j : Fin L) :
    (∑ s : Fin L, if pos s ≤ pos j then C.lf (T + pos s) else 0) = C.F (T + pos j + 1) - C.F T :=
  sum_upto pos T C.lf j

/-- The total log forget gate of a chunk. -/
theorem total_eq : (∑ s : Fin L, C.lf (T + pos s)) = C.F (T + L) - C.F T := sum_chunk pos T C.lf

/-- The stabilizer of a row: the greater of the carried state's log weight and of the greatest log weight among the
    rows up to it. -/
theorem max_upto (j : Fin L) (A : ℝ) :
    max ((A + C.X T : ℝ) : EReal) (Finset.univ.fold max ⊥
      fun s : Fin L => if pos s ≤ pos j then ((A + C.G (T + pos s) : ℝ) : EReal) else ⊥)
      = ((A + C.X (T + pos j + 1) : ℝ) : EReal) := by
  refine eq_of_forall_ge_iff fun z => ?_
  rw [max_le_iff, Finset.fold_max_le]
  have sh : ∀ (x : ℝ), ((A + x : ℝ) : EReal) ≤ z ↔ (x : EReal) ≤ z - (A : EReal) := by
    intro x
    rw [EReal.coe_add, add_comm]
    exact (EReal.le_sub_iff_add_le (Or.inl (EReal.coe_ne_bot A)) (Or.inl (EReal.coe_ne_top A))).symm
  rw [sh, sh, Nat.add_assoc, C.X_le_iff T (pos j + 1)]
  refine and_congr_right fun _ => ⟨fun h p hp => ?_, fun h => ⟨bot_le, fun s _ => ?_⟩⟩
  · have hp' : p < L := by have := (pos j).2; omega
    have h2 := h.2 (pos.symm ⟨p, hp'⟩) (Finset.mem_univ _)
    rw [Equiv.apply_symm_apply, if_pos (by rw [Fin.le_def]; exact Nat.lt_succ_iff.mp hp)] at h2
    exact (sh _).mp h2
  · split
    · rename_i hs
      exact (sh _).mpr (h _ (Nat.lt_succ_of_le hs))
    · exact bot_le

/-- The stabilizer after a chunk. -/
theorem max_chunk (A : ℝ) :
    max ((A + C.X T : ℝ) : EReal) (Finset.univ.fold max ⊥ fun s : Fin L => ((A + C.G (T + pos s) : ℝ) : EReal))
      = ((A + C.X (T + L) : ℝ) : EReal) := by
  refine eq_of_forall_ge_iff fun z => ?_
  rw [max_le_iff, Finset.fold_max_le]
  have sh : ∀ (x : ℝ), ((A + x : ℝ) : EReal) ≤ z ↔ (x : EReal) ≤ z - (A : EReal) := by
    intro x
    rw [EReal.coe_add, add_comm]
    exact (EReal.le_sub_iff_add_le (Or.inl (EReal.coe_ne_bot A)) (Or.inl (EReal.coe_ne_top A))).symm
  rw [sh, sh, C.X_le_iff T L]
  refine and_congr_right fun _ => ⟨fun h p hp => ?_, fun h => ⟨bot_le, fun s _ => ?_⟩⟩
  · have h2 := h.2 (pos.symm ⟨p, hp⟩) (Finset.mem_univ _)
    rw [Equiv.apply_symm_apply] at h2
    exact (sh _).mp h2
  · exact (sh _).mpr (h _ (pos s).2)

/-- The unnormalized state `n` steps on, as a sum over a chunk. -/
theorem Y_upto (j : Fin L) (d : Fin 512) (e : Fin 640) :
    C.Y T d e + (∑ s : Fin L, if pos s ≤ pos j then Real.exp (C.G (T + pos s)) * (C.k (T + pos s) d * C.w (T + pos s) e) else 0)
      = C.Y (T + pos j + 1) d e := by
  rw [sum_upto pos T (fun s => Real.exp (C.G s) * (C.k s d * C.w s e)) j]
  simp only [Y]; ring

/-- The unnormalized state after a chunk. -/
theorem Y_chunk (d : Fin 512) (e : Fin 640) :
    C.Y T d e + (∑ s : Fin L, Real.exp (C.G (T + pos s)) * (C.k (T + pos s) d * C.w (T + pos s) e))
      = C.Y (T + L) d e := by
  rw [sum_chunk pos T (fun s => Real.exp (C.G s) * (C.k s d * C.w s e))]
  simp only [Y]; ring

/-- WHAT A ROW OF A CHUNK READS: the carried state's share and the chunk's own rows' shares, under their stabilized
    weights, are what the query reads from the state after that step. -/
theorem num_chunk (j : Fin L) (e : Fin 640) :
    Real.exp (C.X T - C.X (T + pos j + 1)) * (∑ d, C.q (T + pos j) d * C.St T d e)
      + (∑ s : Fin L, ((∑ d, C.q (T + pos j) d * C.k (T + pos s) d)
          * (if pos s ≤ pos j then Real.exp (C.G (T + pos s) - C.X (T + pos j + 1)) else 0)) * C.w (T + pos s) e)
      = C.num (T + pos j) e := by
  have h1 : ∀ d, C.q (T + pos j) d * C.St (T + pos j + 1) d e
      = Real.exp (C.X T - C.X (T + pos j + 1)) * (C.q (T + pos j) d * C.St T d e)
        + ∑ s : Fin L, (C.q (T + pos j) d * C.k (T + pos s) d)
          * (if pos s ≤ pos j then Real.exp (C.G (T + pos s) - C.X (T + pos j + 1)) else 0) * C.w (T + pos s) e := by
    intro d
    rw [St, ← C.Y_upto pos T j d e, St, sub_eq_add_neg, Real.exp_add, mul_add, mul_add, Finset.mul_sum, Finset.mul_sum]
    congr 1
    · have : Real.exp (C.X T) * Real.exp (-C.X T) = 1 := by rw [← Real.exp_add, add_neg_cancel, Real.exp_zero]
      linear_combination (-(C.q (T + pos j) d * Real.exp (-C.X (T + pos j + 1)) * C.Y T d e)) * this
    · refine Finset.sum_congr rfl fun s _ => ?_
      split
      · rw [sub_eq_add_neg, Real.exp_add]; ring
      · ring
  rw [num]
  simp only [h1]
  rw [Finset.sum_add_distrib, ← Finset.mul_sum, Finset.sum_comm]
  congr 1
  refine Finset.sum_congr rfl fun s _ => ?_
  rw [← Finset.sum_mul, ← Finset.sum_mul]

/-- THE STATE AFTER A CHUNK, from the state before it and the chunk's keys and values under their stabilized weights. -/
theorem St_chunk (d : Fin 512) (e : Fin 640) :
    Real.exp (C.X T - C.X (T + L)) * C.St T d e
      + (∑ s : Fin L, (C.k (T + pos s) d * Real.exp (C.G (T + pos s) - C.X (T + L))) * C.w (T + pos s) e)
      = C.St (T + L) d e := by
  rw [St, St, ← C.Y_chunk pos T d e, mul_add, Finset.mul_sum, sub_eq_add_neg, Real.exp_add]
  congr 1
  · have : Real.exp (C.X T) * Real.exp (-C.X T) = 1 := by rw [← Real.exp_add, add_neg_cancel, Real.exp_zero]
    linear_combination (Real.exp (-C.X (T + L)) * C.Y T d e) * this
  · refine Finset.sum_congr rfl fun s _ => ?_
    rw [sub_eq_add_neg, Real.exp_add]; ring

end Chain

end Cert.Scan

end
-- ==== Proof.Coe.lean ====
/-
  Small facts about real numbers read as extended reals, and about the order of a chunk's rows.
-/
module

public import proofs.«01_k».proof.Proof.Chunk
public import Idealize.ShloMosaic.Lib.Pointwise

@[expose] public section

noncomputable section

namespace Cert.Scan

open Idealize.ShloMosaic

/-- A finite sum of reals, read as an extended real, is the sum of the terms read so. -/
theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- A sum of products of reals, read as an extended real. -/
theorem sum_coe_mul {ι : Type} [Fintype ι] (f g : ι → ℝ) :
    (∑ i, (f i : EReal) * (g i : EReal)) = ((∑ i, f i * g i : ℝ) : EReal) := by
  rw [coe_sum]; exact Finset.sum_congr rfl fun i _ => (EReal.coe_mul _ _).symm

/-- A choice between reals, read as an extended real. -/
theorem coe_ite (p : Prop) [Decidable p] (a b : ℝ) :
    ((if p then a else b : ℝ) : EReal) = if p then (a : EReal) else (b : EReal) := apply_ite _ _ _ _

/-- The greater of two reals, read as an extended real. -/
theorem coe_max (a b : ℝ) : ((max a b : ℝ) : EReal) = max (a : EReal) (b : EReal) :=
  EReal.coe_strictMono.monotone.map_max

/-- The lesser of two reals, read as an extended real. -/
theorem coe_min (a b : ℝ) : ((min a b : ℝ) : EReal) = min (a : EReal) (b : EReal) :=
  EReal.coe_strictMono.monotone.map_min

/-- The absolute value of a real, as the extended reals have it. -/
theorem absf_coe {φ : FTy} (a : ℝ) : FloatOps.absf (F := Ideal) (φ := φ) (a : EReal) = ((|a| : ℝ) : EReal) := by
  rw [Ideal.absf_def, abs_eq_max_neg, coe_max, EReal.coe_neg]

/-- The quotient of two reals, the divisor positive. -/
theorem div_coe_pos (a : ℝ) {b : ℝ} (hb : 0 < b) : Ideal.div (a : EReal) (b : EReal) = ((a / b : ℝ) : EReal) := by
  rw [Ideal.div_coe hb.ne', ← EReal.coe_mul, mul_one_div]

/-- The logarithm of one and a positive real. -/
theorem log1p_coe {a : ℝ} (ha : 0 ≤ a) : Ideal.log1p (a : EReal) = ((Real.log (1 + a) : ℝ) : EReal) := by
  rw [Ideal.log1p, ← EReal.coe_one, ← EReal.coe_add, Ideal.log_coe, if_neg (by linarith)]

/-- The word of minus infinity is the least extended real. -/
theorem ofBits_neg_inf : Ideal.ofBits .f32 0xFF800000#32 = ⊥ := by simp [Ideal.ofBits, Ideal.ieee]

/-- The word of one half. -/
theorem ofBits_half : Ideal.ofBits .f32 0x3F000000#32 = ((1 / 2 : ℝ) : EReal) := by
  simp [Ideal.ofBits, Ideal.ieee]
  rw [← EReal.coe_mul]; congr 1; norm_num

/-- The logarithm of the logistic function, as the kernel writes it. -/
def logsig (f : ℝ) : ℝ := min f 0 - Real.log (1 + Real.exp (-|f|))

/-- The order in which direction `d` visits the rows of a chunk: forwards for 0, backwards else. -/
def posOf {L : ℕ} (d : ℕ) : Fin L ≃ Fin L := if d = 0 then Equiv.refl _ else Fin.revPerm

/-- Which row comes before which, by direction. -/
theorem posOf_le {L : ℕ} (d : ℕ) (s j : Fin L) : posOf d s ≤ posOf d j ↔ if d = 0 then s ≤ j else j ≤ s := by
  unfold posOf
  split
  · exact Iff.rfl
  · exact Fin.rev_le_rev

end Cert.Scan

end
-- ==== Proof.ScanBlock.lean ====
/-
  What the scan kernel's body computes at one grid point, on the real numbers: given that the blocks hold a stretch of
  256 steps of a chain and the two scratch buffers the state before the stretch, the body's payloads are the chain's
  outputs of those steps and the state after them.
-/
module

public import proofs.«01_k».proof.Proof.Coe
public import proofs.«01_k».proof.Proof.Gen.KernelIdeal.Skeleton

@[expose] public section

set_option maxRecDepth 16384

noncomputable section

namespace Cert.KernelIdeal.Scan

open Cert.KernelIdeal Cert.KernelIdeal.Gen Idealize.ShloMosaic Cert.Scan

/-! ## The masks -/

/-- A row's word, read as a number with a sign, is the row. -/
theorem toInt_row (s : Fin 256) : (BitVec.ofNat 32 s.val).toInt = s.val :=
  (by decide +kernel : ∀ s : Fin 256, (BitVec.ofNat 32 s.val).toInt = s.val) s

/-- A truth value as a one-bit word, widened, as a number. -/
theorem toInt_bool (b : Bool) : (BitVec.setWidth 32 (BitVec.ofBool b)).toInt = if b then 1 else 0 := by
  cases b <;> decide

/-- The bit of a comparison "at most" of two rows, widened, as a number. -/
theorem toInt_sle (s j : Fin 256) : (BitVec.setWidth 32 (IntOp.cmpi .sle (BitVec.ofNat 32 s) (BitVec.ofNat 32 j))).toInt
    = if s ≤ j then 1 else 0 := by
  have h : IntOp.cmpi .sle (BitVec.ofNat 32 s) (BitVec.ofNat 32 j) = BitVec.ofBool (decide (s ≤ j)) := by
    simp only [IntOp.cmpi, BitVec.sle, toInt_row, Nat.cast_le, Fin.le_def]
  rw [h, toInt_bool]; simp

/-- The bit of a comparison "at least" of two rows, widened, as a number. -/
theorem toInt_sge (s j : Fin 256) : (BitVec.setWidth 32 (IntOp.cmpi .sge (BitVec.ofNat 32 s) (BitVec.ofNat 32 j))).toInt
    = if j ≤ s then 1 else 0 := by
  have h : IntOp.cmpi .sge (BitVec.ofNat 32 s) (BitVec.ofNat 32 j) = BitVec.ofBool (decide (j ≤ s)) := by
    simp only [IntOp.cmpi, BitVec.sle, toInt_row, Nat.cast_le, Fin.le_def]
  rw [h, toInt_bool]; simp

/-- The bit of an equality of two rows, widened, as a number. -/
theorem toInt_eq (s j : Fin 256) : (BitVec.setWidth 32 (IntOp.cmpi .eq (BitVec.ofNat 32 s) (BitVec.ofNat 32 j))).toInt
    = if s = j then 1 else 0 := by
  have h : IntOp.cmpi .eq (BitVec.ofNat 32 s) (BitVec.ofNat 32 j) = BitVec.ofBool (decide (s = j)) := by
    have e : (BitVec.ofNat 32 s.val = BitVec.ofNat 32 j.val) = (s = j) := by
      apply propext
      rw [← BitVec.toInt_inj, toInt_row, toInt_row, Nat.cast_inj, Fin.val_inj]
    simp only [IntOp.cmpi, beq_eq_decide, e]
  rw [h, toInt_bool]; simp

/-- The bit of a lane's being the first of the added lanes, widened, as a number. -/
theorem toInt_lane (l : Fin 128) : (BitVec.setWidth 32 (IntOp.cmpi .eq (BitVec.ofNat 32 l) 0#32)).toInt
    = if l.val = 0 then 1 else 0 :=
  (by decide +kernel : ∀ l : Fin 128, (BitVec.setWidth 32 (IntOp.cmpi .eq (BitVec.ofNat 32 l) 0#32)).toInt
    = if l.val = 0 then 1 else 0) l

/-- A whole number that is one or zero by a condition, read as an extended real. -/
theorem sitofp_bit (φ : FTy) (b : BitVec 32) (p : Prop) [Decidable p] (h : b.toInt = if p then 1 else 0) :
    FloatOps.sitofp (F := Ideal) φ b = ((if p then 1 else 0 : ℝ) : EReal) := by
  show (((b.toInt : ℝ)) : EReal) = _
  rw [h]; split <;> simp

/-- The test for the forward direction. -/
theorem dir_bit (d : Fin 2) : IntOp.cmpi .eq (BitVec.ofNat 32 d) 0#32 = if d.val = 0 then 1#1 else 0#1 :=
  (by decide +kernel : ∀ d : Fin 2, IntOp.cmpi .eq (BitVec.ofNat 32 d) 0#32 = if d.val = 0 then 1#1 else 0#1) d

/-- The mask of the rows read by row `j`: those that do not come after it. -/
theorem mask (i : grid0.Coords) (j s : Fin 256) :
    k0_pay7 (F := Ideal) i (ix2 j s) = ((if posOf (i 0).val s ≤ posOf (i 0).val j then 1 else 0 : ℝ) : EReal) := by
  pointwise [k0_pay7]
  rw [sitofp_bit .f32 _ _ (toInt_sle s j), sitofp_bit .f32 _ _ (toInt_sge s j)]
  simp only [posOf_le, Scalar.select, Scalar.cmpi, dir_bit (i 0)]
  by_cases h : (i 0).val = 0 <;> simp [h]

/-- The same mask, transposed. -/
theorem mask_t (i : grid0.Coords) (j s : Fin 256) :
    k0_pay8 (F := Ideal) i (ix2 s j) = ((if posOf (i 0).val s ≤ posOf (i 0).val j then 1 else 0 : ℝ) : EReal) := by
  pointwise [k0_pay8]
  rw [sitofp_bit .f32 _ _ (toInt_sle s j), sitofp_bit .f32 _ _ (toInt_sge s j)]
  simp only [posOf_le, Scalar.select, Scalar.cmpi, dir_bit (i 0)]
  by_cases h : (i 0).val = 0 <;> simp [h]

/-- The mask of a row itself. -/
theorem mask_eye (j s : Fin 256) : k0_pay9 (F := Ideal) (ix2 j s) = ((if j = s then 1 else 0 : ℝ) : EReal) := by
  pointwise [k0_pay9]
  rw [sitofp_bit .f32 _ _ (toInt_eq j s)]

/-! ## The gates -/

variable (C : Chain) (T : ℕ) (pos : Fin 256 ≃ Fin 256)

/-- The log forget gates of a block. -/
theorem lf_row (v25 : Vec Ideal S1x1x1x1x256 .f32) (f : Fin 256 → ℝ)
    (hf : ∀ s, v25 (ix5 0 0 0 0 s) = (f s : EReal)) (s : Fin 256) : k0_pay11 v25 (ix2 0 s) = ((logsig (f s) : ℝ) : EReal) := by
  pointwise [k0_pay11]
  rw [hf, absf_coe, zero_sub, ← EReal.coe_neg, Ideal.exp_coe, log1p_coe (Real.exp_pos _).le, ← EReal.coe_zero, ← coe_min,
    ← EReal.coe_sub]
  rfl

/-- The block's gates: the input gates in the first row and the forget gates in the second are the chain's. -/
structure Gates (v23 v25 : Vec Ideal S1x1x1x1x256 .f32) : Prop where
  ig : ∀ s, v23 (ix5 0 0 0 0 s) = (C.ig (T + pos s) : EReal)
  fg : ∃ f : Fin 256 → ℝ, (∀ s, v25 (ix5 0 0 0 0 s) = (f s : EReal)) ∧ ∀ s, C.lf (T + pos s) = logsig (f s)

variable {C T pos} {v23 v25 : Vec Ideal S1x1x1x1x256 .f32} (g : Gates C T pos v23 v25)
include g

/-- The log forget gates of a block are the chain's. -/
theorem lf_eq (s : Fin 256) : k0_pay11 v25 (ix2 0 s) = (C.lf (T + pos s) : EReal) := by
  obtain ⟨f, h1, h2⟩ := g.fg
  rw [lf_row v25 f h1 s, h2]

/-- The eight rows that go through the mask: the log forget gates, their two (zero) remainders, the input gates, their
    two remainders, and two rows of zeros. -/
theorem pieces (r : Fin 8) (s : Fin 256) :
    k0_pay16 (k0_pay10 v23) (k0_pay12 v25) (k0_pay13 v25) (k0_pay14 v25) (k0_pay15 v25) (ix2 r s)
      = ((if r = 0 then C.lf (T + pos s) else if r = 3 then C.ig (T + pos s) else 0 : ℝ) : EReal) := by
  have z : ∀ a : ℝ, (a : EReal) - (a : EReal) = 0 := fun a => by rw [← EReal.coe_sub, sub_self, EReal.coe_zero]
  pointwise [k0_pay16, k0_pay10, k0_pay12, k0_pay13, k0_pay14, k0_pay15]
  have e : ∀ n : Fin 1, k0_pay11 v25 (ix2 n s) = (C.lf (T + pos s) : EReal) := fun n => by
    rw [Subsingleton.elim n 0]; exact lf_eq g s
  fin_cases r <;> simp [e, g.ig, z]

variable {v12 v19 v22 : FVec Ideal S256x256 .f32}

/-- The cumulative log forget gates, as a column. -/
theorem b_col (h12 : ∀ j s, v12 (ix2 j s) = ((if pos s ≤ pos j then 1 else 0 : ℝ) : EReal)) (j : Fin 256) :
    k0_pay17 v12 (k0_pay10 v23) (k0_pay12 v25) (k0_pay13 v25) (k0_pay14 v25) (k0_pay15 v25) (ix2 j 0)
      = ((C.F (T + pos j + 1) - C.F T : ℝ) : EReal) := by
  pointwise [k0_pay17]
  simp only [pieces g, h12, sum_coe_mul, ← EReal.coe_add]
  rw [← C.cum_eq pos T j]
  simp

/-- The log weights of the block's rows, relative to the block's start, as a row. -/
theorem e_row (h19 : ∀ j s, v19 (ix2 s j) = ((if pos s ≤ pos j then 1 else 0 : ℝ) : EReal)) (s : Fin 256) :
    k0_pay19 v19 (k0_pay10 v23) (k0_pay12 v25) (k0_pay13 v25) (k0_pay14 v25) (k0_pay15 v25) (ix2 0 s)
      = ((C.G (T + pos s) + C.F T : ℝ) : EReal) := by
  have h : k0_pay10 v23 (ix2 0 s) = (C.ig (T + pos s) : EReal) := by pointwise [k0_pay10]; exact g.ig s
  pointwise [k0_pay19]
  simp only [pieces g, h19, h, sum_coe_mul, ← EReal.coe_add, ← EReal.coe_sub]
  have hc := C.cum_eq pos T s
  simp only [Chain.G]
  congr 1
  simp
  rw [hc]; ring

/-- The log weights of the block's rows, relative to the block's start, as a column. -/
theorem e_col (h12 : ∀ j s, v12 (ix2 j s) = ((if pos s ≤ pos j then 1 else 0 : ℝ) : EReal))
    (h22 : ∀ j s, v22 (ix2 j s) = ((if j = s then 1 else 0 : ℝ) : EReal)) (s : Fin 256) :
    k0_pay20 v12 v22 (k0_pay10 v23) (k0_pay12 v25) (k0_pay13 v25) (k0_pay14 v25) (k0_pay15 v25) (ix2 s 0)
      = ((C.G (T + pos s) + C.F T : ℝ) : EReal) := by
  pointwise [k0_pay20]
  simp only [pieces g, h22, b_col g h12, sum_coe_mul, ← EReal.coe_add, ← EReal.coe_sub]
  simp only [Chain.G]
  congr 1
  simp
  ring

/-- The block's total log forget gate. -/
theorem total (s : Fin 256) : k0_pay18 (k0_pay11 v25) (ix2 0 0) = ((C.F (T + 256) - C.F T : ℝ) : EReal) := by
  pointwise [k0_pay18]
  simp only [lf_eq g]
  rw [← coe_sum, C.total_eq pos T]

/-- The log weights of the rows that row `j` reads, and minus infinity elsewhere. -/
theorem dmat (h12 : ∀ j s, v12 (ix2 j s) = ((if pos s ≤ pos j then 1 else 0 : ℝ) : EReal))
    (h19 : ∀ j s, v19 (ix2 s j) = ((if pos s ≤ pos j then 1 else 0 : ℝ) : EReal)) (j s : Fin 256) :
    k0_pay21 v12 v19 (k0_pay10 v23) (k0_pay12 v25) (k0_pay13 v25) (k0_pay14 v25) (k0_pay15 v25) (ix2 j s)
      = if pos s ≤ pos j then ((C.F (T + pos j + 1) + C.G (T + pos s) : ℝ) : EReal) else ⊥ := by
  pointwise [k0_pay21]
  rw [h12, ofBits_half, b_col g h12, e_row g h19, ofBits_neg_inf]
  split
  · rw [if_pos (by rw [EReal.coe_lt_coe_iff]; norm_num), ← EReal.coe_add]
    congr 1; ring
  · rw [if_neg (by rw [EReal.coe_lt_coe_iff]; norm_num)]

variable {v76 : FVec Ideal S1x1 .f32} (h76 : v76 (ix2 0 0) = (C.M T : EReal))
include h76

/-- The log weight of the carried state. -/
theorem a_col (h12 : ∀ j s, v12 (ix2 j s) = ((if pos s ≤ pos j then 1 else 0 : ℝ) : EReal)) (j : Fin 256) :
    k0_pay22 v12 (k0_pay10 v23) (k0_pay12 v25) (k0_pay13 v25) (k0_pay14 v25) (k0_pay15 v25) v76 (ix2 j 0)
      = ((C.F (T + pos j + 1) + C.X T : ℝ) : EReal) := by
  pointwise [k0_pay22]
  rw [b_col g h12, h76, ← EReal.coe_add, Chain.M]
  congr 1; ring

/-- The stabilizers of the block's rows. -/
theorem m_col (h12 : ∀ j s, v12 (ix2 j s) = ((if pos s ≤ pos j then 1 else 0 : ℝ) : EReal))
    (h19 : ∀ j s, v19 (ix2 s j) = ((if pos s ≤ pos j then 1 else 0 : ℝ) : EReal)) (j : Fin 256) :
    k0_pay23 v12 v19 (k0_pay10 v23) (k0_pay12 v25) (k0_pay13 v25) (k0_pay14 v25) (k0_pay15 v25) v76 (ix2 j 0)
      = (C.M (T + pos j + 1) : EReal) := by
  pointwise [k0_pay23]
  simp only [a_col g h76 h12, dmat g h12 h19, ofBits_neg_inf]
  exact C.max_upto pos T j _

/-- The log weight of the carried state, stabilized. -/
theorem wi_col (h12 : ∀ j s, v12 (ix2 j s) = ((if pos s ≤ pos j then 1 else 0 : ℝ) : EReal))
    (h19 : ∀ j s, v19 (ix2 s j) = ((if pos s ≤ pos j then 1 else 0 : ℝ) : EReal)) (j : Fin 256) :
    k0_pay24 v12 v19 (k0_pay10 v23) (k0_pay12 v25) (k0_pay13 v25) (k0_pay14 v25) (k0_pay15 v25) v76 (ix2 j 0)
      = ((C.X T - C.X (T + pos j + 1) : ℝ) : EReal) := by
  pointwise [k0_pay24]
  rw [a_col g h76 h12, m_col g h76 h12 h19, ← EReal.coe_sub, Chain.M]
  congr 1; ring

/-- The stabilizer after the block. -/
theorem m_new (h19 : ∀ j s, v19 (ix2 s j) = ((if pos s ≤ pos j then 1 else 0 : ℝ) : EReal)) :
    k0_pay2 (k0_pay18 (k0_pay11 v25))
      (k0_pay19 v19 (k0_pay10 v23) (k0_pay12 v25) (k0_pay13 v25) (k0_pay14 v25) (k0_pay15 v25)) v76 (ix2 0 0)
      = (C.M (T + 256) : EReal) := by
  pointwise [k0_pay2]
  simp only [total g 0, e_row g h19, h76, ofBits_neg_inf, ← EReal.coe_add]
  have e1 : C.F (T + 256) - C.F T + C.M T = C.F (T + 256) + C.X T := by rw [Chain.M]; ring
  have e2 : ∀ s : Fin 256, C.F (T + 256) - C.F T + (C.G (T + pos s) + C.F T) = C.F (T + 256) + C.G (T + pos s) := fun s => by ring
  simp only [e1, e2]
  exact C.max_chunk pos T _

/-- The stabilizer's buffer after the block holds it everywhere. -/
theorem m_buf (h19 : ∀ j s, v19 (ix2 s j) = ((if pos s ≤ pos j then 1 else 0 : ℝ) : EReal)) (r : Fin 8) (l : Fin 128) :
    k0_pay4 (k0_pay18 (k0_pay11 v25))
      (k0_pay19 v19 (k0_pay10 v23) (k0_pay12 v25) (k0_pay13 v25) (k0_pay14 v25) (k0_pay15 v25)) v76 (ix2 r l)
      = (C.M (T + 256) : EReal) := by
  pointwise [k0_pay4]
  exact m_new g h76 h19

omit g h76

/-! ## The rows -/

variable (C T pos)

/-- The block's rows: its queries, keys and values are the chain's, whose added value columns are one, then zeros. -/
structure Rows (v91 v94 v102 : Vec Ideal S1x256x512 .f32) : Prop where
  q : ∀ j d, v91 (ix3 0 j d) = (C.q (T + pos j) d : EReal)
  k : ∀ j d, v94 (ix3 0 j d) = (C.k (T + pos j) d : EReal)
  v : ∀ j (e : Fin 640) (h : e.val < 512), v102 (ix3 0 j ⟨e.val, h⟩) = (C.w (T + pos j) e : EReal)
  aug : ∀ t (e : Fin 640), ¬ e.val < 512 → C.w t e = if e.val = 512 then 1 else 0

variable {C T pos} {v91 v94 v102 : Vec Ideal S1x256x512 .f32} (w : Rows C T pos v91 v94 v102)
include w

/-- The values with their added columns. -/
theorem v_aug (s : Fin 256) (e : Fin 640) : k0_pay26 v102 (ix2 s e) = (C.w (T + pos s) e : EReal) := by
  pointwise [k0_pay26]
  split
  · rename_i h; exact w.v s e h
  · rename_i h
    rw [sitofp_bit .f32 _ _ (toInt_lane ⟨e.val - 512, by have := e.2; omega⟩), w.aug _ _ h]
    congr 1
    have h1 : (e.val - 512 = 0) = (e.val = 512) := by apply propext; omega
    simp only [h1]

/-- THE STATE AFTER THE BLOCK. -/
theorem c_new (g : Gates C T pos v23 v25) (h76 : v76 (ix2 0 0) = (C.M T : EReal))
    (h12 : ∀ j s, v12 (ix2 j s) = ((if pos s ≤ pos j then 1 else 0 : ℝ) : EReal))
    (h19 : ∀ j s, v19 (ix2 s j) = ((if pos s ≤ pos j then 1 else 0 : ℝ) : EReal))
    (h22 : ∀ j s, v22 (ix2 j s) = ((if j = s then 1 else 0 : ℝ) : EReal))
    {v112 : Vec Ideal S512x640 .f32} (h112 : ∀ d e, v112 (ix2 d e) = (C.St T d e : EReal)) (d : Fin 512) (e : Fin 640) :
    k0_pay3 (k0_pay18 (k0_pay11 v25))
      (k0_pay19 v19 (k0_pay10 v23) (k0_pay12 v25) (k0_pay13 v25) (k0_pay14 v25) (k0_pay15 v25))
      (k0_pay20 v12 v22 (k0_pay10 v23) (k0_pay12 v25) (k0_pay13 v25) (k0_pay14 v25) (k0_pay15 v25)) v76
      (k0_pay25 v94) (k0_pay26 v102) v112 (ix2 d e)
      = (C.St (T + 256) d e : EReal) := by
  pointwise [k0_pay3, k0_pay25]
  simp only [total g 0, m_new g h76 h19, e_col g h12 h22, h76, h112, v_aug w, w.k, Ideal.exp_coe, ← EReal.coe_add,
    ← EReal.coe_sub, ← EReal.coe_mul, ← coe_sum]
  rw [← C.St_chunk pos T d e]
  have e1 : C.F (T + 256) - C.F T + C.M T - C.M (T + 256) = C.X T - C.X (T + 256) := by simp only [Chain.M]; ring
  have e2 : ∀ s : Fin 256, C.F (T + 256) - C.F T + (C.G (T + pos s) + C.F T) - C.M (T + 256)
      = C.G (T + pos s) - C.X (T + 256) := fun s => by simp only [Chain.M]; ring
  simp only [e1, e2]

/-- THE OUTPUTS OF THE BLOCK'S ROWS. -/
theorem h_out (g : Gates C T pos v23 v25) (h76 : v76 (ix2 0 0) = (C.M T : EReal))
    (h12 : ∀ j s, v12 (ix2 j s) = ((if pos s ≤ pos j then 1 else 0 : ℝ) : EReal))
    (h19 : ∀ j s, v19 (ix2 s j) = ((if pos s ≤ pos j then 1 else 0 : ℝ) : EReal))
    {v112 : Vec Ideal S512x640 .f32} (h112 : ∀ d e, v112 (ix2 d e) = (C.St T d e : EReal)) (j : Fin 256) (e : Fin 512) :
    k0_pay1 (k0_pay27
      (k0_pay21 v12 v19 (k0_pay10 v23) (k0_pay12 v25) (k0_pay13 v25) (k0_pay14 v25) (k0_pay15 v25))
      (k0_pay23 v12 v19 (k0_pay10 v23) (k0_pay12 v25) (k0_pay13 v25) (k0_pay14 v25) (k0_pay15 v25) v76)
      (k0_pay24 v12 v19 (k0_pay10 v23) (k0_pay12 v25) (k0_pay13 v25) (k0_pay14 v25) (k0_pay15 v25) v76)
      v91 v94 v102 v112) (ix4 0 0 j e)
      = (C.H (T + pos j) (e.castLE (by decide)) : EReal) := by
  have hx : ∀ (j s : Fin 256), Ideal.exp ((if pos s ≤ pos j then ((C.F (T + pos j + 1) + C.G (T + pos s) : ℝ) : EReal) else ⊥)
      - ((C.M (T + pos j + 1) : ℝ) : EReal))
      = ((if pos s ≤ pos j then Real.exp (C.G (T + pos s) - C.X (T + pos j + 1)) else 0 : ℝ) : EReal) := by
    intro j s
    split
    · rw [← EReal.coe_sub, Ideal.exp_coe]
      congr 2
      simp only [Chain.M]; ring
    · rw [EReal.bot_sub, Ideal.exp_bot, EReal.coe_zero]
  pointwise [k0_pay1, k0_pay27, k0_pay25]
  simp only [dmat g h12 h19, m_col g h76 h12 h19, wi_col g h76 h12 h19, hx, h112, v_aug w, w.k, w.q, Ideal.exp_coe,
    ← EReal.coe_add, ← EReal.coe_sub, ← EReal.coe_mul, ← coe_sum, absf_coe, zero_sub, ← EReal.coe_neg, ← coe_max]
  rw [C.num_chunk pos T j, C.num_chunk pos T j]
  exact div_coe_pos _ (C.den_pos (T + pos j))

end Cert.KernelIdeal.Scan

end
-- ==== Proof.Chains.lean ====
/-
  The scan's chains: one for every direction, sample and head, made from the call's arguments read as reals.
-/
module

public import proofs.«01_k».proof.Proof.Coe

@[expose] public section

noncomputable section

namespace Cert.Scan

open Idealize.ShloMosaic

/-- The call's six arguments, as reals. -/
structure Args where
  q : Fin 4 → Fin 8192 → Fin 2048 → ℝ
  k : Fin 4 → Fin 8192 → Fin 2048 → ℝ
  v : Fin 4 → Fin 8192 → Fin 2048 → ℝ
  g : Fin 4 → Fin 8192 → Fin 16 → ℝ
  c0 : Fin 2 → Fin 4 → Fin 4 → Fin 512 → Fin 640 → ℝ
  m0 : Fin 2 → Fin 4 → Fin 4 → Fin 8 → Fin 128 → ℝ

/-- The token a direction visits at a step: forwards for 0, backwards else. -/
def tok (d t : ℕ) : Fin 8192 :=
  if d = 0 then ⟨t % 8192, Nat.mod_lt _ (by decide)⟩ else Fin.rev ⟨t % 8192, Nat.mod_lt _ (by decide)⟩

/-- A head's lane among all lanes. -/
def lane (hd : Fin 4) (e : Fin 512) : Fin 2048 := ⟨hd.val * 512 + e.val, by omega⟩

/-- The place of a gate: by direction, kind (0 the input gate, 1 the forget gate) and head. -/
def gate (d kind : Fin 2) (hd : Fin 4) : Fin 16 := ⟨d.val * 8 + kind.val * 4 + hd.val, by omega⟩

/-- The chain of a direction, a sample and a head. The values carry a column of ones and then zeros. -/
def chainOf (R : Args) (d : Fin 2) (b hd : Fin 4) : Chain where
  q t e := R.q b (tok d t) (lane hd e)
  k t e := R.k b (tok d t) (lane hd e)
  w t e := if h : e.val < 512 then R.v b (tok d t) (lane hd ⟨e.val, h⟩) else if e.val = 512 then 1 else 0
  lf t := logsig (R.g b (tok d t) (gate d 1 hd))
  ig t := R.g b (tok d t) (gate d 0 hd)
  c0 := R.c0 d b hd
  m0 := R.m0 d b hd 0 0

/-- The scan's result: a chain's outputs at the steps that visit the tokens. -/
def hOf (R : Args) (d : Fin 2) (b : Fin 4) (n : Fin 8192) (hd : Fin 4) (e : Fin 512) : ℝ :=
  (chainOf R d b hd).H (if d.val = 0 then n.val else 8191 - n.val) (e.castLE (by decide))

/-- The tokens of a forward chunk. -/
theorem tok_fwd {L : ℕ} (T : ℕ) (j : Fin L) (h : T + j.val < 8192) : tok 0 (T + j.val) = ⟨T + j.val, h⟩ := by
  apply Fin.ext
  show (T + j.val) % 8192 = T + j.val
  omega

/-- The tokens of a chunk of a direction, in the kernel's order of rows. -/
theorem tok_chunk (d : ℕ) {c : ℕ} (hc : c < 32) (j : Fin 256) :
    (tok d (256 * c + (posOf d j).val)).val = 256 * (if d = 0 then c else 31 - c) + j.val := by
  unfold tok posOf
  split
  · show (256 * c + j.val) % 8192 = _
    omega
  · show 8192 - ((256 * c + (256 - (j.val + 1))) % 8192 + 1) = _
    omega

/-- The step that visits a token of a chunk. -/
theorem step_chunk (d : ℕ) {c : ℕ} (hc : c < 32) (j : Fin 256) :
    256 * c + (posOf d j).val = if d = 0 then 256 * (if d = 0 then c else 31 - c) + j.val
      else 8191 - (256 * (if d = 0 then c else 31 - c) + j.val) := by
  unfold posOf
  split
  · rfl
  · show 256 * c + (256 - (j.val + 1)) = _
    omega

end Cert.Scan

end
-- ==== Proof.ScanKernel.lean ====
/-
  The scan kernel's value: what its two scratches hold after a grid point, and its result, over the chains.
-/
module

public import proofs.«01_k».proof.Proof.ScanBlock
public import proofs.«01_k».proof.Proof.Chains
public import proofs.«01_k».proof.Proof.Gen.KernelIdeal.Value
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.KernelIdeal.Scan

open Cert.KernelIdeal Cert.KernelIdeal.Gen Cert.Scan Idealize.ShloMosaic Idealize.ShloMosaic.TcCoe Idealize.SL.Sem
open Idealize.ShloMosaic.Pipeline (Dat)

variable (m : (ℓ : Loc nD τ sig) → Buf (Elt Ideal) ℓ) (c : Dev nD)

/-- The launch memory holds the arguments `R`. -/
structure Holds (R : Args) : Prop where
  q : ∀ b n j, m ((c : Thread nD τ).loc main_arg0) (ix3 b n j) = (R.q b n j : EReal)
  k : ∀ b n j, m ((c : Thread nD τ).loc main_arg1) (ix3 b n j) = (R.k b n j : EReal)
  v : ∀ b n j, m ((c : Thread nD τ).loc main_arg2) (ix3 b n j) = (R.v b n j : EReal)
  g : ∀ b n j, m ((c : Thread nD τ).loc main_arg3) (ix3 b n j) = (R.g b n j : EReal)
  c0 : ∀ d b h i e, m ((c : Thread nD τ).loc main_arg4) (ix5 d b h i e) = (R.c0 d b h i e : EReal)
  m0 : ∀ d b h i e, m ((c : Thread nD τ).loc main_arg5) (ix5 d b h i e) = (R.m0 d b h i e : EReal)

/-- A point's direction. -/
def dOf (t : ℕ) : Fin 2 := ⟨t / 512 % 2, Nat.mod_lt _ (by decide)⟩
/-- A point's sample. -/
def bOf (t : ℕ) : Fin 4 := ⟨t / 128 % 4, Nat.mod_lt _ (by decide)⟩
/-- A point's head. -/
def hdOf (t : ℕ) : Fin 4 := ⟨t / 32 % 4, Nat.mod_lt _ (by decide)⟩
/-- The place in the arrays of a point's chunk. -/
def ceff (t : ℕ) : ℕ := if (dOf t).val = 0 then t % 32 else 31 - t % 32

/-- The direction is the first grid coordinate. -/
theorem coord0 : ∀ t : Fin cfg0.N, (grid0.coords t 0).val = (dOf t.val).val := by decide +kernel

/-- The block of the queries. -/
theorem idx0 : ∀ t : Fin cfg0.N, win0_0.index t 0 = (bOf t.val).val ∧ win0_0.index t 1 = ceff t.val
    ∧ win0_0.index t 2 = (hdOf t.val).val := by decide +kernel
/-- The block of the keys. -/
theorem idx1 : ∀ t : Fin cfg0.N, win0_1.index t 0 = (bOf t.val).val ∧ win0_1.index t 1 = ceff t.val
    ∧ win0_1.index t 2 = (hdOf t.val).val := by decide +kernel
/-- The block of the values. -/
theorem idx2 : ∀ t : Fin cfg0.N, win0_2.index t 0 = (bOf t.val).val ∧ win0_2.index t 1 = ceff t.val
    ∧ win0_2.index t 2 = (hdOf t.val).val := by decide +kernel
/-- The block of the gates. -/
theorem idx3 : ∀ t : Fin cfg0.N, win0_3.index t 0 = (bOf t.val).val ∧ win0_3.index t 1 = (dOf t.val).val
    ∧ win0_3.index t 2 = (hdOf t.val).val ∧ win0_3.index t 3 = 0 ∧ win0_3.index t 4 = ceff t.val := by decide +kernel
/-- The block of the initial state. -/
theorem idx4 : ∀ t : Fin cfg0.N, win0_4.index t 0 = (dOf t.val).val ∧ win0_4.index t 1 = (bOf t.val).val
    ∧ win0_4.index t 2 = (hdOf t.val).val ∧ win0_4.index t 3 = 0 ∧ win0_4.index t 4 = 0 := by decide +kernel
/-- The block of the initial stabilizer. -/
theorem idx5 : ∀ t : Fin cfg0.N, win0_5.index t 0 = (dOf t.val).val ∧ win0_5.index t 1 = (bOf t.val).val
    ∧ win0_5.index t 2 = (hdOf t.val).val ∧ win0_5.index t 3 = 0 ∧ win0_5.index t 4 = 0 := by decide +kernel
/-- The block of the result. -/
theorem idx6 : ∀ t : Fin cfg0.N, win0_6.index t 0 = (dOf t.val).val ∧ win0_6.index t 1 = (bOf t.val).val
    ∧ win0_6.index t 2 = ceff t.val ∧ win0_6.index t 3 = (hdOf t.val).val := by decide +kernel

/-- A point's chunk lies inside the arrays. -/
theorem ceff_lt (t : ℕ) : ceff t < 32 := by unfold ceff; split <;> omega

/-- A row of a point's chunk, as a row of the arrays. -/
def rowOf (t : ℕ) (j : Fin 256) : Fin 8192 := ⟨256 * ceff t + j.val, by have := ceff_lt t; omega⟩

/-- It is the token its step visits. -/
theorem tok_row (t : ℕ) (j : Fin 256) : tok (dOf t) (256 * (t % 32) + (posOf (dOf t).val j).val) = rowOf t j :=
  Fin.ext (tok_chunk (dOf t).val (Nat.mod_lt _ (by decide)) j)

/-- A queries block, at an index. -/
theorem q_blk (t : Fin cfg0.N) (j : Fin 256) (e : Fin 512) :
    iblk m c 0 t (ix3 0 j e) = m ((c : Thread nD τ).loc main_arg0) (ix3 (bOf t.val) (rowOf t.val j) (lane (hdOf t.val) e)) := by
  obtain ⟨h0, h1, h2⟩ := idx0 t
  blk_ext [iblk, V, h0, h1, h2, rowOf, lane]

/-- A keys block, at an index. -/
theorem k_blk (t : Fin cfg0.N) (j : Fin 256) (e : Fin 512) :
    iblk m c 1 t (ix3 0 j e) = m ((c : Thread nD τ).loc main_arg1) (ix3 (bOf t.val) (rowOf t.val j) (lane (hdOf t.val) e)) := by
  obtain ⟨h0, h1, h2⟩ := idx1 t
  blk_ext [iblk, V, h0, h1, h2, rowOf, lane]

/-- A values block, at an index. -/
theorem v_blk (t : Fin cfg0.N) (j : Fin 256) (e : Fin 512) :
    iblk m c 2 t (ix3 0 j e) = m ((c : Thread nD τ).loc main_arg2) (ix3 (bOf t.val) (rowOf t.val j) (lane (hdOf t.val) e)) := by
  obtain ⟨h0, h1, h2⟩ := idx2 t
  blk_ext [iblk, V, h0, h1, h2, rowOf, lane]

/-- A gates block, at an index. -/
theorem g_blk (t : Fin cfg0.N) (kind : Fin 2) (j : Fin 256) :
    iblk m c 3 t (ix5 0 0 0 kind j)
      = m ((c : Thread nD τ).loc main_arg3) (ix3 (bOf t.val) (rowOf t.val j) (gate (dOf t.val) kind (hdOf t.val))) := by
  obtain ⟨h0, h1, h2, h3, h4⟩ := idx3 t
  blk_simp [iblk, h0, h1, h2, h3, h4]
  entry_read
  pointwise
  blk_ext [h0, h1, h2, h3, h4, rowOf, gate]

/-- An initial state block, at an index. -/
theorem c_blk (t : Fin cfg0.N) (i : Fin 512) (e : Fin 640) :
    iblk m c 4 t (ix5 0 0 0 i e) = m ((c : Thread nD τ).loc main_arg4) (ix5 (dOf t.val) (bOf t.val) (hdOf t.val) i e) := by
  obtain ⟨h0, h1, h2, h3, h4⟩ := idx4 t
  blk_ext [iblk, V, h0, h1, h2, h3, h4]

/-- An initial stabilizer block, at an index. -/
theorem m_blk (t : Fin cfg0.N) (i : Fin 8) (e : Fin 128) :
    iblk m c 5 t (ix5 0 0 0 i e) = m ((c : Thread nD τ).loc main_arg5) (ix5 (dOf t.val) (bOf t.val) (hdOf t.val) i e) := by
  obtain ⟨h0, h1, h2, h3, h4⟩ := idx5 t
  blk_ext [iblk, V, h0, h1, h2, h3, h4]

end Cert.KernelIdeal.Scan

end
-- ==== Proof.ScanKernelRun.lean ====
/-
  The scan kernel's value: what its two scratches hold after a grid point, and its result, over the chains.
-/
module

public import proofs.«01_k».proof.Proof.ScanKernel

@[expose] public section

set_option maxRecDepth 16384

noncomputable section

namespace Cert.KernelIdeal.Scan

open Cert.KernelIdeal Cert.KernelIdeal.Gen Cert.Scan Idealize.ShloMosaic Idealize.ShloMosaic.TcCoe Idealize.SL.Sem
open Idealize.ShloMosaic.Pipeline (Dat)

variable (m : (ℓ : Loc nD τ sig) → Buf (Elt Ideal) ℓ) (c : Dev nD) {R : Args} (hR : Holds m c R)

/-- The chain a point works on. -/
def chainAt (R : Args) (t : ℕ) : Chain := chainOf R (dOf t) (bOf t) (hdOf t)

/-- The step at which a point's chunk begins. -/
def start (t : ℕ) : ℕ := 256 * (t % 32)

section
include hR

/-- A point's gates are its chain's. -/
theorem gates (t : Fin cfg0.N) : Gates (chainAt R t.val) (start t.val) (posOf (grid0.coords t 0).val)
    (View.ld (iblk m c 3 t) (Rect.unit ![0, 0, 0, 0, 0] ![1, 1, 1, 1, 256] inb_S1x1x1x2x256_S1x1x1x1x256_0_0_0_0_0))
    (View.ld (iblk m c 3 t) (Rect.unit ![0, 0, 0, 1, 0] ![1, 1, 1, 1, 256] inb_S1x1x1x2x256_S1x1x1x1x256_0_0_0_1_0)) := by
  rw [coord0 t]
  refine ⟨fun s => ?_, fun s => R.g (bOf t.val) (rowOf t.val s) (gate (dOf t.val) 1 (hdOf t.val)), fun s => ?_, fun s => ?_⟩
  · pointwise
    refine (g_blk m c t 0 s).trans ((hR.g _ _ _).trans ?_)
    rw [← tok_row]; rfl
  · pointwise
    exact (g_blk m c t 1 s).trans (hR.g _ _ _)
  · show logsig (R.g _ (tok _ _) _) = logsig (R.g _ (rowOf t.val s) _)
    rw [← tok_row]; rfl

/-- A point's rows are its chain's. -/
theorem rows (t : Fin cfg0.N) : Rows (chainAt R t.val) (start t.val) (posOf (grid0.coords t 0).val)
    (iblk m c 0 t) (iblk m c 1 t) (iblk m c 2 t) := by
  rw [coord0 t]
  refine ⟨fun j e => ?_, fun j e => ?_, fun j e h => ?_, fun s e h => ?_⟩
  · rw [q_blk m c t j e, hR.q, ← tok_row]; rfl
  · rw [k_blk m c t j e, hR.k, ← tok_row]; rfl
  · rw [v_blk m c t j ⟨e.val, h⟩, hR.v, ← tok_row]
    congr 1
    exact (show (chainAt R t.val).w _ e = _ from dif_pos h).symm
  · exact dif_neg h

/-- What a point leaves: the state and the stabilizer after its chunk, and its chunk's outputs. -/
structure Left (R : Args) (t : Fin cfg0.N) : Prop where
  out : ∀ j e, (outsAt0 m c t.val t.isLt).1 (ix4 0 0 j e)
    = ((chainAt R t.val).H (start t.val + (posOf (dOf t.val).val j).val) (e.castLE (by decide)) : EReal)
  st : ∀ d e, (outsAt0 m c t.val t.isLt).2.1 (ix2 d e) = ((chainAt R t.val).St (start t.val + 256) d e : EReal)
  mm : ∀ r l, (outsAt0 m c t.val t.isLt).2.2 (ix2 r l) = ((chainAt R t.val).M (start t.val + 256) : EReal)

/-- The first point of a run. -/
theorem left_A (t : Fin cfg0.N) (h0 : t.val % 32 = 0) : Left m c R t := by
  have hg := gates m c hR t
  have hr := rows m c hR t
  have hT : start t.val = 0 := by rw [start, h0]
  have h76 : k0_pay6 (iblk m c 5 t) (ix2 0 0)
      = ((chainAt R t.val).M (start t.val) : EReal) := by
    rw [hT, Chain.M_zero]
    pointwise [k0_pay6]
    exact (m_blk m c t 0 0).trans (hR.m0 _ _ _ _ _)
  have h112 : ∀ d e, k0_pay5 (iblk m c 4 t) (ix2 d e) = ((chainAt R t.val).St (start t.val) d e : EReal) := fun d e => by
    rw [hT, Chain.St_zero]
    pointwise [k0_pay5]
    exact (c_blk m c t d e).trans (hR.c0 _ _ _ _ _)
  have h12 := mask (grid0.coords t)
  have h19 := mask_t (grid0.coords t)
  refine ⟨fun j e => ?_, fun d e => ?_, fun r l => ?_⟩
  · rw [outsAt0_A m c t h0, ← coord0 t]
    frame_out
    simp (disch := decide) only [↓ View.readCov_skip, ↓ View.readCov_cons_toLoadRect, ↓ View.readCov_fill]
    exact h_out hr hg (by pointwise; exact h76) h12 h19 h112 j e
  · rw [outsAt0_A m c t h0]
    frame_out
    simp (disch := decide) only [↓ View.readCov_skip, ↓ View.readCov_cons_toLoadRect, ↓ View.readCov_fill]
    exact c_new hr hg (by pointwise; exact h76) h12 h19 mask_eye h112 d e
  · rw [outsAt0_A m c t h0]
    frame_out
    simp (disch := decide) only [↓ View.readCov_skip, ↓ View.readCov_cons_toLoadRect, ↓ View.readCov_fill]
    exact m_buf hg (by pointwise; exact h76) h19 r l

/-- A later point of a run, from the point before. -/
theorem left_B (t : Fin cfg0.N) (h0 : ¬ t.val % 32 = 0)
    (ih : Left m c R ⟨t.val - 1, lt_of_le_of_lt (Nat.sub_le _ _) t.isLt⟩) : Left m c R t := by
  have hg := gates m c hR t
  have hr := rows m c hR t
  have hT : start (t.val - 1) + 256 = start t.val := by unfold start; omega
  have hC : chainAt R (t.val - 1) = chainAt R t.val := by
    have e1 : dOf (t.val - 1) = dOf t.val := Fin.ext (show (t.val - 1) / 512 % 2 = t.val / 512 % 2 by omega)
    have e2 : bOf (t.val - 1) = bOf t.val := Fin.ext (show (t.val - 1) / 128 % 4 = t.val / 128 % 4 by omega)
    have e3 : hdOf (t.val - 1) = hdOf t.val := Fin.ext (show (t.val - 1) / 32 % 4 = t.val / 32 % 4 by omega)
    rw [chainAt, e1, e2, e3]; rfl
  have h112 := ih.st
  have h76 := ih.mm
  simp only [hT, hC] at h112 h76
  have h12 := mask (grid0.coords t)
  have h19 := mask_t (grid0.coords t)
  refine ⟨fun j e => ?_, fun d e => ?_, fun r l => ?_⟩
  · rw [outsAt0_B m c t h0, ← coord0 t]
    frame_out
    simp only [read_unread_whole]
    exact h_out hr hg (by pointwise; exact h76 0 0) h12 h19 h112 j e
  · rw [outsAt0_B m c t h0]
    frame_out
    simp only [read_unread_whole]
    exact c_new hr hg (by pointwise; exact h76 0 0) h12 h19 mask_eye h112 d e
  · rw [outsAt0_B m c t h0]
    frame_out
    simp only [read_unread_whole]
    exact m_buf hg (by pointwise; exact h76 0 0) h19 r l

/-- What every point leaves. -/
theorem left : ∀ (n : ℕ) (h : n < cfg0.N), Left m c R ⟨n, h⟩
  | 0, h => left_A m c hR ⟨0, h⟩ rfl
  | n + 1, h => by
    by_cases h0 : (n + 1) % 32 = 0
    · exact left_A m c hR ⟨n + 1, h⟩ h0
    · exact left_B m c hR ⟨n + 1, h⟩ h0 (left n _)

end

/-- The result, as one array. -/
def result (R : Args) : FVec Ideal S2x4x8192x2048 .f32 := fun i =>
  ((hOf R (i 0) (i 1) (i 2) ⟨(i 3).val / 512, by have : (i 3).val < 2048 := (i 3).isLt; omega⟩ ⟨(i 3).val % 512, Nat.mod_lt _ (by decide)⟩ : ℝ) : EReal)

/-- Every block of the result is some point's. -/
theorem covers6 : (cfg0.win 6).Covers := (cfg0.win 6).covers_of_index_surj rfl (by decide) fun β => by
  have b0 : (β 0).val < 2 := (β 0).isLt
  have b1 : (β 1).val < 4 := (β 1).isLt
  have b2 : (β 2).val < 32 := (β 2).isLt
  have b3 : (β 3).val < 4 := (β 3).isLt
  obtain ⟨n, hn⟩ : ∃ n, n = (((β 0).val * 4 + (β 1).val) * 4 + (β 3).val) * 32
    + (if (β 0).val = 0 then (β 2).val else 31 - (β 2).val) := ⟨_, rfl⟩
  have e0 : n / 512 % 2 = (β 0).val := by split at hn <;> omega
  have e1 : n / 128 % 4 = (β 1).val := by split at hn <;> omega
  have e3 : n / 32 % 4 = (β 3).val := by split at hn <;> omega
  have e2 : n % 32 = if (β 0).val = 0 then (β 2).val else 31 - (β 2).val := by split at hn <;> rename_i h <;> simp only [h, if_true, if_false] <;> omega
  have hN : n < cfg0.N := lt_of_lt_of_eq (by split at hn <;> omega) (show 1024 = cfg0.N from N_0.symm)
  obtain ⟨h0, h1, h2, h3⟩ := idx6 ⟨n, hN⟩
  have e2' : ceff n = (β 2).val := by
    show (if n / 512 % 2 = 0 then n % 32 else 31 - n % 32) = _
    rw [e0, e2]
    split <;> omega
  refine ⟨⟨n, hN⟩, fun a => ?_⟩
  match a with
  | ⟨0, _⟩ => exact h0.trans e0
  | ⟨1, _⟩ => exact h1.trans e1
  | ⟨2, _⟩ => exact h2.trans e2'
  | ⟨3, _⟩ => exact h3.trans e3

include hR

/-- THE SCAN KERNEL'S RESULT ARRAY: every chain's outputs. -/
theorem final : (dats m 0 c).arrAt 6 cfg0.N = result R := by
  refine (dats m 0 c).arrAt_eq_of_covers 6 _ covers6 fun t hf y => ?_
  have key : ∀ y : S1x1x256x512.Idx, (outsAt0 m c t.val t.isLt).1 y
      = result R (ix4 (dOf t.val) (bOf t.val) (rowOf t.val (y 2)) (lane (hdOf t.val) (y 3))) := by
    intro y
    idx_vars y
    obtain rfl : y0 = 0 := Subsingleton.elim _ _
    obtain rfl : y1 = 0 := Subsingleton.elim _ _
    rw [(left m c hR t.val t.isLt).out y2 y3]
    have e1 : (⟨(lane (hdOf t.val) y3).val / 512, by have := (lane (hdOf t.val) y3).isLt; omega⟩ : Fin 4) = hdOf t.val :=
      Fin.ext (show ((hdOf t.val).val * 512 + y3.val) / 512 = _ by omega)
    have e2 : (⟨(lane (hdOf t.val) y3).val % 512, Nat.mod_lt _ (by decide)⟩ : Fin 512) = y3 :=
      Fin.ext (show ((hdOf t.val).val * 512 + y3.val) % 512 = _ by omega)
    have e3 : start t.val + (posOf (dOf t.val).val y2).val
        = if (dOf t.val).val = 0 then (rowOf t.val y2).val else 8191 - (rowOf t.val y2).val :=
      step_chunk (dOf t.val).val (Nat.mod_lt _ (by decide)) y2
    show _ = ((hOf R (dOf t.val) (bOf t.val) (rowOf t.val y2) ⟨(lane (hdOf t.val) y3).val / 512, _⟩
      ⟨(lane (hdOf t.val) y3).val % 512, _⟩ : ℝ) : EReal)
    rw [e1, e2, e3]
    rfl
  obtain ⟨h0, h1, h2, h3⟩ := idx6 t
  blk_simp
  refine (congrFun (after0_6 m c t) y).trans ((key y).trans (congrArg (result R) ?_))
  blk_ext [h0, h1, h2, h3, rowOf, lane]

end Cert.KernelIdeal.Scan

end
-- ==== Proof.ScanRefOps.lean ====
/-
  Two operations of the scan's reference at an index: the running sum along a chunk, and a read or a write of the
  chunk a counter names.
-/
module

public import proofs.«01_k».proof.Proof.Chains
public import proofs.«01_k».proof.Proof.Gen.ReferenceIdeal.Run
public import Idealize.ShloMosaic.Lib.StableHlo.ReadAt
public import Idealize.ShloMosaic.Lib.Pointwise
public import Idealize.ShloMosaic.Lib.DynamicIndex
public import Idealize.ShloMosaic.Lib.Pipeline.Value
public import Idealize.ShloMosaic.Lib.Tactic.CleanTypes

@[expose] public section

set_option maxRecDepth 16384

noncomputable section

namespace Cert.ReferenceIdeal.Scan

open Cert.ReferenceIdeal Cert.ReferenceIdeal.Gen Cert.ReferenceIdeal.Value Cert.Scan Idealize.ShloMosaic Idealize.ShloMosaic.TcCoe Idealize.SL.Sem
open Idealize.ShloMosaic.StableHlo

/-- A left fold that adds is the sum of what it adds. -/
theorem foldl_add {n : ℕ} (f : Fin n → EReal) :
    (List.finRange n).foldl (fun r i => r + f i) 0 = ∑ i, f i := by
  rw [← List.foldl_map (f := f) (g := fun r x => r + x), ← List.sum_eq_foldl, ← Fin.sum_univ_def]

/-- The window's positions run along its last axis. -/
theorem window_pos : ∀ n : Fin (⟨3, ![1, 1, 64]⟩ : Shape).numel, (((⟨3, ![1, 1, 64]⟩ : Shape).rowMajor.symm n) 0).val = 0
    ∧ (((⟨3, ![1, 1, 64]⟩ : Shape).rowMajor.symm n) 1).val = 0
    ∧ (((⟨3, ![1, 1, 64]⟩ : Shape).rowMajor.symm n) 2).val = n.val := by decide +kernel

/-- The running sum along a chunk, at a row: the sum over the rows up to it. -/
theorem cumsum (x : FVec Ideal S8x4x64 .f32) (init : FVec Ideal S_ .f32) (hi : init (Shape.Idx.first h_S_) = (0 : EReal))
    (B : Fin 8) (hd : Fin 4) (j : Fin 64) :
    (Host.reduceWindowAdd ![1, 1, 64] ![1, 1, 1] ![0, 0, 63] ![0, 0, 0] x init
        reduceWindows_S8x4x64_S8x4x64_w1s1p0_0_w1s1p0_0_w64s1p63_0 h_S_ : FVec Ideal S8x4x64 .f32) (ix3 B hd j)
      = ∑ s : Fin 64, if s ≤ j then (x (ix3 B hd s) : EReal) else 0 := by
  have hn : (⟨3, ![1, 1, 64]⟩ : Shape).numel = 64 := by decide
  have e : (Host.reduceWindowAdd ![1, 1, 64] ![1, 1, 1] ![0, 0, 63] ![0, 0, 0] x init
        reduceWindows_S8x4x64_S8x4x64_w1s1p0_0_w1s1p0_0_w64s1p63_0 h_S_ : FVec Ideal S8x4x64 .f32)
      = Host.reduceWindow (s := S8x4x64) (u := S_) (fun a b : EReal => a + b) ![1, 1, 64] ![1, 1, 1] ![0, 0, 63] ![0, 0, 0] x
        (fun _ => init (Shape.Idx.first h_S_)) reduceWindows_S8x4x64_S8x4x64_w1s1p0_0_w1s1p0_0_w64s1p63_0 h_S_ := rfl
  rw [e, hi]
  unfold Host.reduceWindow
  refine (foldl_add _).trans ?_
  refine (Finset.sum_congr (g := fun n : Fin (⟨3, ![1, 1, 64]⟩ : Shape).numel =>
    if h : 63 ≤ j.val + n.val then (x (ix3 B hd ⟨j.val + n.val - 63, by have := n.2; omega⟩) : EReal) else 0) rfl fun n _ => ?_).trans ?_
  · have hlt : n.val < 64 := n.2.trans_le hn.le
    obtain ⟨h0, h1, h2⟩ := window_pos n
    by_cases h : 63 ≤ j.val + n.val
    · rw [dif_pos h, dif_pos]
      · congr 1
        funext a
        apply Fin.ext
        fin_cases a
        · simp [ix3, h0]
        · simp [ix3, h1]
        · simp [ix3, h2]
      · intro a
        fin_cases a
        · simp [ix3, h0]
        · simp [ix3, h1]
        · simp [ix3, h2]; omega
    · rw [dif_neg h, dif_neg]
      intro hin
      have := (hin 2).1
      simp [ix3, h2] at this
      omega
  refine Fintype.sum_equiv ((finCongr hn).trans (Equiv.addLeft (j + 1))) _ _ fun n => ?_
  have hlt : n.val < 64 := n.2.trans_le hn.le
  have hv : (((finCongr hn).trans (Equiv.addLeft (j + 1))) n).val = (j.val + 1 + n.val) % 64 := by
    simp [Fin.val_add, Nat.add_assoc]
  by_cases h : 63 ≤ j.val + n.val
  · have : (((finCongr hn).trans (Equiv.addLeft (j + 1))) n) = ⟨j.val + n.val - 63, by omega⟩ := Fin.ext (by rw [hv]; show _ = j.val + n.val - 63; omega)
    rw [dif_pos h, this, if_pos]
    show j.val + n.val - 63 ≤ j.val
    omega
  · rw [dif_neg h, if_neg]
    rw [Fin.le_def, hv]
    omega

/-- A counter below 128, read signed. -/
theorem counter_toInt {k : ℕ} (hk : k < 128) : (BitVec.ofNat 32 k).toInt = k := toInt_ofNat_of_lt (by omega)

/-- The block of a counter's chunk lies inside. -/
theorem fits5 {k : ℕ} (hk : k < 128) : S128x8x4x64x512.Slices ![k, 0, 0, 0, 0] S1x8x4x64x512 :=
  ⟨rfl, fun a => by fin_cases a <;> simp <;> omega⟩

/-- The block of a counter's chunk lies inside. -/
theorem fits4 {k : ℕ} (hk : k < 128) : S128x8x4x64.Slices ![k, 0, 0, 0] S1x8x4x64 :=
  ⟨rfl, fun a => by fin_cases a <;> simp <;> omega⟩

variable (V : Valuation τ sig (Elt Ideal)) {k : ℕ} (hk : k < 128)
  (hc : (V (Proc.devRef .tc main_v43_6) : IVec S_ 32) = fun _ => BitVec.ofNat 32 k)

include hk hc in
/-- The start of a chunk's block, of five axes. -/
theorem start5 : (fun a : Fin 5 => (((![V (Proc.devRef .tc main_v43_6), constantI S_ 32 0#32, constantI S_ 32 0#32, constantI S_ 32 0#32, constantI S_ 32 0#32] : Fin 5 → (⟨S_, .i32⟩ : BufTy).Contents (Elt Ideal))) a (Shape.Idx.first h_S_)).toInt)
    = fun a => (((![k, 0, 0, 0, 0] : Fin 5 → ℕ) a : ℕ) : ℤ) := by
  funext a
  fin_cases a
  · show (V (Proc.devRef .tc main_v43_6) (Shape.Idx.first h_S_)).toInt = k
    rw [hc]; exact counter_toInt hk
  all_goals rfl

include hk hc in
/-- The start of a chunk's block, of four axes. -/
theorem start4 : (fun a : Fin 4 => (((![V (Proc.devRef .tc main_v43_6), constantI S_ 32 0#32, constantI S_ 32 0#32, constantI S_ 32 0#32] : Fin 4 → (⟨S_, .i32⟩ : BufTy).Contents (Elt Ideal))) a (Shape.Idx.first h_S_)).toInt)
    = fun a => (((![k, 0, 0, 0] : Fin 4 → ℕ) a : ℕ) : ℤ) := by
  funext a
  fin_cases a
  · show (V (Proc.devRef .tc main_v43_6) (Shape.Idx.first h_S_)).toInt = k
    rw [hc]; exact counter_toInt hk
  all_goals rfl

include hk hc in
/-- A read at a chunk's block of five axes. -/
theorem slice5 (x : FVec Ideal S128x8x4x64x512 .f32) :
    Host.dynamicSlice S1x8x4x64x512 x (fun k => (((![V (Proc.devRef .tc main_v43_6), constantI S_ 32 0#32, constantI S_ 32 0#32, constantI S_ 32 0#32, constantI S_ 32 0#32] : Fin 5 → (⟨S_, .i32⟩ : BufTy).Contents (Elt Ideal))) k (Shape.Idx.first h_S_)).toInt) sliceFits_S128x8x4x64x512_S1x8x4x64x512
      = extractStridedSlice S1x8x4x64x512 ![k, 0, 0, 0, 0] x (fits5 hk) :=
  Host.dynamicSlice_eq_extractStridedSlice _ _ _ _ _ (fits5 hk) fun a => congrFun (start5 V hk hc) a

include hk hc in
/-- A read at a chunk's block of four axes. -/
theorem slice4 (x : FVec Ideal S128x8x4x64 .f32) :
    Host.dynamicSlice S1x8x4x64 x (fun k => (((![V (Proc.devRef .tc main_v43_6), constantI S_ 32 0#32, constantI S_ 32 0#32, constantI S_ 32 0#32] : Fin 4 → (⟨S_, .i32⟩ : BufTy).Contents (Elt Ideal))) k (Shape.Idx.first h_S_)).toInt) sliceFits_S128x8x4x64_S1x8x4x64
      = extractStridedSlice S1x8x4x64 ![k, 0, 0, 0] x (fits4 hk) :=
  Host.dynamicSlice_eq_extractStridedSlice _ _ _ _ _ (fits4 hk) fun a => congrFun (start4 V hk hc) a

include hk hc in
/-- A write of a chunk's block. -/
theorem update5 (x : FVec Ideal S128x8x4x64x512 .f32) (u : FVec Ideal S1x8x4x64x512 .f32) :
    Host.dynamicUpdateSlice x u (fun k => (((![V (Proc.devRef .tc main_v43_6), constantI S_ 32 0#32, constantI S_ 32 0#32, constantI S_ 32 0#32, constantI S_ 32 0#32] : Fin 5 → (⟨S_, .i32⟩ : BufTy).Contents (Elt Ideal))) k (Shape.Idx.first h_S_)).toInt) updateFits_S128x8x4x64x512_S1x8x4x64x512
      = updateSlice x u ![k, 0, 0, 0, 0] (fits5 hk) :=
  Host.dynamicUpdateSlice_eq_updateSlice _ _ _ _ _ (fun a => by
    rewrite [congrFun (start5 V hk hc) a]
    have := (fits5 hk).2 a
    have e : S1x8x4x64x512.size (a.cast updateFits_S128x8x4x64x512_S1x8x4x64x512.1.symm) = S1x8x4x64x512.size (a.cast (fits5 hk).1.symm) := rfl
    omega) (fits5 hk)

end Cert.ReferenceIdeal.Scan

end
-- ==== Proof.ScanRefEntry.lean ====
/-
  What the scan's reference carries when its loop begins, over the chains.
-/
module

public import proofs.«01_k».proof.Proof.ScanRefOps

@[expose] public section

set_option maxRecDepth 16384

noncomputable section

namespace Cert.ReferenceIdeal.Scan

open Cert.ReferenceIdeal Cert.ReferenceIdeal.Gen Cert.ReferenceIdeal.Value Cert.Scan Idealize.ShloMosaic Idealize.ShloMosaic.TcCoe Idealize.SL.Sem
open Idealize.ShloMosaic.StableHlo

variable (m : (ℓ : Loc nD τ sig) → Buf (Elt Ideal) ℓ) (c : Dev nD)

/-- The launch memory holds the arguments `R`. -/
structure Holds (R : Args) : Prop where
  q : ∀ b n j, m ((c : Thread nD τ).loc main_arg0) (ix3 b n j) = (R.q b n j : EReal)
  k : ∀ b n j, m ((c : Thread nD τ).loc main_arg1) (ix3 b n j) = (R.k b n j : EReal)
  v : ∀ b n j, m ((c : Thread nD τ).loc main_arg2) (ix3 b n j) = (R.v b n j : EReal)
  g : ∀ b n j, m ((c : Thread nD τ).loc main_arg3) (ix3 b n j) = (R.g b n j : EReal)
  c0 : ∀ d b h i e, m ((c : Thread nD τ).loc main_arg4) (ix5 d b h i e) = (R.c0 d b h i e : EReal)
  m0 : ∀ d b h i e, m ((c : Thread nD τ).loc main_arg5) (ix5 d b h i e) = (R.m0 d b h i e : EReal)

/-- The direction of a row of the reference's batch. -/
def dir (B : Fin 8) : Fin 2 := ⟨B.val / 4, by omega⟩
/-- The sample of a row of the reference's batch. -/
def smp (B : Fin 8) : Fin 4 := ⟨B.val % 4, by omega⟩

/-- The chain of a row of the reference's batch. -/
abbrev chn (R : Args) (B : Fin 8) (hd : Fin 4) : Chain := chainOf R (dir B) (smp B) hd

/-- A row of the first half goes forwards. -/
theorem dir_lt {B : Fin 8} (h : B.val < 4) : dir B = 0 := Fin.ext (by show B.val / 4 = 0; omega)
/-- A row of the second half goes backwards. -/
theorem dir_ge {B : Fin 8} (h : ¬B.val < 4) : dir B = 1 := Fin.ext (by show B.val / 4 = 1; omega)
/-- The sample of a row of the first half. -/
theorem smp_lt {B : Fin 8} (h : B.val < 4) : smp B = ⟨B.val, h⟩ := Fin.ext (by show B.val % 4 = B.val; omega)
/-- The sample of a row of the second half. -/
theorem smp_ge {B : Fin 8} (h : ¬B.val < 4) : smp B = ⟨B.val - 4, by omega⟩ := Fin.ext (by show B.val % 4 = B.val - 4; omega)

/-- The token a forward row visits. -/
theorem tok_lt {B : Fin 8} (h : B.val < 4) (ch : Fin 128) (j : Fin 64) :
    tok (dir B).val (64 * ch.val + j.val) = ⟨ch.val * 64 + j.val, by omega⟩ := by
  have hd : (dir B).val = 0 := by show B.val / 4 = 0; omega
  unfold tok
  rw [if_pos hd]
  apply Fin.ext
  dsimp only
  omega

/-- The token a backward row visits. -/
theorem tok_ge {B : Fin 8} (h : ¬B.val < 4) (ch : Fin 128) (j : Fin 64) :
    tok (dir B).val (64 * ch.val + j.val) = Fin.rev ⟨ch.val * 64 + j.val, by omega⟩ := by
  have hd : ¬(dir B).val = 0 := by show ¬B.val / 4 = 0; omega
  unfold tok
  rw [if_neg hd]
  congr 1
  apply Fin.ext
  dsimp only
  omega

/-- Reading at a forward row's direction, sample and token. -/
theorem at_lt {α : Type} (f : Fin 2 → Fin 4 → Fin 8192 → α) {B : Fin 8} (h : B.val < 4) (ch : Fin 128) (j : Fin 64) :
    f 0 ⟨B.val, h⟩ ⟨ch.val * 64 + j.val, by omega⟩ = f (dir B) (smp B) (tok (dir B).val (64 * ch.val + j.val)) := by
  rw [smp_lt h, tok_lt h, dir_lt h]

/-- Reading at a backward row's direction, sample and token. -/
theorem at_ge {α : Type} (f : Fin 2 → Fin 4 → Fin 8192 → α) {B : Fin 8} (h : ¬B.val < 4) (ch : Fin 128) (j : Fin 64) :
    f 1 ⟨B.val - 4, by omega⟩ (Fin.rev ⟨ch.val * 64 + j.val, by omega⟩) = f (dir B) (smp B) (tok (dir B).val (64 * ch.val + j.val)) := by
  rw [smp_ge h, tok_ge h, dir_ge h]

/-- The places of the gates, by direction and kind. -/
theorem gate_at (hd : Fin 4) : gate 0 0 hd = ⟨hd.val, by omega⟩ ∧ gate 0 1 hd = ⟨4 + hd.val, by omega⟩
    ∧ gate 1 0 hd = ⟨8 + hd.val, by omega⟩ ∧ gate 1 1 hd = ⟨12 + hd.val, by omega⟩ := by
  refine ⟨Fin.ext ?_, Fin.ext ?_, Fin.ext ?_, Fin.ext ?_⟩ <;> simp [gate]

/-- The reference's logarithm of the logistic function. -/
theorem logsig_ref (x : ℝ) :
    (-(if (-(x : EReal)) ≠ -(x : EReal) then -(x : EReal)
      else max (-(x : EReal)) 0 + Ideal.log1p (Ideal.exp (-FloatOps.absf (F := Ideal) (φ := .f32) (-(x : EReal)))))) = ((logsig x : ℝ) : EReal) := by
  rw [if_neg (by simp), ← EReal.coe_neg, absf_coe, ← EReal.coe_neg, Ideal.exp_coe, log1p_coe (Real.exp_pos _).le, ← EReal.coe_zero,
    ← coe_max, ← EReal.coe_add, ← EReal.coe_neg]
  congr 1
  rw [logsig, abs_neg, neg_add', ← min_neg_neg, neg_neg, neg_zero]

variable {m c} {R : Args} (hR : Holds m c R)

include hR in
/-- The queries, in chunks. -/
theorem entry_q (ch : Fin 128) (B : Fin 8) (hd : Fin 4) (j : Fin 64) (e : Fin 512) :
    (entryContents preI m c (Proc.devRef .tc main_v43_0) : FVec Ideal S128x8x4x64x512 .f32) (ix5 ch B hd j e)
      = (((chn R B hd).q (64 * ch.val + j.val) e : ℝ) : EReal) := by
  have hq : (chn R B hd).q (64 * ch.val + j.val) e = R.q (smp B) (tok (dir B).val (64 * ch.val + j.val)) (lane hd e) := rfl
  have hl : ∀ b n l, launchContents m c (Proc.devRef .tc main_arg0) (ix3 b n l) = (R.q b n l : EReal) := hR.q
  rw [hq]
  generalize hz : ((R.q (smp B) (tok (dir B).val (64 * ch.val + j.val)) (lane hd e) : ℝ) : EReal) = z
  simp only [entryContents, afterL_cons, afterL_nil]
  after_reads_at
  simp only [id_eq]
  pointwise
  split
  · next h =>
    after_reads_at
    pointwise
    refine Eq.trans ?_ ((at_lt (fun _ b n => ((R.q b n (lane hd e) : ℝ) : EReal)) h ch j).trans hz)
    exact hl _ _ _
  · next h =>
    after_reads_at
    pointwise
    simp only [List.mem_singleton, Fin.isValue, Fin.reduceEq, zero_ne_one, ↓reduceIte]
    refine Eq.trans ?_ ((at_ge (fun _ b n => ((R.q b n (lane hd e) : ℝ) : EReal)) h ch j).trans hz)
    exact hl _ _ _

include hR in
/-- The keys, in chunks. -/
theorem entry_k (ch : Fin 128) (B : Fin 8) (hd : Fin 4) (j : Fin 64) (e : Fin 512) :
    (entryContents preI m c (Proc.devRef .tc main_v43_1) : FVec Ideal S128x8x4x64x512 .f32) (ix5 ch B hd j e)
      = (((chn R B hd).k (64 * ch.val + j.val) e : ℝ) : EReal) := by
  have hq : (chn R B hd).k (64 * ch.val + j.val) e = R.k (smp B) (tok (dir B).val (64 * ch.val + j.val)) (lane hd e) := rfl
  have hl : ∀ b n l, launchContents m c (Proc.devRef .tc main_arg1) (ix3 b n l) = (R.k b n l : EReal) := hR.k
  rw [hq]
  generalize hz : ((R.k (smp B) (tok (dir B).val (64 * ch.val + j.val)) (lane hd e) : ℝ) : EReal) = z
  simp only [entryContents, afterL_cons, afterL_nil]
  after_reads_at
  simp only [id_eq]
  pointwise
  split
  · next h =>
    after_reads_at
    pointwise
    refine Eq.trans ?_ ((at_lt (fun _ b n => ((R.k b n (lane hd e) : ℝ) : EReal)) h ch j).trans hz)
    exact hl _ _ _
  · next h =>
    after_reads_at
    pointwise
    simp only [List.mem_singleton, Fin.isValue, Fin.reduceEq, zero_ne_one, ↓reduceIte]
    refine Eq.trans ?_ ((at_ge (fun _ b n => ((R.k b n (lane hd e) : ℝ) : EReal)) h ch j).trans hz)
    exact hl _ _ _

include hR in
/-- The values, in chunks. -/
theorem entry_v (ch : Fin 128) (B : Fin 8) (hd : Fin 4) (j : Fin 64) (e : Fin 512) :
    (entryContents preI m c (Proc.devRef .tc main_v43_2) : FVec Ideal S128x8x4x64x512 .f32) (ix5 ch B hd j e)
      = (((chn R B hd).w (64 * ch.val + j.val) (e.castLE (by decide)) : ℝ) : EReal) := by
  have hq : (chn R B hd).w (64 * ch.val + j.val) (e.castLE (by decide)) = R.v (smp B) (tok (dir B).val (64 * ch.val + j.val)) (lane hd e) := dif_pos e.2
  have hl : ∀ b n l, launchContents m c (Proc.devRef .tc main_arg2) (ix3 b n l) = (R.v b n l : EReal) := hR.v
  rw [hq]
  generalize hz : ((R.v (smp B) (tok (dir B).val (64 * ch.val + j.val)) (lane hd e) : ℝ) : EReal) = z
  simp only [entryContents, afterL_cons, afterL_nil]
  after_reads_at
  simp only [id_eq]
  pointwise
  split
  · next h =>
    after_reads_at
    pointwise
    refine Eq.trans ?_ ((at_lt (fun _ b n => ((R.v b n (lane hd e) : ℝ) : EReal)) h ch j).trans hz)
    exact hl _ _ _
  · next h =>
    after_reads_at
    pointwise
    simp only [List.mem_singleton, Fin.isValue, Fin.reduceEq, zero_ne_one, ↓reduceIte]
    refine Eq.trans ?_ ((at_ge (fun _ b n => ((R.v b n (lane hd e) : ℝ) : EReal)) h ch j).trans hz)
    exact hl _ _ _

include hR in
/-- The input gates, in chunks. -/
theorem entry_i (ch : Fin 128) (B : Fin 8) (hd : Fin 4) (j : Fin 64) :
    (entryContents preI m c (Proc.devRef .tc main_v43_3) : FVec Ideal S128x8x4x64 .f32) (ix4 ch B hd j)
      = (((chn R B hd).ig (64 * ch.val + j.val) : ℝ) : EReal) := by
  have hq : (chn R B hd).ig (64 * ch.val + j.val)
      = (R.g (smp B) (tok (dir B).val (64 * ch.val + j.val)) (gate (dir B) 0 hd)) := rfl
  have hl : ∀ b n l, launchContents m c (Proc.devRef .tc main_arg3) (ix3 b n l) = (R.g b n l : EReal) := hR.g
  obtain ⟨g00, g01, g10, g11⟩ := gate_at hd
  rw [hq]
  generalize hz : (((R.g (smp B) (tok (dir B).val (64 * ch.val + j.val)) (gate (dir B) 0 hd)) : ℝ) : EReal) = z
  simp only [entryContents, afterL_cons, afterL_nil]
  after_reads_at
  simp only [id_eq]
  pointwise
  split
  · next h =>
    after_reads_at
    pointwise
    refine Eq.trans ?_ ((at_lt (fun d b n => (((R.g b n (gate d 0 hd)) : ℝ) : EReal)) h ch j).trans hz)
    exact (hl _ _ _).trans (congrArg (fun i => ((R.g _ _ i : ℝ) : EReal)) g00.symm)
  · next h =>
    after_reads_at
    pointwise
    simp only [List.mem_singleton, Fin.isValue, Fin.reduceEq, zero_ne_one, ↓reduceIte]
    refine Eq.trans ?_ ((at_ge (fun d b n => (((R.g b n (gate d 0 hd)) : ℝ) : EReal)) h ch j).trans hz)
    exact (hl _ _ _).trans (congrArg (fun i => ((R.g _ _ i : ℝ) : EReal)) g10.symm)

include hR in
/-- The log forget gates, in chunks. -/
theorem entry_f (ch : Fin 128) (B : Fin 8) (hd : Fin 4) (j : Fin 64) :
    (entryContents preI m c (Proc.devRef .tc main_v43_4) : FVec Ideal S128x8x4x64 .f32) (ix4 ch B hd j)
      = (((chn R B hd).lf (64 * ch.val + j.val) : ℝ) : EReal) := by
  have hq : (chn R B hd).lf (64 * ch.val + j.val)
      = logsig (R.g (smp B) (tok (dir B).val (64 * ch.val + j.val)) (gate (dir B) 1 hd)) := rfl
  have hl : ∀ b n l, launchContents m c (Proc.devRef .tc main_arg3) (ix3 b n l) = (R.g b n l : EReal) := hR.g
  obtain ⟨g00, g01, g10, g11⟩ := gate_at hd
  rw [hq]
  generalize hz : ((logsig (R.g (smp B) (tok (dir B).val (64 * ch.val + j.val)) (gate (dir B) 1 hd)) : ℝ) : EReal) = z
  simp only [entryContents, afterL_cons, afterL_nil]
  after_reads_at
  simp only [id_eq]
  pointwise
  split
  · next h =>
    after_reads_at
    pointwise
    refine Eq.trans ?_ ((at_lt (fun d b n => ((logsig (R.g b n (gate d 1 hd)) : ℝ) : EReal)) h ch j).trans hz)
    simp only [hl]
    exact (logsig_ref _).trans (congrArg (fun i => ((logsig (R.g _ _ i) : ℝ) : EReal)) g01.symm)
  · next h =>
    after_reads_at
    pointwise
    simp only [List.mem_singleton, Fin.isValue, Fin.reduceEq, zero_ne_one, ↓reduceIte]
    refine Eq.trans ?_ ((at_ge (fun d b n => ((logsig (R.g b n (gate d 1 hd)) : ℝ) : EReal)) h ch j).trans hz)
    simp only [hl]
    exact (logsig_ref _).trans (congrArg (fun i => ((logsig (R.g _ _ i) : ℝ) : EReal)) g11.symm)

/-- The comparison of two places in a chunk, as words. -/
theorem mask_word : ∀ j s : Fin 64,
    (Scalar.select (IntOp.cmpi CmpIPredicate.sge (IntOp.addi (BitVec.ofNat 32 j.val) 0#32) (BitVec.ofNat 32 s.val)) 1#1 0#1 : BitVec 1)
      = if s ≤ j then 1#1 else 0#1 := by decide +kernel

/-- The mask of a chunk: the rows up to a row. -/
theorem entry_mask (j s : Fin 64) :
    (entryContents preI m c (Proc.devRef .tc main_v43_5) : IVec S64x64 1) (ix2 j s) = if s ≤ j then 1#1 else 0#1 := by
  have e : (entryContents preI m c (Proc.devRef .tc main_v43_5) : IVec S64x64 1) (ix2 j s)
      = Scalar.select (IntOp.cmpi CmpIPredicate.sge (IntOp.addi (BitVec.ofNat 32 j.val) 0#32) (BitVec.ofNat 32 s.val)) 1#1 0#1 := by
    simp only [entryContents, afterL_cons, afterL_nil]
    after_reads_at
    simp only [id_eq]
    pointwise
  exact e.trans (mask_word j s)

include hR in
/-- The initial state. -/
theorem entry_c (B : Fin 8) (hd : Fin 4) (d e : Fin 512) :
    (entryContents preI m c (Proc.devRef .tc main_v43_7) : FVec Ideal S8x4x512x512 .f32) (ix4 B hd d e)
      = (((chn R B hd).c0 d (e.castLE (by decide)) : ℝ) : EReal) := by
  have hl : ∀ b n l i j, launchContents m c (Proc.devRef .tc main_arg4) (ix5 b n l i j) = (R.c0 b n l i j : EReal) := hR.c0
  simp only [entryContents, afterL_cons, afterL_nil]
  after_reads_at
  try simp only [id_eq]
  pointwise
  exact hl _ _ _ _ _

include hR in
/-- The initial normalizer. -/
theorem entry_n (B : Fin 8) (hd : Fin 4) (d : Fin 512) :
    (entryContents preI m c (Proc.devRef .tc main_v43_8) : FVec Ideal S8x4x512 .f32) (ix3 B hd d)
      = (((chn R B hd).c0 d 512 : ℝ) : EReal) := by
  have hl : ∀ b n l i j, launchContents m c (Proc.devRef .tc main_arg4) (ix5 b n l i j) = (R.c0 b n l i j : EReal) := hR.c0
  simp only [entryContents, afterL_cons, afterL_nil]
  after_reads_at
  try simp only [id_eq]
  pointwise
  exact hl _ _ _ _ _

include hR in
/-- The initial stabilizer. -/
theorem entry_m (B : Fin 8) (hd : Fin 4) :
    (entryContents preI m c (Proc.devRef .tc main_v43_9) : FVec Ideal S8x4 .f32) (ix2 B hd)
      = (((chn R B hd).m0 : ℝ) : EReal) := by
  have hl : ∀ b n l i j, launchContents m c (Proc.devRef .tc main_arg5) (ix5 b n l i j) = (R.m0 b n l i j : EReal) := hR.m0
  simp only [entryContents, afterL_cons, afterL_nil]
  after_reads_at
  try simp only [id_eq]
  pointwise
  exact hl _ _ _ _ _

end Cert.ReferenceIdeal.Scan

end
-- ==== Proof.ScanRefStep.lean ====
/-
  One turn of the scan reference's loop, over the chains: what a turn computes from what it carries.
-/
module

public import proofs.«01_k».proof.Proof.ScanRefEntry

@[expose] public section

set_option maxRecDepth 16384

noncomputable section

namespace Cert.ReferenceIdeal.Scan

open Cert.ReferenceIdeal Cert.ReferenceIdeal.Gen Cert.ReferenceIdeal.Value Cert.Scan Idealize.ShloMosaic Idealize.ShloMosaic.TcCoe Idealize.SL.Sem
open Idealize.ShloMosaic.StableHlo

/-- What the loop carries before turn `n`: the arguments in chunks, the chains' states and the outputs so far. -/
structure At (R : Args) (V : Valuation τ sig (Elt Ideal)) (n : ℕ) : Prop where
  q : ∀ ch B hd j e, (V (Proc.devRef .tc main_v43_0) : FVec Ideal S128x8x4x64x512 .f32) (ix5 ch B hd j e)
    = (((chn R B hd).q (64 * ch.val + j.val) e : ℝ) : EReal)
  k : ∀ ch B hd j e, (V (Proc.devRef .tc main_v43_1) : FVec Ideal S128x8x4x64x512 .f32) (ix5 ch B hd j e)
    = (((chn R B hd).k (64 * ch.val + j.val) e : ℝ) : EReal)
  v : ∀ ch B hd j (e : Fin 512), (V (Proc.devRef .tc main_v43_2) : FVec Ideal S128x8x4x64x512 .f32) (ix5 ch B hd j e)
    = (((chn R B hd).w (64 * ch.val + j.val) (e.castLE (by decide)) : ℝ) : EReal)
  i : ∀ ch B hd j, (V (Proc.devRef .tc main_v43_3) : FVec Ideal S128x8x4x64 .f32) (ix4 ch B hd j)
    = (((chn R B hd).ig (64 * ch.val + j.val) : ℝ) : EReal)
  f : ∀ ch B hd j, (V (Proc.devRef .tc main_v43_4) : FVec Ideal S128x8x4x64 .f32) (ix4 ch B hd j)
    = (((chn R B hd).lf (64 * ch.val + j.val) : ℝ) : EReal)
  mask : ∀ j s : Fin 64, (V (Proc.devRef .tc main_v43_5) : IVec S64x64 1) (ix2 j s) = if s ≤ j then 1#1 else 0#1
  ctr : (V (Proc.devRef .tc main_v43_6) : IVec S_ 32) = fun _ => BitVec.ofNat 32 n
  c : ∀ B hd d (e : Fin 512), (V (Proc.devRef .tc main_v43_7) : FVec Ideal S8x4x512x512 .f32) (ix4 B hd d e)
    = (((chn R B hd).St (64 * n) d (e.castLE (by decide)) : ℝ) : EReal)
  nrm : ∀ B hd d, (V (Proc.devRef .tc main_v43_8) : FVec Ideal S8x4x512 .f32) (ix3 B hd d)
    = (((chn R B hd).St (64 * n) d 512 : ℝ) : EReal)
  m : ∀ B hd, (V (Proc.devRef .tc main_v43_9) : FVec Ideal S8x4 .f32) (ix2 B hd) = (((chn R B hd).M (64 * n) : ℝ) : EReal)
  out : ∀ ch B hd j (e : Fin 512), ch.val < n → (V (Proc.devRef .tc main_v43_10) : FVec Ideal S128x8x4x64x512 .f32) (ix5 ch B hd j e)
    = (((chn R B hd).H (64 * ch.val + j.val) (e.castLE (by decide)) : ℝ) : EReal)

variable {R : Args} {V : Valuation τ sig (Elt Ideal)} {n : ℕ} (h : At R V n) (hn : n < 128) (B : Fin 8) (hd : Fin 4)

include h hn

/-- A turn's queries. -/
theorem v52 (j : Fin 64) (e : Fin 512) : (res_main_while0b_v52 V : FVec Ideal S8x4x64x512 .f32) (ix4 B hd j e)
    = (((chn R B hd).q (64 * n + j.val) e : ℝ) : EReal) := by
  unfold res_main_while0b_v52
  clean_types
  rewrite [slice5 V hn h.ctr]
  pointwise
  exact h.q ⟨n, hn⟩ B hd j e

/-- A turn's keys. -/
theorem v53 (j : Fin 64) (e : Fin 512) : (res_main_while0b_v53 V : FVec Ideal S8x4x64x512 .f32) (ix4 B hd j e)
    = (((chn R B hd).k (64 * n + j.val) e : ℝ) : EReal) := by
  unfold res_main_while0b_v53
  clean_types
  rewrite [slice5 V hn h.ctr]
  pointwise
  exact h.k ⟨n, hn⟩ B hd j e

/-- A turn's values. -/
theorem v54 (j : Fin 64) (e : Fin 512) : (res_main_while0b_v54 V : FVec Ideal S8x4x64x512 .f32) (ix4 B hd j e)
    = (((chn R B hd).w (64 * n + j.val) (e.castLE (by decide)) : ℝ) : EReal) := by
  unfold res_main_while0b_v54
  clean_types
  rewrite [slice5 V hn h.ctr]
  pointwise
  exact h.v ⟨n, hn⟩ B hd j e

/-- A turn's input gates. -/
theorem v55 (j : Fin 64) : (res_main_while0b_v55 V : FVec Ideal S8x4x64 .f32) (ix3 B hd j)
    = (((chn R B hd).ig (64 * n + j.val) : ℝ) : EReal) := by
  unfold res_main_while0b_v55
  clean_types
  rewrite [slice4 V hn h.ctr]
  pointwise
  exact h.i ⟨n, hn⟩ B hd j

/-- A turn's cumulative log forget gates. -/
theorem v57 (j : Fin 64) : (res_main_while0b_v57 V : FVec Ideal S8x4x64 .f32) (ix3 B hd j)
    = (((chn R B hd).F (64 * n + j.val + 1) - (chn R B hd).F (64 * n) : ℝ) : EReal) := by
  unfold res_main_while0b_v57
  clean_types
  rewrite [slice4 V hn h.ctr]
  refine (cumsum _ _ (by pointwise) B hd j).trans ?_
  have e : (∑ s : Fin 64, if s ≤ j then (chn R B hd).lf (64 * n + s.val) else 0)
      = (chn R B hd).F (64 * n + j.val + 1) - (chn R B hd).F (64 * n) := (chn R B hd).cum_eq (Equiv.refl (Fin 64)) (64 * n) j
  rewrite [← e, coe_sum]
  refine Finset.sum_congr rfl fun s _ => ?_
  rewrite [coe_ite]
  refine if_congr Iff.rfl ?_ rfl
  pointwise
  exact h.f ⟨n, hn⟩ B hd s

/-- The carried state's log weight at a row. -/
theorem v60 (j : Fin 64) : (res_main_while0b_v60 V : FVec Ideal S8x4x64 .f32) (ix3 B hd j)
    = (((chn R B hd).F (64 * n + j.val + 1) + (chn R B hd).X (64 * n) : ℝ) : EReal) := by
  unfold res_main_while0b_v60
  clean_types
  pointwise
  simp only [v57 h hn, h.m, ← EReal.coe_add]
  congr 1
  rewrite [Chain.M]
  ring

/-- A row's log weight at a row that reads it. -/
theorem v69 (j s : Fin 64) : (res_main_while0b_v69 V : FVec Ideal S8x4x64x64 .f32) (ix4 B hd j s)
    = if s ≤ j then (((chn R B hd).F (64 * n + j.val + 1) + (chn R B hd).G (64 * n + s.val) : ℝ) : EReal) else ⊥ := by
  unfold res_main_while0b_v69
  clean_types
  simp only [id_eq]
  pointwise
  simp only [v57 h hn, v55 h hn, h.mask, ← EReal.coe_add, ← EReal.coe_sub, ofBits_neg_inf]
  by_cases hs : s ≤ j
  · rewrite [if_pos hs, if_pos hs]
    refine Eq.trans (if_pos rfl) ?_
    congr 1
    rewrite [Chain.G]
    ring
  · rewrite [if_neg hs, if_neg hs]
    rfl

/-- The stabilizer of a row. -/
theorem v71 (j : Fin 64) : (res_main_while0b_v71 V : FVec Ideal S8x4x64 .f32) (ix3 B hd j)
    = (((chn R B hd).M (64 * n + j.val + 1) : ℝ) : EReal) := by
  unfold res_main_while0b_v71
  clean_types
  pointwise
  simp only [v60 h hn, v69 h hn, ofBits_neg_inf]
  exact (chn R B hd).max_upto (Equiv.refl (Fin 64)) (64 * n) j _

/-- The carried state's weight at a row. -/
theorem v73 (j : Fin 64) : (res_main_while0b_v73 V : FVec Ideal S8x4x64 .f32) (ix3 B hd j)
    = ((Real.exp ((chn R B hd).X (64 * n) - (chn R B hd).X (64 * n + j.val + 1)) : ℝ) : EReal) := by
  unfold res_main_while0b_v73
  clean_types
  pointwise
  simp only [v60 h hn, v71 h hn, ← EReal.coe_sub, Ideal.exp_coe]
  congr 2
  rewrite [Chain.M]
  ring

/-- A row's share at a row that reads it. -/
theorem v79 (j s : Fin 64) : (res_main_while0b_v79 V : FVec Ideal S8x4x64x64 .f32) (ix4 B hd j s)
    = (((∑ d, (chn R B hd).q (64 * n + j.val) d * (chn R B hd).k (64 * n + s.val) d)
        * (if s ≤ j then Real.exp ((chn R B hd).G (64 * n + s.val) - (chn R B hd).X (64 * n + j.val + 1)) else 0) : ℝ) : EReal) := by
  unfold res_main_while0b_v79
  clean_types
  pointwise
  simp only [v52 h hn, v53 h hn, v69 h hn, v71 h hn]
  rewrite [sum_coe_mul]
  by_cases hs : s ≤ j
  · rewrite [if_pos hs, if_pos hs, ← EReal.coe_sub, Ideal.exp_coe, ← EReal.coe_mul]
    congr 3
    rewrite [Chain.M]
    ring
  · rewrite [if_neg hs, if_neg hs, EReal.bot_sub, Ideal.exp_bot, mul_zero, mul_zero]
    rfl

/-- The chunk's total log forget gate. -/
theorem v98 : (res_main_while0b_v98 V : FVec Ideal S8x4 .f32) (ix2 B hd)
    = (((chn R B hd).F (64 * n + 64) - (chn R B hd).F (64 * n) : ℝ) : EReal) := by
  unfold res_main_while0b_v98
  clean_types
  pointwise
  exact v57 h hn B hd 63

/-- A row's log weight at the chunk's end. -/
theorem v102 (s : Fin 64) : (res_main_while0b_v102 V : FVec Ideal S8x4x64 .f32) (ix3 B hd s)
    = (((chn R B hd).F (64 * n + 64) + (chn R B hd).G (64 * n + s.val) : ℝ) : EReal) := by
  unfold res_main_while0b_v102
  clean_types
  pointwise
  simp only [v57 h hn, v55 h hn, v98 h hn, ← EReal.coe_add, ← EReal.coe_sub]
  congr 1
  rewrite [Chain.G]
  ring

/-- The stabilizer after the chunk. -/
theorem v105 : (res_main_while0b_v105 V : FVec Ideal S8x4 .f32) (ix2 B hd)
    = (((chn R B hd).M (64 * n + 64) : ℝ) : EReal) := by
  unfold res_main_while0b_v105
  clean_types
  pointwise
  simp only [v98 h hn, v102 h hn, h.m, ofBits_neg_inf, ← EReal.coe_add]
  refine Eq.trans ?_ ((chn R B hd).max_chunk (Equiv.refl (Fin 64)) (64 * n) ((chn R B hd).F (64 * n + 64)))
  congr 2
  rewrite [Chain.M]
  ring

/-- The carried state's weight after the chunk. -/
theorem v108 : (res_main_while0b_v108 V : FVec Ideal S8x4 .f32) (ix2 B hd)
    = ((Real.exp ((chn R B hd).X (64 * n) - (chn R B hd).X (64 * n + 64)) : ℝ) : EReal) := by
  unfold res_main_while0b_v108
  clean_types
  pointwise
  simp only [v98 h hn, v105 h hn, h.m, ← EReal.coe_add, ← EReal.coe_sub, Ideal.exp_coe]
  congr 2
  simp only [Chain.M]
  ring

/-- A key under its row's weight after the chunk. -/
theorem v115 (s : Fin 64) (d : Fin 512) : (res_main_while0b_v115 V : FVec Ideal S8x4x64x512 .f32) (ix4 B hd s d)
    = (((chn R B hd).k (64 * n + s.val) d * Real.exp ((chn R B hd).G (64 * n + s.val) - (chn R B hd).X (64 * n + 64)) : ℝ) : EReal) := by
  unfold res_main_while0b_v115
  clean_types
  pointwise
  simp only [v53 h hn, v102 h hn, v105 h hn, ← EReal.coe_sub, Ideal.exp_coe, ← EReal.coe_mul]
  congr 3
  simp only [Chain.M]
  ring

omit h hn in
/-- The values' column of ones. -/
theorem w_one (t : ℕ) : (chn R B hd).w t 512 = 1 := by
  unfold chn chainOf
  dsimp only
  rewrite [dif_neg (by decide), if_pos (by decide)]
  rfl

omit h hn in
/-- A column of the state after a turn. -/
theorem state_turn (d : Fin 512) (e : Fin 640) :
    (Real.exp ((chn R B hd).X (64 * n) - (chn R B hd).X (64 * n + 64)) : EReal) * ((chn R B hd).St (64 * n) d e : EReal)
      + ∑ x : Fin 64, (((chn R B hd).k (64 * n + x.val) d * Real.exp ((chn R B hd).G (64 * n + x.val) - (chn R B hd).X (64 * n + 64)) : ℝ) : EReal)
          * ((chn R B hd).w (64 * n + x.val) e : EReal)
      = (((chn R B hd).St (64 * (n + 1)) d e : ℝ) : EReal) := by
  rewrite [sum_coe_mul, ← EReal.coe_mul, ← EReal.coe_add]
  exact congrArg _ ((chn R B hd).St_chunk (Equiv.refl (Fin 64)) (64 * n) d e)

omit h hn in
/-- What a row of a turn reads, by column. -/
theorem read_turn (j : Fin 64) (e : Fin 640) :
    (Real.exp ((chn R B hd).X (64 * n) - (chn R B hd).X (64 * n + j.val + 1)) : EReal)
        * (∑ x, ((chn R B hd).q (64 * n + j.val) x : EReal) * ((chn R B hd).St (64 * n) x e : EReal))
      + ∑ x : Fin 64, (((∑ d, (chn R B hd).q (64 * n + j.val) d * (chn R B hd).k (64 * n + x.val) d)
          * (if x ≤ j then Real.exp ((chn R B hd).G (64 * n + x.val) - (chn R B hd).X (64 * n + j.val + 1)) else 0) : ℝ) : EReal)
          * ((chn R B hd).w (64 * n + x.val) e : EReal)
      = (((chn R B hd).num (64 * n + j.val) e : ℝ) : EReal) := by
  rewrite [sum_coe_mul, sum_coe_mul, ← EReal.coe_mul, ← EReal.coe_add]
  exact congrArg _ ((chn R B hd).num_chunk (Equiv.refl (Fin 64)) (64 * n) j e)

/-- The state after a turn. -/
theorem step_c (d e : Fin 512) : (step_main_v43_7 V : FVec Ideal S8x4x512x512 .f32) (ix4 B hd d e)
    = (((chn R B hd).St (64 * (n + 1)) d (e.castLE (by decide)) : ℝ) : EReal) := by
  unfold step_main_v43_7
  clean_types
  simp only [id_eq]
  pointwise
  simp only [v54 h hn, v108 h hn, v115 h hn, h.c]
  exact state_turn B hd d _

/-- The normalizer after a turn. -/
theorem step_n (d : Fin 512) : (step_main_v43_8 V : FVec Ideal S8x4x512 .f32) (ix3 B hd d)
    = (((chn R B hd).St (64 * (n + 1)) d 512 : ℝ) : EReal) := by
  unfold step_main_v43_8
  clean_types
  simp only [id_eq]
  pointwise
  simp only [v54 h hn, v108 h hn, v115 h hn, h.nrm]
  have e := state_turn (R := R) (n := n) B hd d 512
  simp only [w_one, EReal.coe_one, mul_one] at e
  exact e

/-- The stabilizer after a turn. -/
theorem step_m : (step_main_v43_9 V : FVec Ideal S8x4 .f32) (ix2 B hd)
    = (((chn R B hd).M (64 * (n + 1)) : ℝ) : EReal) := by
  unfold step_main_v43_9
  clean_types
  simp only [id_eq]
  pointwise
  exact v105 h hn B hd

/-- The outputs after a turn: the turn's chunk is written, the others are as they were. -/
theorem step_out (ch : Fin 128) (j : Fin 64) (e : Fin 512) (hch : ch.val < n + 1) :
    (step_main_v43_10 V : FVec Ideal S128x8x4x64x512 .f32) (ix5 ch B hd j e)
    = (((chn R B hd).H (64 * ch.val + j.val) (e.castLE (by decide)) : ℝ) : EReal) := by
  unfold step_main_v43_10
  clean_types
  simp only [id_eq]
  rewrite [update5 V hn h.ctr]
  pointwise
  simp only [v52 h hn, v54 h hn, v71 h hn, v73 h hn, v79 h hn, h.c, h.nrm]
  split
  · next hin =>
    have hc : ch.val = n := by omega
    have e1 := read_turn (R := R) (n := n) B hd j 512
    simp only [w_one, EReal.coe_one, mul_one] at e1
    rewrite [e1, read_turn B hd j, absf_coe, ← EReal.coe_neg, Ideal.exp_coe, ← coe_max, hc]
    exact div_coe_pos _ ((chn R B hd).den_pos _)
  · next hin => exact h.out ch B hd j e (by omega)

end Cert.ReferenceIdeal.Scan

end
-- ==== Proof.ScanRefRun.lean ====
/-
  The scan reference's result, over the chains: what its loop carries before every turn, and what it returns.
-/
module

public import proofs.«01_k».proof.Proof.ScanRefStep

@[expose] public section

set_option maxRecDepth 16384

noncomputable section

namespace Cert.ReferenceIdeal.Scan

open Cert.ReferenceIdeal Cert.ReferenceIdeal.Gen Cert.ReferenceIdeal.Value Cert.Scan Idealize.ShloMosaic Idealize.ShloMosaic.TcCoe Idealize.SL.Sem
open Idealize.ShloMosaic.StableHlo

variable {R : Args} {V : Valuation τ sig (Elt Ideal)} {n : ℕ}

/-- The counter after a turn. -/
theorem counter_next (hc : (V (Proc.devRef .tc main_v43_6) : IVec S_ 32) = fun _ => BitVec.ofNat 32 n) :
    (step_main_v43_6 V : IVec S_ 32) = fun _ => BitVec.ofNat 32 (n + 1) := by
  have e : (step_main_v43_6 V : IVec S_ 32) = addi (fun _ => BitVec.ofNat 32 n) (constantI S_ 32 1#32) :=
    congrArg (fun x : IVec S_ 32 => addi x (constantI S_ 32 1#32)) hc
  refine e.trans (funext fun _ => ?_)
  exact (BitVec.ofNat_add n 1).symm

/-- A turn keeps what the loop carries in step with the chains. -/
theorem At.next (h : At R V n) (hn : n < 128) : At R (STEP V) (n + 1) where
  q := by rewrite [STEP_main_v43_0]; exact h.q
  k := by rewrite [STEP_main_v43_1]; exact h.k
  v := by rewrite [STEP_main_v43_2]; exact h.v
  i := by rewrite [STEP_main_v43_3]; exact h.i
  f := by rewrite [STEP_main_v43_4]; exact h.f
  mask := by rewrite [STEP_main_v43_5]; exact h.mask
  ctr := by rewrite [STEP_main_v43_6]; exact counter_next h.ctr
  c B hd d e := by rewrite [STEP_main_v43_7]; exact step_c h hn B hd d e
  nrm B hd d := by rewrite [STEP_main_v43_8]; exact step_n h hn B hd d
  m B hd := by rewrite [STEP_main_v43_9]; exact step_m h hn B hd
  out ch B hd j e hch := by rewrite [STEP_main_v43_10]; exact step_out h hn B hd ch j e hch

variable {m : (ℓ : Loc nD τ sig) → Buf (Elt Ideal) ℓ} {c : Dev nD} (hR : Holds m c R)

include hR in
/-- What the loop carries at its start. -/
theorem at_zero : At R (entryContents preI m c) 0 where
  q := entry_q hR
  k := entry_k hR
  v := entry_v hR
  i := entry_i hR
  f := entry_f hR
  mask := entry_mask
  ctr := ctr_entry m c
  c B hd d e := (entry_c hR B hd d e).trans (congrArg _ ((chn R B hd).St_zero d _).symm)
  nrm B hd d := (entry_n hR B hd d).trans (congrArg _ ((chn R B hd).St_zero d _).symm)
  m B hd := (entry_m hR B hd).trans (congrArg _ (chn R B hd).M_zero.symm)
  out ch B hd j e hch := absurd hch (Nat.not_lt_zero _)

include hR in
/-- What the loop carries before every turn. -/
theorem at_all : ∀ n ≤ 128, At R (STEP^[n] (entryContents preI m c)) n
  | 0, _ => at_zero hR
  | n + 1, hn => by
    rewrite [Function.iterate_succ_apply']
    exact (at_all n (by omega)).next (by omega)

/-- The outputs at the loop's end, by step. -/
theorem out_step (h : At R V 128) (B : Fin 8) (t : Fin 8192) (hd : Fin 4) (e : Fin 512) :
    (V (Proc.devRef .tc main_v43_10) : FVec Ideal S128x8x4x64x512 .f32)
      (ix5 ⟨t.val / 64, by omega⟩ B hd ⟨t.val % 64, by omega⟩ e)
      = (((chn R B hd).H t.val (e.castLE (by decide)) : ℝ) : EReal) := by
  refine (h.out _ B hd _ e (by show t.val / 64 < 128; omega)).trans ?_
  have ht : 64 * (t.val / 64) + t.val % 64 = t.val := by omega
  dsimp only
  rewrite [ht]
  rfl

/-- The chain's output at a token is the scan's result there, by the row's direction and sample. -/
theorem chain_out {B : Fin 8} {d : Fin 2} {b : Fin 4} (hd' : dir B = d) (hb : smp B = b) (t : Fin 8192) (hd : Fin 4) (e : Fin 512)
    {s : ℕ} (hs : s = if d.val = 0 then t.val else 8191 - t.val) :
    (((chn R B hd).H s (e.castLE (by decide)) : ℝ) : EReal) = ((hOf R d b t hd e : ℝ) : EReal) := by
  unfold chn hOf
  rewrite [hd', hb, hs]
  rfl

/-- The reference's result, at an index. -/
theorem out_at (h : At R V 128) (d : Fin 2) (b : Fin 4) (t : Fin 8192) (l : Fin 2048) :
    (out_main_v51 V : FVec Ideal S2x4x8192x2048 .f32) (ix4 d b t l)
      = ((hOf R d b t ⟨l.val / 512, by omega⟩ ⟨l.val % 512, by omega⟩ : ℝ) : EReal) := by
  generalize hz : ((hOf R d b t ⟨l.val / 512, by omega⟩ ⟨l.val % 512, by omega⟩ : ℝ) : EReal) = z
  unfold out_main_v51
  clean_types
  simp only [id_eq]
  pointwise
  simp only [List.mem_singleton, Fin.isValue, Fin.reduceEq, zero_ne_one, ↓reduceIte]
  split
  · next h0 =>
    refine (out_step h ⟨b.val, by omega⟩ t _ _).trans (Eq.trans ?_ hz)
    refine chain_out (Fin.ext ?_) (Fin.ext ?_) t _ _ ?_
    · show b.val / 4 = d.val
      omega
    · show b.val % 4 = b.val
      omega
    · rewrite [if_pos (by omega)]
      rfl
  · next h0 =>
    refine (out_step h ⟨4 + b.val, by omega⟩ t.rev _ _).trans (Eq.trans ?_ hz)
    refine chain_out (Fin.ext ?_) (Fin.ext ?_) t _ _ ?_
    · show (4 + b.val) / 4 = d.val
      omega
    · show (4 + b.val) % 4 = b.val
      omega
    · rewrite [if_neg (by omega), Fin.val_rev]
      omega

end Cert.ReferenceIdeal.Scan

end
-- ==== Proof.ScanClaim.lean ====
/-
  The scan's value claim: under finite arguments, read as reals, kernel and reference return the same array.
-/
module

public import proofs.«01_k».proof.Defs
public import proofs.«01_k».proof.Proof.ScanKernelRun
public import proofs.«01_k».proof.Proof.ScanRefRun

@[expose] public section

set_option maxRecDepth 16384

noncomputable section

namespace Cert.Scan

open Idealize.ShloMosaic Idealize.ShloMosaic.TcCoe Idealize.SL.Sem

/-- The word of plus infinity is the greatest extended real. -/
theorem ofBits_pos_inf : Ideal.ofBits .f32 0x7F800000#32 = ⊤ := by simp [Ideal.ofBits, Ideal.ieee]

/-- An element whose absolute value is below infinity is a real. -/
theorem real_of_lt {s : Shape} (hs : (⟨0, ![]⟩ : Shape).BroadcastsInDim s (![] : Fin 0 → Fin s.rank)) (x : FVec Ideal s .f32)
    (h : cmpf (F := Ideal) .olt (Host.absf x) (broadcastInDim s ![] hs (constant ⟨0, ![]⟩ .f32 0x7F800000#32)) = fun _ => 1#1) (i : s.Idx) :
    (x i : EReal) = ((EReal.toReal (x i) : ℝ) : EReal) := by
  have e := congrFun h i
  pointwise at e
  rewrite [ofBits_pos_inf, Ideal.absf_def] at e
  have hlt : max (x i : EReal) (-(x i : EReal)) < ⊤ := by
    by_contra hn
    rewrite [decide_eq_false hn] at e
    exact absurd e (by decide)
  refine (EReal.coe_toReal (fun ht => ?_) (fun hb => ?_)).symm
  · rewrite [ht] at hlt
    simp at hlt
  · rewrite [hb] at hlt
    simp at hlt

variable (m : (ℓ : Loc Cert.KernelIdeal.nD Cert.KernelIdeal.τ Cert.KernelIdeal.sig) → Buf (Elt Ideal) ℓ) (c : Dev Cert.KernelIdeal.nD)

/-- A device's arguments, as reals. -/
def argsOf : Args where
  q b n j := EReal.toReal (m ((c.tc : Thread Cert.KernelIdeal.nD Cert.KernelIdeal.τ).loc Cert.KernelIdeal.main_arg0) (ix3 b n j))
  k b n j := EReal.toReal (m ((c.tc : Thread Cert.KernelIdeal.nD Cert.KernelIdeal.τ).loc Cert.KernelIdeal.main_arg1) (ix3 b n j))
  v b n j := EReal.toReal (m ((c.tc : Thread Cert.KernelIdeal.nD Cert.KernelIdeal.τ).loc Cert.KernelIdeal.main_arg2) (ix3 b n j))
  g b n j := EReal.toReal (m ((c.tc : Thread Cert.KernelIdeal.nD Cert.KernelIdeal.τ).loc Cert.KernelIdeal.main_arg3) (ix3 b n j))
  c0 d b h i e := EReal.toReal (m ((c.tc : Thread Cert.KernelIdeal.nD Cert.KernelIdeal.τ).loc Cert.KernelIdeal.main_arg4) (ix5 d b h i e))
  m0 d b h i e := EReal.toReal (m ((c.tc : Thread Cert.KernelIdeal.nD Cert.KernelIdeal.τ).loc Cert.KernelIdeal.main_arg5) (ix5 d b h i e))

/-- Finite arguments are their own readings as reals. -/
theorem holds [Cert.Pre_finite.Facts] (h : Cert.Pre_KernelIdeal_finite m) : Cert.KernelIdeal.Scan.Holds m c (argsOf m c) := by
  obtain ⟨h0, h1, h2, h3, h4, h5⟩ := h c
  exact ⟨fun b n j => real_of_lt _ _ h0 (ix3 b n j), fun b n j => real_of_lt _ _ h1 (ix3 b n j), fun b n j => real_of_lt _ _ h2 (ix3 b n j),
    fun b n j => real_of_lt _ _ h3 (ix3 b n j), fun d b h i e => real_of_lt _ _ h4 (ix5 d b h i e), fun d b h i e => real_of_lt _ _ h5 (ix5 d b h i e)⟩

/-- THE SCAN'S VALUE CLAIM. -/
theorem algebraic [Cert.Pre_finite.Facts] : Cert.algebraic_KernelIdeal_ReferenceIdeal_pre_finite := by
  intro m g m' g' hp hargs
  refine ⟨fun c => Cert.KernelIdeal.Scan.result (argsOf m c), ?_, ?_⟩
  · refine (θ_run _ _ _).mono (fun r h c => ?_) (Cert.KernelIdeal.Value.run_blocks m g)
    obtain ⟨hv, hk⟩ := h c
    exact ⟨hv.trans (Cert.KernelIdeal.Scan.final m c (holds m c hp)), hk⟩
  · refine (θ_run _ _ _).mono (fun r h c => ?_) (Cert.ReferenceIdeal.Value.run m' g')
    obtain ⟨hv, hk⟩ := h c
    have hK := holds m c hp
    obtain ⟨a0, a1, a2, a3, a4, a5⟩ := hargs c
    have hR : Cert.ReferenceIdeal.Scan.Holds m' c (argsOf m c) :=
      ⟨fun b n j => (congrFun a0 _).trans (hK.q b n j), fun b n j => (congrFun a1 _).trans (hK.k b n j), fun b n j => (congrFun a2 _).trans (hK.v b n j),
        fun b n j => (congrFun a3 _).trans (hK.g b n j), fun d b h i e => (congrFun a4 _).trans (hK.c0 d b h i e),
        fun d b h i e => (congrFun a5 _).trans (hK.m0 d b h i e)⟩
    refine ⟨hv.trans (funext fun i => ?_), hk⟩
    idx_vars i
    exact Cert.ReferenceIdeal.Scan.out_at (Cert.ReferenceIdeal.Scan.at_all hR 128 le_rfl) i0 i1 i2 i3

end Cert.Scan

end
-- ==== Proof.Ffn.lean ====
/-
  The feed-forward block's arguments and its result, over the extended reals.
-/
module

public import Idealize.ShloMosaic.Lib.Pointwise

@[expose] public section

noncomputable section

namespace Cert.Ffn

open Idealize.ShloMosaic

/-- The arguments: tokens, modulation (shift, scale, gate), norm gain, and the two weight matrices. -/
structure Args where
  h : Fin 4 → Fin 8192 → Fin 1024 → EReal
  md : Fin 4 → Fin 3 → Fin 1024 → EReal
  g : Fin 1024 → EReal
  wi : Fin 1024 → Fin 5632 → EReal
  wo : Fin 2816 → Fin 1024 → EReal

variable (R : Args)

/-- A token, normed and modulated. -/
def u (b : Fin 4) (n : Fin 8192) (d : Fin 1024) : EReal :=
  R.h b n d * Ideal.rsqrt (Ideal.div (∑ x, R.h b n x * R.h b n x) (Ideal.ofBits FTy.f32 0x44800000#32) + Ideal.ofBits FTy.f32 0x358637BD#32)
    * R.g d * (1 + R.md b 1 d) + R.md b 0 d

/-- A token's hidden values before the activation. -/
def pre (b : Fin 4) (n : Fin 8192) (k : Fin 5632) : EReal := ∑ d, u R b n d * R.wi d k

/-- A gate's column of the first matrix. -/
def gcol (k : Fin 2816) : Fin 5632 := ⟨k.val, by omega⟩
/-- A value's column of the first matrix. -/
def vcol (k : Fin 2816) : Fin 5632 := ⟨2816 + k.val, by omega⟩

/-- A gated hidden value: the activation of its gate, times its value. -/
def act (b : Fin 4) (n : Fin 8192) (k : Fin 2816) : EReal :=
  pre R b n (gcol k) * Ideal.div 1 (1 + Ideal.exp (-pre R b n (gcol k)))
    * pre R b n (vcol k)

/-- The block's result. -/
def res (b : Fin 4) (n : Fin 8192) (e : Fin 1024) : EReal :=
  R.h b n e + Ideal.ofBits FTy.f32 0x3F000000#32 * R.md b 2 e * ∑ k, act R b n k * R.wo k e

/-- A hidden index of one of the two halves the kernel takes in turn. -/
def hid (f : Fin 2) (k : Fin 1408) : Fin 2816 := ⟨1408 * f.val + k.val, by omega⟩

/-- The sum over the hidden values is the sum over the two halves. -/
theorem sum_hid (F : Fin 2816 → EReal) : ∑ k, F k = (∑ k, F (hid 0 k)) + ∑ k, F (hid 1 k) := by
  rw [show (∑ k, F k) = ∑ k : Fin (1408 + 1408), F (k.cast rfl) from rfl, Fin.sum_univ_add]
  refine congrArg₂ _ (Finset.sum_congr rfl fun k _ => congrArg F (Fin.ext ?_)) (Finset.sum_congr rfl fun k _ => congrArg F (Fin.ext ?_))
  · show k.val = 1408 * 0 + k.val; omega
  · show 1408 + k.val = 1408 * 1 + k.val; omega

end Cert.Ffn

end
-- ==== Proof.FfnKernel.lean ====
/-
  The feed-forward kernel's value: what its two scratches hold after a grid point, and its result.
-/
module

public import proofs.«01_k».proof.Proof.Ffn
public import proofs.«01_k».proof.Proof.Gen.Kernel2Ideal.Value
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.Kernel2Ideal.Ffn

open Cert.Kernel2Ideal Cert.Kernel2Ideal.Gen Cert.Ffn Idealize.ShloMosaic Idealize.ShloMosaic.TcCoe Idealize.SL.Sem
open Idealize.ShloMosaic.Pipeline (Dat)

variable (m : (ℓ : Loc nD τ sig) → Buf (Elt Ideal) ℓ) (c : Dev nD)

/-- The launch memory holds the arguments `R`. -/
structure Holds (R : Args) : Prop where
  h : ∀ b n d, m ((c : Thread nD τ).loc main_arg0) (ix3 b n d) = R.h b n d
  md : ∀ b r d, m ((c : Thread nD τ).loc main_arg1) (ix3 b r d) = R.md b r d
  g : ∀ d, m ((c : Thread nD τ).loc main_arg2) (ix1 d) = R.g d
  wi : ∀ d k, m ((c : Thread nD τ).loc main_arg3) (ix2 d k) = R.wi d k
  wo : ∀ k e, m ((c : Thread nD τ).loc main_arg4) (ix2 k e) = R.wo k e

/-- A point's sample. -/
def bOf (t : ℕ) : Fin 4 := ⟨t / 32 % 4, Nat.mod_lt _ (by decide)⟩
/-- A point's half of the hidden values. -/
def fOf (t : ℕ) : Fin 2 := ⟨t % 2, Nat.mod_lt _ (by decide)⟩
/-- A row of a point's block of tokens, as a row of the arrays. -/
def rowOf (t : ℕ) (j : Fin 512) : Fin 8192 := ⟨512 * (t / 2 % 16) + j.val, by omega⟩

/-- The block of the tokens. -/
theorem idx0 : ∀ t : Fin cfg0.N, win0_0.index t 0 = (bOf t.val).val ∧ win0_0.index t 1 = t.val / 2 % 16
    ∧ win0_0.index t 2 = 0 := by decide +kernel
/-- The block of the modulation. -/
theorem idx1 : ∀ t : Fin cfg0.N, win0_1.index t 0 = (bOf t.val).val ∧ win0_1.index t 1 = 0 ∧ win0_1.index t 2 = 0 := by
  decide +kernel
/-- The block of the norm gain. -/
theorem idx2 : ∀ t : Fin cfg0.N, win0_2.index t 0 = 0 ∧ win0_2.index t 1 = 0 := by decide +kernel
/-- The block of the gates' columns. -/
theorem idx3 : ∀ t : Fin cfg0.N, win0_3.index t 0 = 0 ∧ win0_3.index t 1 = (fOf t.val).val := by decide +kernel
/-- The block of the values' columns. -/
theorem idx4 : ∀ t : Fin cfg0.N, win0_4.index t 0 = 0 ∧ win0_4.index t 1 = (fOf t.val).val + 2 := by decide +kernel
/-- The block of the second matrix's rows. -/
theorem idx5 : ∀ t : Fin cfg0.N, win0_5.index t 0 = (fOf t.val).val ∧ win0_5.index t 1 = 0 := by decide +kernel
/-- The block of the result. -/
theorem idx6 : ∀ t : Fin cfg0.N, win0_6.index t 0 = (bOf t.val).val ∧ win0_6.index t 1 = t.val / 2 % 16
    ∧ win0_6.index t 2 = 0 := by decide +kernel

/-- A block of tokens, at an index. -/
theorem h_blk (t : Fin cfg0.N) (j : Fin 512) (d : Fin 1024) :
    iblk m c 0 t (ix3 0 j d) = m ((c : Thread nD τ).loc main_arg0) (ix3 (bOf t.val) (rowOf t.val j) d) := by
  obtain ⟨h0, h1, h2⟩ := idx0 t
  blk_ext [iblk, V, h0, h1, h2, rowOf]

/-- A modulation block, at an index. -/
theorem md_blk (t : Fin cfg0.N) (r : Fin 3) (d : Fin 1024) :
    iblk m c 1 t (ix3 0 r d) = m ((c : Thread nD τ).loc main_arg1) (ix3 (bOf t.val) r d) := by
  obtain ⟨h0, h1, h2⟩ := idx1 t
  blk_ext [iblk, V, h0, h1, h2]

/-- The norm gain's block, at an index. -/
theorem g_blk (t : Fin cfg0.N) (d : Fin 1024) :
    iblk m c 2 t (ix2 0 d) = m ((c : Thread nD τ).loc main_arg2) (ix1 d) := by
  obtain ⟨h0, h1⟩ := idx2 t
  blk_simp [iblk, h0, h1]
  entry_read
  pointwise
  blk_ext [h0, h1]

/-- A block of the gates' columns, at an index. -/
theorem wg_blk (t : Fin cfg0.N) (d : Fin 1024) (k : Fin 1408) :
    iblk m c 3 t (ix2 d k) = m ((c : Thread nD τ).loc main_arg3) (ix2 d (gcol (hid (fOf t.val) k))) := by
  obtain ⟨h0, h1⟩ := idx3 t
  blk_simp [iblk, h0, h1]
  entry_read
  pointwise
  blk_ext [h0, h1, hid, gcol]

/-- A block of the values' columns, at an index. -/
theorem wv_blk (t : Fin cfg0.N) (d : Fin 1024) (k : Fin 1408) :
    iblk m c 4 t (ix2 d k) = m ((c : Thread nD τ).loc main_arg3) (ix2 d (vcol (hid (fOf t.val) k))) := by
  obtain ⟨h0, h1⟩ := idx4 t
  blk_simp [iblk, h0, h1]
  entry_read
  pointwise
  blk_ext [h0, h1, hid, vcol]

/-- A block of the second matrix's rows, at an index. -/
theorem wo_blk (t : Fin cfg0.N) (k : Fin 1408) (e : Fin 1024) :
    iblk m c 5 t (ix2 k e) = m ((c : Thread nD τ).loc main_arg4) (ix2 (hid (fOf t.val) k) e) := by
  obtain ⟨h0, h1⟩ := idx5 t
  blk_simp [iblk, h0, h1]
  entry_read
  pointwise
  blk_ext [h0, h1, hid]

end Cert.Kernel2Ideal.Ffn

end
-- ==== Proof.FfnKernelRun.lean ====
/-
  The feed-forward kernel's value: what its two scratches hold after a grid point, and its result.
-/
module

public import proofs.«01_k».proof.Proof.FfnKernel

@[expose] public section

set_option maxRecDepth 16384

noncomputable section

namespace Cert.Kernel2Ideal.Ffn

open Cert.Kernel2Ideal Cert.Kernel2Ideal.Gen Cert.Ffn Idealize.ShloMosaic Idealize.ShloMosaic.TcCoe Idealize.SL.Sem
open Idealize.ShloMosaic.Pipeline (Dat)

variable (m : (ℓ : Loc nD τ sig) → Buf (Elt Ideal) ℓ) (c : Dev nD) {R : Args} (hR : Holds m c R)

/-- What one half of the hidden values adds to an output element. -/
def part (R : Args) (b : Fin 4) (n : Fin 8192) (f : Fin 2) (e : Fin 1024) : EReal :=
  ∑ k, act R b n (hid f k) * R.wo (hid f k) e

/-- The result's blocks are written back at the second point of each pair. -/
theorem flush6 : ∀ t : Fin cfg0.N, (cfg0.win 6).flush t = true → t.val % 2 = 1 := by decide +kernel

section
include hR

/-- The normed and modulated tokens a first point stores. -/
theorem u_pay (t : Fin cfg0.N) (j : Fin 512) (d : Fin 1024) :
    k0_pay1 (iblk m c 0 t) (iblk m c 2 t)
      (View.ld (iblk m c 1 t) (Rect.unit ![0, 0, 0] ![1, 1, 1024] inb_S1x3x1024_S1x1x1024_0_0_0))
      (View.ld (iblk m c 1 t) (Rect.unit ![0, 1, 0] ![1, 1, 1024] inb_S1x3x1024_S1x1x1024_0_1_0)) (ix2 j d)
      = u R (bOf t.val) (rowOf t.val j) d := by
  pointwise [k0_pay1]
  rewrite [md_blk m c t 0, md_blk m c t 1]
  simp only [h_blk m c t, g_blk m c t, hR.h, hR.g, hR.md]
  rfl

/-- What a point's accumulation leaves: what the accumulator held, and the point's half. -/
theorem acc_pay (t : Fin cfg0.N) (v3 : Vec Ideal S512x1024 .bf16) (v10 : Vec Ideal S512x1024 .f32)
    (h3 : ∀ j d, v3 (ix2 j d) = u R (bOf t.val) (rowOf t.val j) d) (j : Fin 512) (e : Fin 1024) :
    k0_pay3 v3 (iblk m c 3 t) (iblk m c 4 t) v10 (iblk m c 5 t) (ix2 j e)
      = v10 (ix2 j e) + part R (bOf t.val) (rowOf t.val j) (fOf t.val) e := by
  pointwise [k0_pay3]
  simp only [h3, wg_blk m c t, wv_blk m c t, wo_blk m c t, hR.wi, hR.wo, zero_sub]
  rfl

/-- The block's result: the tokens, and half the gate times what the accumulator holds. -/
theorem out_pay (t : Fin cfg0.N) (v : Vec Ideal S512x1024 .f32) (j : Fin 512) (e : Fin 1024) :
    k0_pay4 (iblk m c 0 t) (View.ld (iblk m c 1 t) (Rect.unit ![0, 2, 0] ![1, 1, 1024] inb_S1x3x1024_S1x1x1024_0_2_0)) v (ix3 0 j e)
      = R.h (bOf t.val) (rowOf t.val j) e
        + Ideal.ofBits FTy.f32 0x3F000000#32 * R.md (bOf t.val) 2 e * v (ix2 j e) := by
  pointwise [k0_pay4]
  rewrite [md_blk m c t 2, h_blk m c t, hR.h, hR.md]
  rfl

/-- What a first point of a pair leaves in the scratches. -/
structure Left (t : Fin cfg0.N) : Prop where
  u : ∀ j d, (outsAt0 m c t.val t.isLt).2.1 (ix2 j d) = u R (bOf t.val) (rowOf t.val j) d
  acc : ∀ j e, (outsAt0 m c t.val t.isLt).2.2 (ix2 j e) = part R (bOf t.val) (rowOf t.val j) (fOf t.val) e

omit hR in
/-- The zeroed accumulator. -/
theorem zero_pay (j : Fin 512) (e : Fin 1024) : k0_pay2 (F := Ideal) (ix2 j e) = 0 := by
  pointwise [k0_pay2]

/-- The first point of a pair: the half it adds starts from zero. -/
theorem left_A (t : Fin cfg0.N) (h0 : t.val % 2 = 0) : Left m c (R := R) t := by
  have h1 : ¬ t.val % 2 = 1 := by omega
  refine ⟨fun j d => ?_, fun j e => ?_⟩
  · rw [outsAt0_A m c t h0 h1]
    frame_out
    exact u_pay m c hR t j d
  · rw [outsAt0_A m c t h0 h1]
    frame_out
    refine (acc_pay m c hR t _ _ (fun j d => ?_) j e).trans ?_
    · exact u_pay m c hR t j d
    · rewrite [zero_pay, zero_add]
      rfl

/-- The second point of a pair writes the result's block. -/
theorem out_B (t : Fin cfg0.N) (h1 : t.val % 2 = 1) (j : Fin 512) (e : Fin 1024) :
    (outsAt0 m c t.val t.isLt).1 (ix3 0 j e) = res R (bOf t.val) (rowOf t.val j) e := by
  have h0 : ¬ t.val % 2 = 0 := by omega
  have ih := left_A m c hR ⟨t.val - 1, lt_of_le_of_lt (Nat.sub_le _ _) t.isLt⟩ (show (t.val - 1) % 2 = 0 by omega)
  have eb : bOf (t.val - 1) = bOf t.val := Fin.ext (show (t.val - 1) / 32 % 4 = t.val / 32 % 4 by omega)
  have er : rowOf (t.val - 1) = rowOf t.val := funext fun j =>
    Fin.ext (show 512 * ((t.val - 1) / 2 % 16) + j.val = 512 * (t.val / 2 % 16) + j.val by omega)
  have ef0 : fOf (t.val - 1) = 0 := Fin.ext (show (t.val - 1) % 2 = 0 by omega)
  have ef1 : fOf t.val = 1 := Fin.ext h1
  have hu := ih.u
  have ha := ih.acc
  simp only [eb, er, ef0] at hu ha
  rw [outsAt0_B m c t h0 h1]
  frame_out
  simp only [read_unread_whole]
  refine (out_pay m c hR t _ j e).trans ?_
  rewrite [acc_pay m c hR t _ _ hu j e, ha, ef1]
  unfold res
  rewrite [sum_hid]
  rfl

end

/-- The result, as one array. -/
def result (R : Args) : FVec Ideal S4x8192x1024 .f32 := fun i => res R (i 0) (i 1) (i 2)

/-- Every block of the result is some point's. -/
theorem covers6 : (cfg0.win 6).Covers := (cfg0.win 6).covers_of_index_surj rfl (by decide) fun β => by
  have b0 : (β 0).val < 4 := (β 0).isLt
  have b1 : (β 1).val < 16 := (β 1).isLt
  have b2 : (β 2).val < 1 := (β 2).isLt
  obtain ⟨n, hn⟩ : ∃ n, n = ((β 0).val * 16 + (β 1).val) * 2 := ⟨_, rfl⟩
  have hN : n < cfg0.N := lt_of_lt_of_eq (by omega) (show 128 = cfg0.N from N_0.symm)
  obtain ⟨h0, h1, h2⟩ := idx6 ⟨n, hN⟩
  have e0 : n / 32 % 4 = (β 0).val := by omega
  have e1 : n / 2 % 16 = (β 1).val := by omega
  have e2 : 0 = (β 2).val := by omega
  refine ⟨⟨n, hN⟩, fun a => ?_⟩
  match a with
  | ⟨0, _⟩ => exact h0.trans e0
  | ⟨1, _⟩ => exact h1.trans e1
  | ⟨2, _⟩ => exact h2.trans e2

include hR

/-- THE FEED-FORWARD KERNEL'S RESULT ARRAY. -/
theorem final : (dats m 0 c).arrAt 6 cfg0.N = result R := by
  refine (dats m 0 c).arrAt_eq_of_covers 6 _ covers6 fun t hf y => ?_
  have h1 : t.val % 2 = 1 := flush6 t hf
  have key : ∀ y : S1x512x1024.Idx, (outsAt0 m c t.val t.isLt).1 y
      = result R (ix3 (bOf t.val) (rowOf t.val (y 1)) (y 2)) := by
    intro y
    idx_vars y
    obtain rfl : y0 = 0 := Subsingleton.elim _ _
    exact out_B m c hR t h1 y1 y2
  obtain ⟨h0, h1, h2⟩ := idx6 t
  blk_simp
  refine (congrFun (after0_6 m c t) y).trans ((key y).trans (congrArg (result R) ?_))
  blk_ext [h0, h1, h2, rowOf]

end Cert.Kernel2Ideal.Ffn

end
-- ==== Proof.FfnRef.lean ====
/-
  The feed-forward reference's value.
-/
module

public import proofs.«01_k».proof.Proof.Ffn
public import proofs.«01_k».proof.Proof.Gen.Reference2Ideal.Run
public import Idealize.ShloMosaic.Lib.Tactic.CleanTypes

@[expose] public section

set_option maxRecDepth 16384

noncomputable section

namespace Cert.Reference2Ideal.Ffn

open Cert.Reference2Ideal Cert.Reference2Ideal.Gen Cert.Reference2Ideal.Value Cert.Ffn Idealize.ShloMosaic Idealize.ShloMosaic.TcCoe Idealize.SL.Sem

variable (m : (ℓ : Loc nD τ sig) → Buf (Elt Ideal) ℓ) (c : Dev nD)

/-- The launch memory holds the arguments `R`. -/
structure Holds (R : Args) : Prop where
  h : ∀ b n d, m ((c : Thread nD τ).loc main_arg0) (ix3 b n d) = R.h b n d
  md : ∀ b r d, m ((c : Thread nD τ).loc main_arg1) (ix3 b r d) = R.md b r d
  g : ∀ d, m ((c : Thread nD τ).loc main_arg2) (ix1 d) = R.g d
  wi : ∀ d k, m ((c : Thread nD τ).loc main_arg3) (ix2 d k) = R.wi d k
  wo : ∀ k e, m ((c : Thread nD τ).loc main_arg4) (ix2 k e) = R.wo k e

/-- THE REFERENCE'S RESULT, element by element. -/
theorem out_at {R : Args} (hR : Holds m c R) (b : Fin 4) (n : Fin 8192) (e : Fin 1024) :
    res_main_v32 m c (ix3 b n e) = res R b n e := by
  unfold res_main_v32
  clean_types
  pointwise
  simp only [hR.h, hR.md, hR.g, hR.wi, hR.wo]
  rfl

end Cert.Reference2Ideal.Ffn

end
-- ==== Proof.FfnClaim.lean ====
/-
  The feed-forward block's value claim: kernel and reference return the same array, whatever the arguments.
-/
module

public import proofs.«01_k».proof.Defs
public import proofs.«01_k».proof.Proof.FfnKernelRun
public import proofs.«01_k».proof.Proof.FfnRef

@[expose] public section

set_option maxRecDepth 16384

noncomputable section

namespace Cert.Ffn

open Idealize.ShloMosaic Idealize.ShloMosaic.TcCoe Idealize.SL.Sem

variable (m : (ℓ : Loc Cert.Kernel2Ideal.nD Cert.Kernel2Ideal.τ Cert.Kernel2Ideal.sig) → Buf (Elt Ideal) ℓ) (c : Dev Cert.Kernel2Ideal.nD)

/-- A device's arguments, element by element. -/
def argsOf : Args where
  h b n d := m ((c.tc : Thread Cert.Kernel2Ideal.nD Cert.Kernel2Ideal.τ).loc Cert.Kernel2Ideal.main_arg0) (ix3 b n d)
  md b r d := m ((c.tc : Thread Cert.Kernel2Ideal.nD Cert.Kernel2Ideal.τ).loc Cert.Kernel2Ideal.main_arg1) (ix3 b r d)
  g d := m ((c.tc : Thread Cert.Kernel2Ideal.nD Cert.Kernel2Ideal.τ).loc Cert.Kernel2Ideal.main_arg2) (ix1 d)
  wi d k := m ((c.tc : Thread Cert.Kernel2Ideal.nD Cert.Kernel2Ideal.τ).loc Cert.Kernel2Ideal.main_arg3) (ix2 d k)
  wo k e := m ((c.tc : Thread Cert.Kernel2Ideal.nD Cert.Kernel2Ideal.τ).loc Cert.Kernel2Ideal.main_arg4) (ix2 k e)

/-- The launch memory holds them. -/
theorem holds : Cert.Kernel2Ideal.Ffn.Holds m c (argsOf m c) :=
  ⟨fun _ _ _ => rfl, fun _ _ _ => rfl, fun _ => rfl, fun _ _ => rfl, fun _ _ => rfl⟩

/-- THE FEED-FORWARD BLOCK'S VALUE CLAIM. -/
theorem algebraic : Cert.algebraic_Kernel2Ideal_Reference2Ideal := by
  intro m g m' g' _ hargs
  refine ⟨fun c => Cert.Kernel2Ideal.Ffn.result (argsOf m c), ?_, ?_⟩
  · refine (θ_run _ _ _).mono (fun r h c => ?_) (Cert.Kernel2Ideal.Value.run_blocks m g)
    obtain ⟨hv, hk⟩ := h c
    exact ⟨hv.trans (Cert.Kernel2Ideal.Ffn.final m c (holds m c)), hk⟩
  · refine (θ_run _ _ _).mono (fun r h c => ?_) (Cert.Reference2Ideal.Value.run m' g')
    obtain ⟨hv, hk⟩ := h c
    obtain ⟨a0, a1, a2, a3, a4⟩ := hargs c
    have hR : Cert.Reference2Ideal.Ffn.Holds m' c (argsOf m c) :=
      ⟨fun _ _ _ => congrFun a0 _, fun _ _ _ => congrFun a1 _, fun _ => congrFun a2 _, fun _ _ => congrFun a3 _,
        fun _ _ => congrFun a4 _⟩
    refine ⟨hv.trans (funext fun i => ?_), hk⟩
    idx_vars i
    exact Cert.Reference2Ideal.Ffn.out_at m' c hR i0 i1 i2

end Cert.Ffn

end
-- ==== Proof.FfnLast.lean ====
/-
  The last feed-forward block's result: the block's, normed with the final gain.
-/
module

public import proofs.«01_k».proof.Proof.Ffn

@[expose] public section

noncomputable section

namespace Cert.Ffn

open Idealize.ShloMosaic

/-- The block's result, normed along its features and scaled by the gain `fg`. -/
def normed (R : Args) (fg : Fin 1024 → EReal) (b : Fin 4) (n : Fin 8192) (e : Fin 1024) : EReal :=
  res R b n e * Ideal.rsqrt (Ideal.div (∑ x, res R b n x * res R b n x) (Ideal.ofBits FTy.f32 0x44800000#32)
    + Ideal.ofBits FTy.f32 0x358637BD#32) * fg e

end Cert.Ffn

end
-- ==== Proof.FfnLastKernel.lean ====
/-
  The value of the last feed-forward kernel: what its two scratches hold after a grid point, and its result.
-/
module

public import proofs.«01_k».proof.Proof.FfnLast
public import proofs.«01_k».proof.Proof.Gen.Kernel3Ideal.Value
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.Kernel3Ideal.Ffn

open Cert.Kernel3Ideal Cert.Kernel3Ideal.Gen Cert.Ffn Idealize.ShloMosaic Idealize.ShloMosaic.TcCoe Idealize.SL.Sem
open Idealize.ShloMosaic.Pipeline (Dat)

variable (m : (ℓ : Loc nD τ sig) → Buf (Elt Ideal) ℓ) (c : Dev nD)

/-- The launch memory holds the arguments `R` and the final gain `fg`. -/
structure Holds (R : Args) (fg : Fin 1024 → EReal) : Prop where
  h : ∀ b n d, m ((c : Thread nD τ).loc main_arg0) (ix3 b n d) = R.h b n d
  md : ∀ b r d, m ((c : Thread nD τ).loc main_arg1) (ix3 b r d) = R.md b r d
  g : ∀ d, m ((c : Thread nD τ).loc main_arg2) (ix1 d) = R.g d
  wi : ∀ d k, m ((c : Thread nD τ).loc main_arg3) (ix2 d k) = R.wi d k
  wo : ∀ k e, m ((c : Thread nD τ).loc main_arg4) (ix2 k e) = R.wo k e
  fg : ∀ d, m ((c : Thread nD τ).loc main_arg5) (ix1 d) = fg d

/-- A point's sample. -/
def bOf (t : ℕ) : Fin 4 := ⟨t / 32 % 4, Nat.mod_lt _ (by decide)⟩
/-- A point's half of the hidden values. -/
def fOf (t : ℕ) : Fin 2 := ⟨t % 2, Nat.mod_lt _ (by decide)⟩
/-- A row of a point's block of tokens, as a row of the arrays. -/
def rowOf (t : ℕ) (j : Fin 512) : Fin 8192 := ⟨512 * (t / 2 % 16) + j.val, by omega⟩

/-- The block of the tokens. -/
theorem idx0 : ∀ t : Fin cfg0.N, win0_0.index t 0 = (bOf t.val).val ∧ win0_0.index t 1 = t.val / 2 % 16
    ∧ win0_0.index t 2 = 0 := by decide +kernel
/-- The block of the modulation. -/
theorem idx1 : ∀ t : Fin cfg0.N, win0_1.index t 0 = (bOf t.val).val ∧ win0_1.index t 1 = 0 ∧ win0_1.index t 2 = 0 := by
  decide +kernel
/-- The block of the norm gain. -/
theorem idx2 : ∀ t : Fin cfg0.N, win0_2.index t 0 = 0 ∧ win0_2.index t 1 = 0 := by decide +kernel
/-- The block of the gates' columns. -/
theorem idx3 : ∀ t : Fin cfg0.N, win0_3.index t 0 = 0 ∧ win0_3.index t 1 = (fOf t.val).val := by decide +kernel
/-- The block of the values' columns. -/
theorem idx4 : ∀ t : Fin cfg0.N, win0_4.index t 0 = 0 ∧ win0_4.index t 1 = (fOf t.val).val + 2 := by decide +kernel
/-- The block of the second matrix's rows. -/
theorem idx5 : ∀ t : Fin cfg0.N, win0_5.index t 0 = (fOf t.val).val ∧ win0_5.index t 1 = 0 := by decide +kernel
/-- The block of the final gain. -/
theorem idx6 : ∀ t : Fin cfg0.N, win0_6.index t 0 = 0 ∧ win0_6.index t 1 = 0 := by decide +kernel
/-- The block of the result. -/
theorem idx7 : ∀ t : Fin cfg0.N, win0_7.index t 0 = (bOf t.val).val ∧ win0_7.index t 1 = t.val / 2 % 16
    ∧ win0_7.index t 2 = 0 := by decide +kernel

/-- A block of tokens, at an index. -/
theorem h_blk (t : Fin cfg0.N) (j : Fin 512) (d : Fin 1024) :
    iblk m c 0 t (ix3 0 j d) = m ((c : Thread nD τ).loc main_arg0) (ix3 (bOf t.val) (rowOf t.val j) d) := by
  obtain ⟨h0, h1, h2⟩ := idx0 t
  blk_ext [iblk, V, h0, h1, h2, rowOf]

/-- A modulation block, at an index. -/
theorem md_blk (t : Fin cfg0.N) (r : Fin 3) (d : Fin 1024) :
    iblk m c 1 t (ix3 0 r d) = m ((c : Thread nD τ).loc main_arg1) (ix3 (bOf t.val) r d) := by
  obtain ⟨h0, h1, h2⟩ := idx1 t
  blk_ext [iblk, V, h0, h1, h2]

/-- The norm gain's block, at an index. -/
theorem g_blk (t : Fin cfg0.N) (d : Fin 1024) :
    iblk m c 2 t (ix2 0 d) = m ((c : Thread nD τ).loc main_arg2) (ix1 d) := by
  obtain ⟨h0, h1⟩ := idx2 t
  blk_simp [iblk, h0, h1]
  entry_read
  pointwise
  blk_ext [h0, h1]

/-- The final gain's block, at an index. -/
theorem fg_blk (t : Fin cfg0.N) (d : Fin 1024) :
    iblk m c 6 t (ix2 0 d) = m ((c : Thread nD τ).loc main_arg5) (ix1 d) := by
  obtain ⟨h0, h1⟩ := idx6 t
  blk_simp [iblk, h0, h1]
  entry_read
  pointwise
  blk_ext [h0, h1]

/-- A block of the gates' columns, at an index. -/
theorem wg_blk (t : Fin cfg0.N) (d : Fin 1024) (k : Fin 1408) :
    iblk m c 3 t (ix2 d k) = m ((c : Thread nD τ).loc main_arg3) (ix2 d (gcol (hid (fOf t.val) k))) := by
  obtain ⟨h0, h1⟩ := idx3 t
  blk_simp [iblk, h0, h1]
  entry_read
  pointwise
  blk_ext [h0, h1, hid, gcol]

/-- A block of the values' columns, at an index. -/
theorem wv_blk (t : Fin cfg0.N) (d : Fin 1024) (k : Fin 1408) :
    iblk m c 4 t (ix2 d k) = m ((c : Thread nD τ).loc main_arg3) (ix2 d (vcol (hid (fOf t.val) k))) := by
  obtain ⟨h0, h1⟩ := idx4 t
  blk_simp [iblk, h0, h1]
  entry_read
  pointwise
  blk_ext [h0, h1, hid, vcol]

/-- A block of the second matrix's rows, at an index. -/
theorem wo_blk (t : Fin cfg0.N) (k : Fin 1408) (e : Fin 1024) :
    iblk m c 5 t (ix2 k e) = m ((c : Thread nD τ).loc main_arg4) (ix2 (hid (fOf t.val) k) e) := by
  obtain ⟨h0, h1⟩ := idx5 t
  blk_simp [iblk, h0, h1]
  entry_read
  pointwise
  blk_ext [h0, h1, hid]

variable {R : Args} {fg : Fin 1024 → EReal} (hR : Holds m c R fg)

/-- What one half of the hidden values adds to an output element. -/
def part (R : Args) (b : Fin 4) (n : Fin 8192) (f : Fin 2) (e : Fin 1024) : EReal :=
  ∑ k, act R b n (hid f k) * R.wo (hid f k) e

/-- The result's blocks are written back at the second point of each pair. -/
theorem flush7 : ∀ t : Fin cfg0.N, (cfg0.win 7).flush t = true → t.val % 2 = 1 := by decide +kernel

section
include hR

/-- The normed and modulated tokens a first point stores. -/
theorem u_pay (t : Fin cfg0.N) (j : Fin 512) (d : Fin 1024) :
    k0_pay1 (iblk m c 0 t) (iblk m c 2 t)
      (View.ld (iblk m c 1 t) (Rect.unit ![0, 0, 0] ![1, 1, 1024] inb_S1x3x1024_S1x1x1024_0_0_0))
      (View.ld (iblk m c 1 t) (Rect.unit ![0, 1, 0] ![1, 1, 1024] inb_S1x3x1024_S1x1x1024_0_1_0)) (ix2 j d)
      = u R (bOf t.val) (rowOf t.val j) d := by
  pointwise [k0_pay1]
  rewrite [md_blk m c t 0, md_blk m c t 1]
  simp only [h_blk m c t, g_blk m c t, hR.h, hR.g, hR.md]
  rfl

/-- What a point's accumulation leaves: what the accumulator held, and the point's half. -/
theorem acc_pay (t : Fin cfg0.N) (v3 : Vec Ideal S512x1024 .bf16) (v10 : Vec Ideal S512x1024 .f32)
    (h3 : ∀ j d, v3 (ix2 j d) = u R (bOf t.val) (rowOf t.val j) d) (j : Fin 512) (e : Fin 1024) :
    k0_pay3 v3 (iblk m c 3 t) (iblk m c 4 t) v10 (iblk m c 5 t) (ix2 j e)
      = v10 (ix2 j e) + part R (bOf t.val) (rowOf t.val j) (fOf t.val) e := by
  pointwise [k0_pay3]
  simp only [h3, wg_blk m c t, wv_blk m c t, wo_blk m c t, hR.wi, hR.wo, zero_sub]
  rfl

/-- The block's result, over what the accumulator holds: the residual sum, normed. -/
theorem out_pay (t : Fin cfg0.N) (v : Vec Ideal S512x1024 .f32) (j : Fin 512)
    (hv : ∀ e, v (ix2 j e) = ∑ k, act R (bOf t.val) (rowOf t.val j) k * R.wo k e) (e : Fin 1024) :
    k0_pay4 (iblk m c 0 t) (View.ld (iblk m c 1 t) (Rect.unit ![0, 2, 0] ![1, 1, 1024] inb_S1x3x1024_S1x1x1024_0_2_0)) v (iblk m c 6 t) (ix3 0 j e)
      = normed R fg (bOf t.val) (rowOf t.val j) e := by
  pointwise [k0_pay4]
  rewrite [md_blk m c t 2]
  simp only [md_blk m c t 2, h_blk m c t, fg_blk m c t, hR.h, hR.md, hR.fg, hv]
  rfl

/-- What a first point of a pair leaves in the scratches. -/
structure Left (t : Fin cfg0.N) : Prop where
  u : ∀ j d, (outsAt0 m c t.val t.isLt).2.1 (ix2 j d) = u R (bOf t.val) (rowOf t.val j) d
  acc : ∀ j e, (outsAt0 m c t.val t.isLt).2.2 (ix2 j e) = part R (bOf t.val) (rowOf t.val j) (fOf t.val) e

omit hR in
/-- The zeroed accumulator. -/
theorem zero_pay (j : Fin 512) (e : Fin 1024) : k0_pay2 (F := Ideal) (ix2 j e) = 0 := by
  pointwise [k0_pay2]

/-- The first point of a pair: the half it adds starts from zero. -/
theorem left_A (t : Fin cfg0.N) (h0 : t.val % 2 = 0) : Left m c (R := R) t := by
  have h1 : ¬ t.val % 2 = 1 := by omega
  refine ⟨fun j d => ?_, fun j e => ?_⟩
  · rw [outsAt0_A m c t h0 h1]
    frame_out
    exact u_pay m c hR t j d
  · rw [outsAt0_A m c t h0 h1]
    frame_out
    refine (acc_pay m c hR t _ _ (fun j d => ?_) j e).trans ?_
    · exact u_pay m c hR t j d
    · rewrite [zero_pay, zero_add]
      rfl

/-- The second point of a pair writes the result's block. -/
theorem out_B (t : Fin cfg0.N) (h1 : t.val % 2 = 1) (j : Fin 512) (e : Fin 1024) :
    (outsAt0 m c t.val t.isLt).1 (ix3 0 j e) = normed R fg (bOf t.val) (rowOf t.val j) e := by
  have h0 : ¬ t.val % 2 = 0 := by omega
  have ih := left_A m c hR ⟨t.val - 1, lt_of_le_of_lt (Nat.sub_le _ _) t.isLt⟩ (show (t.val - 1) % 2 = 0 by omega)
  have eb : bOf (t.val - 1) = bOf t.val := Fin.ext (show (t.val - 1) / 32 % 4 = t.val / 32 % 4 by omega)
  have er : rowOf (t.val - 1) = rowOf t.val := funext fun j =>
    Fin.ext (show 512 * ((t.val - 1) / 2 % 16) + j.val = 512 * (t.val / 2 % 16) + j.val by omega)
  have ef0 : fOf (t.val - 1) = 0 := Fin.ext (show (t.val - 1) % 2 = 0 by omega)
  have ef1 : fOf t.val = 1 := Fin.ext h1
  have hu := ih.u
  have ha := ih.acc
  simp only [eb, er, ef0] at hu ha
  rw [outsAt0_B m c t h0 h1]
  frame_out
  simp only [read_unread_whole]
  refine out_pay m c hR t _ j (fun e => ?_) e
  rewrite [acc_pay m c hR t _ _ hu j e, ha, ef1, sum_hid]
  rfl

end

/-- The result, as one array. -/
def result (R : Args) (fg : Fin 1024 → EReal) : FVec Ideal S4x8192x1024 .f32 := fun i => normed R fg (i 0) (i 1) (i 2)

/-- Every block of the result is some point's. -/
theorem covers7 : (cfg0.win 7).Covers := (cfg0.win 7).covers_of_index_surj rfl (by decide) fun β => by
  have b0 : (β 0).val < 4 := (β 0).isLt
  have b1 : (β 1).val < 16 := (β 1).isLt
  have b2 : (β 2).val < 1 := (β 2).isLt
  obtain ⟨n, hn⟩ : ∃ n, n = ((β 0).val * 16 + (β 1).val) * 2 := ⟨_, rfl⟩
  have hN : n < cfg0.N := lt_of_lt_of_eq (by omega) (show 128 = cfg0.N from N_0.symm)
  obtain ⟨h0, h1, h2⟩ := idx7 ⟨n, hN⟩
  have e0 : n / 32 % 4 = (β 0).val := by omega
  have e1 : n / 2 % 16 = (β 1).val := by omega
  have e2 : 0 = (β 2).val := by omega
  refine ⟨⟨n, hN⟩, fun a => ?_⟩
  match a with
  | ⟨0, _⟩ => exact h0.trans e0
  | ⟨1, _⟩ => exact h1.trans e1
  | ⟨2, _⟩ => exact h2.trans e2

include hR

/-- THE LAST FEED-FORWARD KERNEL'S RESULT ARRAY. -/
theorem final : (dats m 0 c).arrAt 7 cfg0.N = result R fg := by
  refine (dats m 0 c).arrAt_eq_of_covers 7 _ covers7 fun t hf y => ?_
  have h1 : t.val % 2 = 1 := flush7 t hf
  have key : ∀ y : S1x512x1024.Idx, (outsAt0 m c t.val t.isLt).1 y
      = result R fg (ix3 (bOf t.val) (rowOf t.val (y 1)) (y 2)) := by
    intro y
    idx_vars y
    obtain rfl : y0 = 0 := Subsingleton.elim _ _
    exact out_B m c hR t h1 y1 y2
  obtain ⟨h0, h1, h2⟩ := idx7 t
  blk_simp
  refine (congrFun (after0_7 m c t) y).trans ((key y).trans (congrArg (result R fg) ?_))
  blk_ext [h0, h1, h2, rowOf]

end Cert.Kernel3Ideal.Ffn

end
-- ==== Proof.FfnLastRef.lean ====
/-
  The value of the last feed-forward block's reference.
-/
module

public import proofs.«01_k».proof.Proof.FfnLast
public import proofs.«01_k».proof.Proof.Gen.Reference3Ideal.Run
public import Idealize.ShloMosaic.Lib.Tactic.CleanTypes

@[expose] public section

set_option maxRecDepth 16384

noncomputable section

namespace Cert.Reference3Ideal.Ffn

open Cert.Reference3Ideal Cert.Reference3Ideal.Gen Cert.Reference3Ideal.Value Cert.Ffn Idealize.ShloMosaic Idealize.ShloMosaic.TcCoe Idealize.SL.Sem

variable (m : (ℓ : Loc nD τ sig) → Buf (Elt Ideal) ℓ) (c : Dev nD)

/-- The launch memory holds the arguments `R` and the final gain `fg`. -/
structure Holds (R : Args) (fg : Fin 1024 → EReal) : Prop where
  h : ∀ b n d, m ((c : Thread nD τ).loc main_arg0) (ix3 b n d) = R.h b n d
  md : ∀ b r d, m ((c : Thread nD τ).loc main_arg1) (ix3 b r d) = R.md b r d
  g : ∀ d, m ((c : Thread nD τ).loc main_arg2) (ix1 d) = R.g d
  wi : ∀ d k, m ((c : Thread nD τ).loc main_arg3) (ix2 d k) = R.wi d k
  wo : ∀ k e, m ((c : Thread nD τ).loc main_arg4) (ix2 k e) = R.wo k e
  fg : ∀ d, m ((c : Thread nD τ).loc main_arg5) (ix1 d) = fg d

/-- THE REFERENCE'S RESULT, element by element. -/
theorem out_at {R : Args} {fg : Fin 1024 → EReal} (hR : Holds m c R fg) (b : Fin 4) (n : Fin 8192) (e : Fin 1024) :
    res_main_v45 m c (ix3 b n e) = normed R fg b n e := by
  unfold res_main_v45
  clean_types
  pointwise
  simp only [hR.h, hR.md, hR.g, hR.wi, hR.wo, hR.fg]
  rfl

end Cert.Reference3Ideal.Ffn

end
-- ==== Proof.FfnLastClaim.lean ====
/-
  The last feed-forward block's value claim: kernel and reference return the same array, whatever the arguments.
-/
module

public import proofs.«01_k».proof.Defs
public import proofs.«01_k».proof.Proof.FfnLastKernel
public import proofs.«01_k».proof.Proof.FfnLastRef

@[expose] public section

set_option maxRecDepth 16384

noncomputable section

namespace Cert.FfnLast

open Cert.Ffn Idealize.ShloMosaic Idealize.ShloMosaic.TcCoe Idealize.SL.Sem

variable (m : (ℓ : Loc Cert.Kernel3Ideal.nD Cert.Kernel3Ideal.τ Cert.Kernel3Ideal.sig) → Buf (Elt Ideal) ℓ) (c : Dev Cert.Kernel3Ideal.nD)

/-- A device's arguments, element by element. -/
def argsOf : Args where
  h b n d := m ((c.tc : Thread Cert.Kernel3Ideal.nD Cert.Kernel3Ideal.τ).loc Cert.Kernel3Ideal.main_arg0) (ix3 b n d)
  md b r d := m ((c.tc : Thread Cert.Kernel3Ideal.nD Cert.Kernel3Ideal.τ).loc Cert.Kernel3Ideal.main_arg1) (ix3 b r d)
  g d := m ((c.tc : Thread Cert.Kernel3Ideal.nD Cert.Kernel3Ideal.τ).loc Cert.Kernel3Ideal.main_arg2) (ix1 d)
  wi d k := m ((c.tc : Thread Cert.Kernel3Ideal.nD Cert.Kernel3Ideal.τ).loc Cert.Kernel3Ideal.main_arg3) (ix2 d k)
  wo k e := m ((c.tc : Thread Cert.Kernel3Ideal.nD Cert.Kernel3Ideal.τ).loc Cert.Kernel3Ideal.main_arg4) (ix2 k e)

/-- A device's final gain, element by element. -/
def gainOf (d : Fin 1024) : EReal := m ((c.tc : Thread Cert.Kernel3Ideal.nD Cert.Kernel3Ideal.τ).loc Cert.Kernel3Ideal.main_arg5) (ix1 d)

/-- The launch memory holds them. -/
theorem holds : Cert.Kernel3Ideal.Ffn.Holds m c (argsOf m c) (gainOf m c) :=
  ⟨fun _ _ _ => rfl, fun _ _ _ => rfl, fun _ => rfl, fun _ _ => rfl, fun _ _ => rfl, fun _ => rfl⟩

/-- THE LAST FEED-FORWARD BLOCK'S VALUE CLAIM. -/
theorem algebraic : Cert.algebraic_Kernel3Ideal_Reference3Ideal := by
  intro m g m' g' _ hargs
  refine ⟨fun c => Cert.Kernel3Ideal.Ffn.result (argsOf m c) (gainOf m c), ?_, ?_⟩
  · refine (θ_run _ _ _).mono (fun r h c => ?_) (Cert.Kernel3Ideal.Value.run_blocks m g)
    obtain ⟨hv, hk⟩ := h c
    exact ⟨hv.trans (Cert.Kernel3Ideal.Ffn.final m c (holds m c)), hk⟩
  · refine (θ_run _ _ _).mono (fun r h c => ?_) (Cert.Reference3Ideal.Value.run m' g')
    obtain ⟨hv, hk⟩ := h c
    obtain ⟨a0, a1, a2, a3, a4, a5⟩ := hargs c
    have hR : Cert.Reference3Ideal.Ffn.Holds m' c (argsOf m c) (gainOf m c) :=
      ⟨fun _ _ _ => congrFun a0 _, fun _ _ _ => congrFun a1 _, fun _ => congrFun a2 _, fun _ _ => congrFun a3 _,
        fun _ _ => congrFun a4 _, fun _ => congrFun a5 _⟩
    refine ⟨hv.trans (funext fun i => ?_), hk⟩
    idx_vars i
    exact Cert.Reference3Ideal.Ffn.out_at m' c hR i0 i1 i2

end Cert.FfnLast

end
-- ==== Proof.FfnFirst.lean ====
/-
  The first feed-forward block's tokens: an input and a position, added.
-/
module

public import proofs.«01_k».proof.Proof.Ffn

@[expose] public section

noncomputable section

namespace Cert.Ffn

/-- The sum of two extended reals. -/
def plus (a b : EReal) : EReal := a + b

end Cert.Ffn

end
-- ==== Proof.FfnFirstKernel.lean ====
/-
  The value of the first feed-forward kernel: what its two scratches hold after a grid point, and its result.
-/
module

public import proofs.«01_k».proof.Proof.FfnFirst
public import proofs.«01_k».proof.Proof.Gen.Kernel4Ideal.Value
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.Kernel4Ideal.Ffn

open Cert.Kernel4Ideal Cert.Kernel4Ideal.Gen Cert.Ffn Idealize.ShloMosaic Idealize.ShloMosaic.TcCoe Idealize.SL.Sem
open Idealize.ShloMosaic.Pipeline (Dat)

variable (m : (ℓ : Loc nD τ sig) → Buf (Elt Ideal) ℓ) (c : Dev nD)

/-- The launch memory holds the arguments `R`, whose tokens are sums of input and position. -/
structure Holds (R : Args) : Prop where
  h : ∀ b n d, plus (m ((c : Thread nD τ).loc main_arg0) (ix3 b n d)) (m ((c : Thread nD τ).loc main_arg1) (ix2 n d)) = R.h b n d
  md : ∀ b r d, m ((c : Thread nD τ).loc main_arg2) (ix3 b r d) = R.md b r d
  g : ∀ d, m ((c : Thread nD τ).loc main_arg3) (ix1 d) = R.g d
  wi : ∀ d k, m ((c : Thread nD τ).loc main_arg4) (ix2 d k) = R.wi d k
  wo : ∀ k e, m ((c : Thread nD τ).loc main_arg5) (ix2 k e) = R.wo k e

/-- A point's sample. -/
def bOf (t : ℕ) : Fin 4 := ⟨t / 32 % 4, Nat.mod_lt _ (by decide)⟩
/-- A point's half of the hidden values. -/
def fOf (t : ℕ) : Fin 2 := ⟨t % 2, Nat.mod_lt _ (by decide)⟩
/-- A row of a point's block of tokens, as a row of the arrays. -/
def rowOf (t : ℕ) (j : Fin 512) : Fin 8192 := ⟨512 * (t / 2 % 16) + j.val, by omega⟩

/-- The block of the tokens. -/
theorem idx0 : ∀ t : Fin cfg0.N, win0_0.index t 0 = (bOf t.val).val ∧ win0_0.index t 1 = t.val / 2 % 16
    ∧ win0_0.index t 2 = 0 := by decide +kernel
/-- The block of the positions. -/
theorem idx1 : ∀ t : Fin cfg0.N, win0_1.index t 0 = t.val / 2 % 16 ∧ win0_1.index t 1 = 0 := by decide +kernel
/-- The block of the modulation. -/
theorem idx2 : ∀ t : Fin cfg0.N, win0_2.index t 0 = (bOf t.val).val ∧ win0_2.index t 1 = 0 ∧ win0_2.index t 2 = 0 := by
  decide +kernel
/-- The block of the norm gain. -/
theorem idx3 : ∀ t : Fin cfg0.N, win0_3.index t 0 = 0 ∧ win0_3.index t 1 = 0 := by decide +kernel
/-- The block of the gates' columns. -/
theorem idx4 : ∀ t : Fin cfg0.N, win0_4.index t 0 = 0 ∧ win0_4.index t 1 = (fOf t.val).val := by decide +kernel
/-- The block of the values' columns. -/
theorem idx5 : ∀ t : Fin cfg0.N, win0_5.index t 0 = 0 ∧ win0_5.index t 1 = (fOf t.val).val + 2 := by decide +kernel
/-- The block of the second matrix's rows. -/
theorem idx6 : ∀ t : Fin cfg0.N, win0_6.index t 0 = (fOf t.val).val ∧ win0_6.index t 1 = 0 := by decide +kernel
/-- The block of the result. -/
theorem idx7 : ∀ t : Fin cfg0.N, win0_7.index t 0 = (bOf t.val).val ∧ win0_7.index t 1 = t.val / 2 % 16
    ∧ win0_7.index t 2 = 0 := by decide +kernel

/-- A block of tokens, at an index. -/
theorem h_blk (t : Fin cfg0.N) (j : Fin 512) (d : Fin 1024) :
    iblk m c 0 t (ix3 0 j d) = m ((c : Thread nD τ).loc main_arg0) (ix3 (bOf t.val) (rowOf t.val j) d) := by
  obtain ⟨h0, h1, h2⟩ := idx0 t
  blk_ext [iblk, V, h0, h1, h2, rowOf]

/-- A block of positions, at an index. -/
theorem pos_blk (t : Fin cfg0.N) (j : Fin 512) (d : Fin 1024) :
    iblk m c 1 t (ix2 j d) = m ((c : Thread nD τ).loc main_arg1) (ix2 (rowOf t.val j) d) := by
  obtain ⟨h0, h1⟩ := idx1 t
  blk_ext [iblk, V, h0, h1, rowOf]

/-- A modulation block, at an index. -/
theorem md_blk (t : Fin cfg0.N) (r : Fin 3) (d : Fin 1024) :
    iblk m c 2 t (ix3 0 r d) = m ((c : Thread nD τ).loc main_arg2) (ix3 (bOf t.val) r d) := by
  obtain ⟨h0, h1, h2⟩ := idx2 t
  blk_ext [iblk, V, h0, h1, h2]

/-- The norm gain's block, at an index. -/
theorem g_blk (t : Fin cfg0.N) (d : Fin 1024) :
    iblk m c 3 t (ix2 0 d) = m ((c : Thread nD τ).loc main_arg3) (ix1 d) := by
  obtain ⟨h0, h1⟩ := idx3 t
  blk_simp [iblk, h0, h1]
  entry_read
  pointwise
  blk_ext [h0, h1]

/-- A block of the gates' columns, at an index. -/
theorem wg_blk (t : Fin cfg0.N) (d : Fin 1024) (k : Fin 1408) :
    iblk m c 4 t (ix2 d k) = m ((c : Thread nD τ).loc main_arg4) (ix2 d (gcol (hid (fOf t.val) k))) := by
  obtain ⟨h0, h1⟩ := idx4 t
  blk_simp [iblk, h0, h1]
  entry_read
  pointwise
  blk_ext [h0, h1, hid, gcol]

/-- A block of the values' columns, at an index. -/
theorem wv_blk (t : Fin cfg0.N) (d : Fin 1024) (k : Fin 1408) :
    iblk m c 5 t (ix2 d k) = m ((c : Thread nD τ).loc main_arg4) (ix2 d (vcol (hid (fOf t.val) k))) := by
  obtain ⟨h0, h1⟩ := idx5 t
  blk_simp [iblk, h0, h1]
  entry_read
  pointwise
  blk_ext [h0, h1, hid, vcol]

/-- A block of the second matrix's rows, at an index. -/
theorem wo_blk (t : Fin cfg0.N) (k : Fin 1408) (e : Fin 1024) :
    iblk m c 6 t (ix2 k e) = m ((c : Thread nD τ).loc main_arg5) (ix2 (hid (fOf t.val) k) e) := by
  obtain ⟨h0, h1⟩ := idx6 t
  blk_simp [iblk, h0, h1]
  entry_read
  pointwise
  blk_ext [h0, h1, hid]

variable {R : Args} (hR : Holds m c R)

/-- What one half of the hidden values adds to an output element. -/
def part (R : Args) (b : Fin 4) (n : Fin 8192) (f : Fin 2) (e : Fin 1024) : EReal :=
  ∑ k, act R b n (hid f k) * R.wo (hid f k) e

/-- The result's blocks are written back at the second point of each pair. -/
theorem flush7 : ∀ t : Fin cfg0.N, (cfg0.win 7).flush t = true → t.val % 2 = 1 := by decide +kernel

section
include hR

/-- A block of the embedded tokens, at an index. -/
theorem emb (t : Fin cfg0.N) (j : Fin 512) (d : Fin 1024) :
    plus (iblk m c 0 t (ix3 0 j d)) (iblk m c 1 t (ix2 j d)) = R.h (bOf t.val) (rowOf t.val j) d := by
  rewrite [h_blk m c t, pos_blk m c t]
  exact hR.h _ _ _

/-- The embedded tokens a first point stores. -/
theorem h_pay (t : Fin cfg0.N) (j : Fin 512) (d : Fin 1024) :
    k0_pay5 (iblk m c 0 t) (iblk m c 1 t) (ix2 j d) = R.h (bOf t.val) (rowOf t.val j) d := by
  pointwise [k0_pay5, k0_pay4]
  exact emb m c hR t j d

/-- The normed and modulated tokens a first point stores. -/
theorem u_pay (t : Fin cfg0.N) (j : Fin 512) (d : Fin 1024) :
    k0_pay6 (iblk m c 0 t) (iblk m c 1 t) (iblk m c 3 t)
      (View.ld (iblk m c 2 t) (Rect.unit ![0, 0, 0] ![1, 1, 1024] inb_S1x3x1024_S1x1x1024_0_0_0))
      (View.ld (iblk m c 2 t) (Rect.unit ![0, 1, 0] ![1, 1, 1024] inb_S1x3x1024_S1x1x1024_0_1_0)) (ix2 j d)
      = u R (bOf t.val) (rowOf t.val j) d := by
  pointwise [k0_pay6, k0_pay4]
  rewrite [md_blk m c t 0, md_blk m c t 1]
  simp only [g_blk m c t, hR.g, hR.md]
  have e := emb m c hR t j
  unfold plus at e
  simp only [e]
  rfl

/-- What a point's accumulation leaves: what the accumulator held, and the point's half. -/
theorem acc_pay (t : Fin cfg0.N) (v3 : Vec Ideal S512x1024 .bf16) (v10 : Vec Ideal S512x1024 .f32)
    (h3 : ∀ j d, v3 (ix2 j d) = u R (bOf t.val) (rowOf t.val j) d) (j : Fin 512) (e : Fin 1024) :
    k0_pay2 v3 (iblk m c 4 t) (iblk m c 5 t) v10 (iblk m c 6 t) (ix2 j e)
      = v10 (ix2 j e) + part R (bOf t.val) (rowOf t.val j) (fOf t.val) e := by
  pointwise [k0_pay2]
  simp only [h3, wg_blk m c t, wv_blk m c t, wo_blk m c t, hR.wi, hR.wo, zero_sub]
  rfl

/-- The block's result: the tokens, and half the gate times what the accumulator holds. -/
theorem out_pay (t : Fin cfg0.N) (x v : Vec Ideal S512x1024 .f32) (j : Fin 512) (e : Fin 1024)
    (hx : x (ix2 j e) = R.h (bOf t.val) (rowOf t.val j) e) :
    k0_pay3 x (View.ld (iblk m c 2 t) (Rect.unit ![0, 2, 0] ![1, 1, 1024] inb_S1x3x1024_S1x1x1024_0_2_0)) v (ix3 0 j e)
      = R.h (bOf t.val) (rowOf t.val j) e
        + Ideal.ofBits FTy.f32 0x3F000000#32 * R.md (bOf t.val) 2 e * v (ix2 j e) := by
  pointwise [k0_pay3]
  rewrite [md_blk m c t 2, hx, hR.md]
  rfl

/-- What a first point of a pair leaves in the scratches. -/
structure Left (t : Fin cfg0.N) : Prop where
  u : ∀ j d, (outsAt0 m c t.val t.isLt).2.1 (ix2 j d) = u R (bOf t.val) (rowOf t.val j) d
  acc : ∀ j e, (outsAt0 m c t.val t.isLt).2.2.1 (ix2 j e) = part R (bOf t.val) (rowOf t.val j) (fOf t.val) e
  h : ∀ j d, (outsAt0 m c t.val t.isLt).2.2.2 (ix2 j d) = R.h (bOf t.val) (rowOf t.val j) d

omit hR in
/-- The zeroed accumulator. -/
theorem zero_pay (j : Fin 512) (e : Fin 1024) : k0_pay1 (k0_pay7 (F := Ideal)) (ix2 j e) = 0 := by
  pointwise [k0_pay1, k0_pay7]

/-- The first point of a pair: the half it adds starts from zero. -/
theorem left_A (t : Fin cfg0.N) (h0 : t.val % 2 = 0) : Left m c (R := R) t := by
  have h1 : ¬ t.val % 2 = 1 := by omega
  refine ⟨fun j d => ?_, fun j e => ?_, fun j d => ?_⟩
  · rw [outsAt0_A m c t h0 h1]
    frame_out
    exact u_pay m c hR t j d
  · rw [outsAt0_A m c t h0 h1]
    frame_out
    refine (acc_pay m c hR t _ _ (fun j d => ?_) j e).trans ?_
    · exact u_pay m c hR t j d
    · rewrite [zero_pay, zero_add]
      rfl
  · rw [outsAt0_A m c t h0 h1]
    frame_out
    exact h_pay m c hR t j d

/-- The second point of a pair writes the result's block. -/
theorem out_B (t : Fin cfg0.N) (h1 : t.val % 2 = 1) (j : Fin 512) (e : Fin 1024) :
    (outsAt0 m c t.val t.isLt).1 (ix3 0 j e) = res R (bOf t.val) (rowOf t.val j) e := by
  have h0 : ¬ t.val % 2 = 0 := by omega
  have ih := left_A m c hR ⟨t.val - 1, lt_of_le_of_lt (Nat.sub_le _ _) t.isLt⟩ (show (t.val - 1) % 2 = 0 by omega)
  have eb : bOf (t.val - 1) = bOf t.val := Fin.ext (show (t.val - 1) / 32 % 4 = t.val / 32 % 4 by omega)
  have er : rowOf (t.val - 1) = rowOf t.val := funext fun j =>
    Fin.ext (show 512 * ((t.val - 1) / 2 % 16) + j.val = 512 * (t.val / 2 % 16) + j.val by omega)
  have ef0 : fOf (t.val - 1) = 0 := Fin.ext (show (t.val - 1) % 2 = 0 by omega)
  have ef1 : fOf t.val = 1 := Fin.ext h1
  have hu := ih.u
  have ha := ih.acc
  have hh := ih.h
  simp only [eb, er, ef0] at hu ha hh
  rw [outsAt0_B m c t h0 h1]
  frame_out
  simp only [read_unread_whole]
  refine (out_pay m c hR t _ _ j e (hh j e)).trans ?_
  rewrite [acc_pay m c hR t _ _ hu j e, ha, ef1]
  unfold res
  rewrite [sum_hid]
  rfl

end

/-- The result, as one array. -/
def result (R : Args) : FVec Ideal S4x8192x1024 .f32 := fun i => res R (i 0) (i 1) (i 2)

/-- Every block of the result is some point's. -/
theorem covers7 : (cfg0.win 7).Covers := (cfg0.win 7).covers_of_index_surj rfl (by decide) fun β => by
  have b0 : (β 0).val < 4 := (β 0).isLt
  have b1 : (β 1).val < 16 := (β 1).isLt
  have b2 : (β 2).val < 1 := (β 2).isLt
  obtain ⟨n, hn⟩ : ∃ n, n = ((β 0).val * 16 + (β 1).val) * 2 := ⟨_, rfl⟩
  have hN : n < cfg0.N := lt_of_lt_of_eq (by omega) (show 128 = cfg0.N from N_0.symm)
  obtain ⟨h0, h1, h2⟩ := idx7 ⟨n, hN⟩
  have e0 : n / 32 % 4 = (β 0).val := by omega
  have e1 : n / 2 % 16 = (β 1).val := by omega
  have e2 : 0 = (β 2).val := by omega
  refine ⟨⟨n, hN⟩, fun a => ?_⟩
  match a with
  | ⟨0, _⟩ => exact h0.trans e0
  | ⟨1, _⟩ => exact h1.trans e1
  | ⟨2, _⟩ => exact h2.trans e2

include hR

/-- THE FIRST FEED-FORWARD KERNEL'S RESULT ARRAY. -/
theorem final : (dats m 0 c).arrAt 7 cfg0.N = result R := by
  refine (dats m 0 c).arrAt_eq_of_covers 7 _ covers7 fun t hf y => ?_
  have h1 : t.val % 2 = 1 := flush7 t hf
  have key : ∀ y : S1x512x1024.Idx, (outsAt0 m c t.val t.isLt).1 y
      = result R (ix3 (bOf t.val) (rowOf t.val (y 1)) (y 2)) := by
    intro y
    idx_vars y
    obtain rfl : y0 = 0 := Subsingleton.elim _ _
    exact out_B m c hR t h1 y1 y2
  obtain ⟨h0, h1, h2⟩ := idx7 t
  blk_simp
  refine (congrFun (after0_7 m c t) y).trans ((key y).trans (congrArg (result R) ?_))
  blk_ext [h0, h1, h2, rowOf]

end Cert.Kernel4Ideal.Ffn

end
-- ==== Proof.FfnFirstRef.lean ====
/-
  The value of the first feed-forward block's reference.
-/
module

public import proofs.«01_k».proof.Proof.FfnFirst
public import proofs.«01_k».proof.Proof.Gen.Reference4Ideal.Run
public import Idealize.ShloMosaic.Lib.Tactic.CleanTypes

@[expose] public section

set_option maxRecDepth 16384

noncomputable section

namespace Cert.Reference4Ideal.Ffn

open Cert.Reference4Ideal Cert.Reference4Ideal.Gen Cert.Reference4Ideal.Value Cert.Ffn Idealize.ShloMosaic Idealize.ShloMosaic.TcCoe Idealize.SL.Sem

variable (m : (ℓ : Loc nD τ sig) → Buf (Elt Ideal) ℓ) (c : Dev nD)

/-- The launch memory holds the arguments `R`, whose tokens are sums of input and position. -/
structure Holds (R : Args) : Prop where
  h : ∀ b n d, plus (m ((c : Thread nD τ).loc main_arg0) (ix3 b n d)) (m ((c : Thread nD τ).loc main_arg1) (ix2 n d)) = R.h b n d
  md : ∀ b r d, m ((c : Thread nD τ).loc main_arg2) (ix3 b r d) = R.md b r d
  g : ∀ d, m ((c : Thread nD τ).loc main_arg3) (ix1 d) = R.g d
  wi : ∀ d k, m ((c : Thread nD τ).loc main_arg4) (ix2 d k) = R.wi d k
  wo : ∀ k e, m ((c : Thread nD τ).loc main_arg5) (ix2 k e) = R.wo k e

/-- THE REFERENCE'S RESULT, element by element. -/
theorem out_at {R : Args} (hR : Holds m c R) (b : Fin 4) (n : Fin 8192) (e : Fin 1024) :
    res_main_v35 m c (ix3 b n e) = res R b n e := by
  unfold res_main_v35
  clean_types
  pointwise
  have e := hR.h
  unfold plus at e
  simp only [e, hR.md, hR.g, hR.wi, hR.wo]
  rfl

end Cert.Reference4Ideal.Ffn

end
-- ==== Proof.FfnFirstClaim.lean ====
/-
  The first feed-forward block's value claim: kernel and reference return the same array, whatever the arguments.
-/
module

public import proofs.«01_k».proof.Defs
public import proofs.«01_k».proof.Proof.FfnFirstKernel
public import proofs.«01_k».proof.Proof.FfnFirstRef

@[expose] public section

set_option maxRecDepth 16384

noncomputable section

namespace Cert.FfnFirst

open Cert.Ffn Idealize.ShloMosaic Idealize.ShloMosaic.TcCoe Idealize.SL.Sem

variable (m : (ℓ : Loc Cert.Kernel4Ideal.nD Cert.Kernel4Ideal.τ Cert.Kernel4Ideal.sig) → Buf (Elt Ideal) ℓ) (c : Dev Cert.Kernel4Ideal.nD)

/-- A device's arguments, element by element. -/
def argsOf : Args where
  h b n d := plus (m ((c.tc : Thread Cert.Kernel4Ideal.nD Cert.Kernel4Ideal.τ).loc Cert.Kernel4Ideal.main_arg0) (ix3 b n d))
    (m ((c.tc : Thread Cert.Kernel4Ideal.nD Cert.Kernel4Ideal.τ).loc Cert.Kernel4Ideal.main_arg1) (ix2 n d))
  md b r d := m ((c.tc : Thread Cert.Kernel4Ideal.nD Cert.Kernel4Ideal.τ).loc Cert.Kernel4Ideal.main_arg2) (ix3 b r d)
  g d := m ((c.tc : Thread Cert.Kernel4Ideal.nD Cert.Kernel4Ideal.τ).loc Cert.Kernel4Ideal.main_arg3) (ix1 d)
  wi d k := m ((c.tc : Thread Cert.Kernel4Ideal.nD Cert.Kernel4Ideal.τ).loc Cert.Kernel4Ideal.main_arg4) (ix2 d k)
  wo k e := m ((c.tc : Thread Cert.Kernel4Ideal.nD Cert.Kernel4Ideal.τ).loc Cert.Kernel4Ideal.main_arg5) (ix2 k e)

/-- The launch memory holds them. -/
theorem holds : Cert.Kernel4Ideal.Ffn.Holds m c (argsOf m c) :=
  ⟨fun _ _ _ => rfl, fun _ _ _ => rfl, fun _ => rfl, fun _ _ => rfl, fun _ _ => rfl⟩

/-- THE FIRST FEED-FORWARD BLOCK'S VALUE CLAIM. -/
theorem algebraic : Cert.algebraic_Kernel4Ideal_Reference4Ideal := by
  intro m g m' g' _ hargs
  refine ⟨fun c => Cert.Kernel4Ideal.Ffn.result (argsOf m c), ?_, ?_⟩
  · refine (θ_run _ _ _).mono (fun r h c => ?_) (Cert.Kernel4Ideal.Value.run_blocks m g)
    obtain ⟨hv, hk⟩ := h c
    exact ⟨hv.trans (Cert.Kernel4Ideal.Ffn.final m c (holds m c)), hk⟩
  · refine (θ_run _ _ _).mono (fun r h c => ?_) (Cert.Reference4Ideal.Value.run m' g')
    obtain ⟨hv, hk⟩ := h c
    obtain ⟨a0, a1, a2, a3, a4, a5⟩ := hargs c
    have hR : Cert.Reference4Ideal.Ffn.Holds m' c (argsOf m c) :=
      ⟨fun _ _ _ => congrArg₂ plus (congrFun a0 _) (congrFun a1 _), fun _ _ _ => congrFun a2 _, fun _ => congrFun a3 _,
        fun _ _ => congrFun a4 _, fun _ _ => congrFun a5 _⟩
    refine ⟨hv.trans (funext fun i => ?_), hk⟩
    idx_vars i
    exact Cert.Reference4Ideal.Ffn.out_at m' c hR i0 i1 i2

end Cert.FfnFirst

end
-- ==== Proof.LinRes.lean ====
/-
  The output projection's arguments and its result, over the extended reals.
-/
module

public import Idealize.ShloMosaic.Lib.Pointwise

@[expose] public section

noncomputable section

namespace Cert.LinRes

/-- The arguments: the mixer's output, the tokens, the gate, the matrix and its bias. -/
structure Args where
  y : Fin 4 → Fin 8192 → Fin 1024 → EReal
  h : Fin 4 → Fin 8192 → Fin 1024 → EReal
  gate : Fin 4 → Fin 1024 → EReal
  w : Fin 1024 → Fin 1024 → EReal
  b : Fin 1024 → EReal

/-- The result: the tokens, and the gated projection. -/
def res (R : Args) (b : Fin 4) (n : Fin 8192) (e : Fin 1024) : EReal :=
  R.h b n e + R.gate b e * ((∑ k, R.y b n k * R.w k e) + R.b e)

end Cert.LinRes

end
-- ==== Proof.LinResKernel.lean ====
/-
  The output projection kernel's value.
-/
module

public import proofs.«01_k».proof.Proof.LinRes
public import proofs.«01_k».proof.Proof.Gen.Kernel5Ideal.Value
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.Kernel5Ideal.LinRes

open Cert.Kernel5Ideal Cert.Kernel5Ideal.Gen Cert.LinRes Idealize.ShloMosaic Idealize.ShloMosaic.TcCoe Idealize.SL.Sem
open Idealize.ShloMosaic.Pipeline (Dat)

variable (m : (ℓ : Loc nD τ sig) → Buf (Elt Ideal) ℓ) (c : Dev nD)

/-- The launch memory holds the arguments `R`. -/
structure Holds (R : Args) : Prop where
  y : ∀ b n d, m ((c : Thread nD τ).loc main_arg0) (ix3 b n d) = R.y b n d
  h : ∀ b n d, m ((c : Thread nD τ).loc main_arg1) (ix3 b n d) = R.h b n d
  gate : ∀ b d, m ((c : Thread nD τ).loc main_arg2) (ix3 b 0 d) = R.gate b d
  w : ∀ k e, m ((c : Thread nD τ).loc main_arg3) (ix2 k e) = R.w k e
  b : ∀ e, m ((c : Thread nD τ).loc main_arg4) (ix1 e) = R.b e

/-- A point's sample. -/
def bOf (t : ℕ) : Fin 4 := ⟨t / 16 % 4, Nat.mod_lt _ (by decide)⟩
/-- A row of a point's block of tokens, as a row of the arrays. -/
def rowOf (t : ℕ) (j : Fin 512) : Fin 8192 := ⟨512 * (t % 16) + j.val, by omega⟩

/-- The block of the mixer's output. -/
theorem idx0 : ∀ t : Fin cfg0.N, win0_0.index t 0 = (bOf t.val).val ∧ win0_0.index t 1 = t.val % 16 ∧ win0_0.index t 2 = 0 := by
  decide +kernel
/-- The block of the tokens. -/
theorem idx1 : ∀ t : Fin cfg0.N, win0_1.index t 0 = (bOf t.val).val ∧ win0_1.index t 1 = t.val % 16 ∧ win0_1.index t 2 = 0 := by
  decide +kernel
/-- The block of the gate. -/
theorem idx2 : ∀ t : Fin cfg0.N, win0_2.index t 0 = (bOf t.val).val ∧ win0_2.index t 1 = 0 ∧ win0_2.index t 2 = 0 := by
  decide +kernel
/-- The block of the matrix. -/
theorem idx3 : ∀ t : Fin cfg0.N, win0_3.index t 0 = 0 ∧ win0_3.index t 1 = 0 := by decide +kernel
/-- The block of the bias. -/
theorem idx4 : ∀ t : Fin cfg0.N, win0_4.index t 0 = 0 ∧ win0_4.index t 1 = 0 := by decide +kernel
/-- The block of the result. -/
theorem idx5 : ∀ t : Fin cfg0.N, win0_5.index t 0 = (bOf t.val).val ∧ win0_5.index t 1 = t.val % 16 ∧ win0_5.index t 2 = 0 := by
  decide +kernel

/-- A block of the mixer's output, at an index. -/
theorem y_blk (t : Fin cfg0.N) (j : Fin 512) (d : Fin 1024) :
    iblk m c 0 t (ix3 0 j d) = m ((c : Thread nD τ).loc main_arg0) (ix3 (bOf t.val) (rowOf t.val j) d) := by
  obtain ⟨h0, h1, h2⟩ := idx0 t
  blk_ext [iblk, V, h0, h1, h2, rowOf]

/-- A block of the tokens, at an index. -/
theorem h_blk (t : Fin cfg0.N) (j : Fin 512) (d : Fin 1024) :
    iblk m c 1 t (ix3 0 j d) = m ((c : Thread nD τ).loc main_arg1) (ix3 (bOf t.val) (rowOf t.val j) d) := by
  obtain ⟨h0, h1, h2⟩ := idx1 t
  blk_ext [iblk, V, h0, h1, h2, rowOf]

/-- The gate's block, at an index. -/
theorem gate_blk (t : Fin cfg0.N) (d : Fin 1024) :
    iblk m c 2 t (ix3 0 0 d) = m ((c : Thread nD τ).loc main_arg2) (ix3 (bOf t.val) 0 d) := by
  obtain ⟨h0, h1, h2⟩ := idx2 t
  blk_ext [iblk, V, h0, h1, h2]

/-- The matrix's block, at an index. -/
theorem w_blk (t : Fin cfg0.N) (k e : Fin 1024) :
    iblk m c 3 t (ix2 k e) = m ((c : Thread nD τ).loc main_arg3) (ix2 k e) := by
  obtain ⟨h0, h1⟩ := idx3 t
  blk_simp [iblk, h0, h1]
  entry_read
  pointwise
  blk_ext [h0, h1]

/-- The bias's block, at an index. -/
theorem b_blk (t : Fin cfg0.N) (d : Fin 1024) :
    iblk m c 4 t (ix2 0 d) = m ((c : Thread nD τ).loc main_arg4) (ix1 d) := by
  obtain ⟨h0, h1⟩ := idx4 t
  blk_simp [iblk, h0, h1]
  entry_read
  pointwise
  blk_ext [h0, h1]

variable {R : Args} (hR : Holds m c R)

/-- The result, as one array. -/
def result (R : Args) : FVec Ideal S4x8192x1024 .f32 := fun i => res R (i 0) (i 1) (i 2)

include hR in
/-- What a point writes of the result. -/
theorem out_at (t : Fin cfg0.N) (j : Fin 512) (e : Fin 1024) :
    out0_5 (iblk m c 0 t) (iblk m c 1 t) (iblk m c 2 t) (iblk m c 3 t) (iblk m c 4 t) (ix3 0 j e)
      = res R (bOf t.val) (rowOf t.val j) e := by
  unfold out0_5
  frame_out
  pointwise [k0_pay1]
  simp only [y_blk m c t, h_blk m c t, gate_blk m c t, w_blk m c t, b_blk m c t, hR.y, hR.h, hR.gate, hR.w, hR.b]
  rfl

/-- Every block of the result is some point's. -/
theorem covers5 : (cfg0.win 5).Covers := (cfg0.win 5).covers_of_index_surj rfl (by decide) fun β => by
  have b0 : (β 0).val < 4 := (β 0).isLt
  have b1 : (β 1).val < 16 := (β 1).isLt
  have b2 : (β 2).val < 1 := (β 2).isLt
  obtain ⟨n, hn⟩ : ∃ n, n = (β 0).val * 16 + (β 1).val := ⟨_, rfl⟩
  have hN : n < cfg0.N := lt_of_lt_of_eq (by omega) (show 64 = cfg0.N from N_0.symm)
  obtain ⟨h0, h1, h2⟩ := idx5 ⟨n, hN⟩
  have e0 : n / 16 % 4 = (β 0).val := by omega
  have e1 : n % 16 = (β 1).val := by omega
  have e2 : 0 = (β 2).val := by omega
  refine ⟨⟨n, hN⟩, fun a => ?_⟩
  match a with
  | ⟨0, _⟩ => exact h0.trans e0
  | ⟨1, _⟩ => exact h1.trans e1
  | ⟨2, _⟩ => exact h2.trans e2

include hR

/-- THE OUTPUT PROJECTION KERNEL'S RESULT ARRAY. -/
theorem final : (dats m 0 c).arrAt 5 cfg0.N = result R := by
  refine (dats m 0 c).arrAt_eq_of_covers 5 _ covers5 fun t hf y => ?_
  have key : ∀ y : S1x512x1024.Idx, out0_5 (iblk m c 0 t) (iblk m c 1 t) (iblk m c 2 t) (iblk m c 3 t) (iblk m c 4 t) y
      = result R (ix3 (bOf t.val) (rowOf t.val (y 1)) (y 2)) := by
    intro y
    idx_vars y
    obtain rfl : y0 = 0 := Subsingleton.elim _ _
    exact out_at m c hR t y1 y2
  obtain ⟨h0, h1, h2⟩ := idx5 t
  blk_simp
  refine (congrFun (after0_5 m c t) y).trans ((key y).trans (congrArg (result R) ?_))
  blk_ext [h0, h1, h2, rowOf]

end Cert.Kernel5Ideal.LinRes

end
-- ==== Proof.LinResRef.lean ====
/-
  The output projection's reference's value.
-/
module

public import proofs.«01_k».proof.Proof.LinRes
public import proofs.«01_k».proof.Proof.Gen.Reference5Ideal.Run
public import Idealize.ShloMosaic.Lib.Tactic.CleanTypes

@[expose] public section

set_option maxRecDepth 16384

noncomputable section

namespace Cert.Reference5Ideal.LinRes

open Cert.Reference5Ideal Cert.Reference5Ideal.Gen Cert.Reference5Ideal.Value Cert.LinRes Idealize.ShloMosaic Idealize.ShloMosaic.TcCoe Idealize.SL.Sem

variable (m : (ℓ : Loc nD τ sig) → Buf (Elt Ideal) ℓ) (c : Dev nD)

/-- The launch memory holds the arguments `R`. -/
structure Holds (R : Args) : Prop where
  y : ∀ b n d, m ((c : Thread nD τ).loc main_arg0) (ix3 b n d) = R.y b n d
  h : ∀ b n d, m ((c : Thread nD τ).loc main_arg1) (ix3 b n d) = R.h b n d
  gate : ∀ b d, m ((c : Thread nD τ).loc main_arg2) (ix3 b 0 d) = R.gate b d
  w : ∀ k e, m ((c : Thread nD τ).loc main_arg3) (ix2 k e) = R.w k e
  b : ∀ e, m ((c : Thread nD τ).loc main_arg4) (ix1 e) = R.b e

end Cert.Reference5Ideal.LinRes

end
-- ==== Proof.LinResClaim.lean ====
/-
  The output projection's value claim: kernel and reference return the same array, whatever the arguments.
-/
module

public import proofs.«01_k».proof.Defs
public import proofs.«01_k».proof.Proof.LinResKernel
public import proofs.«01_k».proof.Proof.LinResRef

@[expose] public section

set_option maxRecDepth 16384

noncomputable section

namespace Cert.LinRes

open Idealize.ShloMosaic Idealize.ShloMosaic.TcCoe Idealize.SL.Sem

variable (m : (ℓ : Loc Cert.Kernel5Ideal.nD Cert.Kernel5Ideal.τ Cert.Kernel5Ideal.sig) → Buf (Elt Ideal) ℓ) (c : Dev Cert.Kernel5Ideal.nD)

/-- A device's arguments, element by element. -/
def argsOf : Args where
  y b n d := m ((c.tc : Thread Cert.Kernel5Ideal.nD Cert.Kernel5Ideal.τ).loc Cert.Kernel5Ideal.main_arg0) (ix3 b n d)
  h b n d := m ((c.tc : Thread Cert.Kernel5Ideal.nD Cert.Kernel5Ideal.τ).loc Cert.Kernel5Ideal.main_arg1) (ix3 b n d)
  gate b d := m ((c.tc : Thread Cert.Kernel5Ideal.nD Cert.Kernel5Ideal.τ).loc Cert.Kernel5Ideal.main_arg2) (ix3 b 0 d)
  w k e := m ((c.tc : Thread Cert.Kernel5Ideal.nD Cert.Kernel5Ideal.τ).loc Cert.Kernel5Ideal.main_arg3) (ix2 k e)
  b e := m ((c.tc : Thread Cert.Kernel5Ideal.nD Cert.Kernel5Ideal.τ).loc Cert.Kernel5Ideal.main_arg4) (ix1 e)

/-- The launch memory holds them. -/
theorem holds : Cert.Kernel5Ideal.LinRes.Holds m c (argsOf m c) :=
  ⟨fun _ _ _ => rfl, fun _ _ _ => rfl, fun _ _ => rfl, fun _ _ => rfl, fun _ => rfl⟩

/-- THE OUTPUT PROJECTION'S VALUE CLAIM. -/
theorem algebraic : Cert.algebraic_Kernel5Ideal_Reference5Ideal := by
  intro m g m' g' _ hargs
  refine ⟨fun c => Cert.Kernel5Ideal.LinRes.result (argsOf m c), ?_, ?_⟩
  · refine (θ_run _ _ _).mono (fun r h c => ?_) (Cert.Kernel5Ideal.Value.run_blocks m g)
    obtain ⟨hv, hk⟩ := h c
    exact ⟨hv.trans (Cert.Kernel5Ideal.LinRes.final m c (holds m c)), hk⟩
  · refine (θ_run _ _ _).mono (fun r h c => ?_) (Cert.Reference5Ideal.Value.run m' g')
    obtain ⟨hv, hk⟩ := h c
    obtain ⟨a0, a1, a2, a3, a4⟩ := hargs c
    have hR : Cert.Reference5Ideal.LinRes.Holds m' c (argsOf m c) :=
      ⟨fun _ _ _ => congrFun a0 _, fun _ _ _ => congrFun a1 _, fun _ _ => congrFun a2 _, fun _ _ => congrFun a3 _, fun _ => congrFun a4 _⟩
    refine ⟨hv.trans (funext fun i => ?_), hk⟩
    idx_vars i
    clean_types
    pointwise
    simp only [hR.y, hR.h, hR.gate, hR.w, hR.b]
    rfl

end Cert.LinRes

end
-- ==== Proof.MlstmPost.lean ====
/-
  What follows the two scans: its arguments and its result, over the extended reals.
-/
module

public import Idealize.ShloMosaic.Lib.Pointwise

@[expose] public section

noncomputable section

namespace Cert.MlstmPost

open Idealize.ShloMosaic

/-- The arguments: the two scans' outputs, the convolved and the gating half, the tokens, the gate, norm gain, skip and matrix. -/
structure Args where
  hs : Fin 2 → Fin 4 → Fin 8192 → Fin 2048 → EReal
  xc : Fin 4 → Fin 8192 → Fin 2048 → EReal
  z : Fin 4 → Fin 8192 → Fin 2048 → EReal
  h : Fin 4 → Fin 8192 → Fin 1024 → EReal
  gate : Fin 4 → Fin 1024 → EReal
  ng : Fin 2048 → EReal
  sk : Fin 2048 → EReal
  w : Fin 2048 → Fin 1024 → EReal

/-- A head's feature, among all features. -/
def col (hd : Fin 4) (j : Fin 512) : Fin 2048 := ⟨512 * hd.val + j.val, by omega⟩

/-- A sum over the features, head by head. -/
theorem sum_col (F : Fin 2048 → EReal) : ∑ k, F k = ∑ hd, ∑ j, F (col hd j) := by
  rw [← Fintype.sum_prod_type']
  exact (Fintype.sum_equiv (finProdFinEquiv (m := 4) (n := 512)) (fun p => F (col p.1 p.2)) F
    fun p => congrArg F (Fin.ext (Nat.add_comm _ _))).symm

/-- The features of a feature's own head. -/
theorem head_col (x : Fin 4) (y z : Fin 512) (h : (col x y).val / 512 * 512 + z.val < 2048) :
    (⟨(col x y).val / 512 * 512 + z.val, h⟩ : Fin 2048) = col x z :=
  Fin.ext (show (512 * x.val + y.val) / 512 * 512 + z.val = 512 * x.val + z.val by omega)

/-- A feature of the first head. -/
theorem col_zero (x : Fin 512) (h : x.val < 2048) : (⟨x.val, h⟩ : Fin 2048) = col 0 x := Fin.ext (show x.val = 512 * 0 + x.val by omega)
/-- A feature of the second head. -/
theorem col_one (x : Fin 512) (h : 512 + x.val < 2048) : (⟨512 + x.val, h⟩ : Fin 2048) = col 1 x := rfl
/-- A feature of the third head. -/
theorem col_two (x : Fin 512) (h : 1024 + x.val < 2048) : (⟨1024 + x.val, h⟩ : Fin 2048) = col 2 x := rfl
/-- A feature of the fourth head. -/
theorem col_three (x : Fin 512) (h : 1536 + x.val < 2048) : (⟨1536 + x.val, h⟩ : Fin 2048) = col 3 x := rfl

variable (R : Args) (b : Fin 4) (n : Fin 8192)

/-- The scans' sum, centred in its head. -/
def xz (hd : Fin 4) (j : Fin 512) : EReal :=
  R.hs 0 b n (col hd j) + R.hs 1 b n (col hd j)
    - Ideal.div (∑ x, (R.hs 0 b n (col hd x) + R.hs 1 b n (col hd x))) (Ideal.ofBits FTy.f32 0x44000000#32)

/-- A feature after the norm, the skip and the output gate. -/
def act (hd : Fin 4) (j : Fin 512) : EReal :=
  (xz R b n hd j * Ideal.rsqrt (Ideal.div (∑ x, xz R b n hd x * xz R b n hd x) (Ideal.ofBits FTy.f32 0x44000000#32)
      + Ideal.ofBits FTy.f32 0x3727C5AC#32) * R.ng (col hd j) + R.sk (col hd j) * R.xc b n (col hd j))
    * (R.z b n (col hd j) * Ideal.div 1 (1 + Ideal.exp (-R.z b n (col hd j))))

/-- What a head adds to an output element. -/
def part (hd : Fin 4) (e : Fin 1024) : EReal := ∑ j, act R b n hd j * R.w (col hd j) e

/-- The result. -/
def res (e : Fin 1024) : EReal := R.h b n e + R.gate b e * ∑ hd, part R b n hd e

end Cert.MlstmPost

end
-- ==== Proof.MlstmPostKernel.lean ====
/-
  The value of the kernel that follows the two scans.
-/
module

public import proofs.«01_k».proof.Proof.MlstmPost
public import proofs.«01_k».proof.Proof.Gen.Kernel6Ideal.Value
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.Kernel6Ideal.MlstmPost

open Cert.Kernel6Ideal Cert.Kernel6Ideal.Gen Cert.MlstmPost Idealize.ShloMosaic Idealize.ShloMosaic.TcCoe Idealize.SL.Sem
open Idealize.ShloMosaic.Pipeline (Dat)

variable (m : (ℓ : Loc nD τ sig) → Buf (Elt Ideal) ℓ) (c : Dev nD)

/-- The launch memory holds the arguments `R`. -/
structure Holds (R : Args) : Prop where
  hs : ∀ s b n d, m ((c : Thread nD τ).loc main_arg0) (ix4 s b n d) = R.hs s b n d
  xc : ∀ b n d, m ((c : Thread nD τ).loc main_arg1) (ix3 b n d) = R.xc b n d
  z : ∀ b n d, m ((c : Thread nD τ).loc main_arg2) (ix3 b n d) = R.z b n d
  h : ∀ b n d, m ((c : Thread nD τ).loc main_arg3) (ix3 b n d) = R.h b n d
  gate : ∀ b d, m ((c : Thread nD τ).loc main_arg4) (ix3 b 0 d) = R.gate b d
  ng : ∀ d, m ((c : Thread nD τ).loc main_arg5) (ix1 d) = R.ng d
  sk : ∀ d, m ((c : Thread nD τ).loc main_arg6) (ix1 d) = R.sk d
  w : ∀ k e, m ((c : Thread nD τ).loc main_arg7) (ix2 k e) = R.w k e

/-- A point's sample. -/
def bOf (t : ℕ) : Fin 4 := ⟨t / 32 % 4, Nat.mod_lt _ (by decide)⟩
/-- A row of a point's block of tokens, as a row of the arrays. -/
def rowOf (t : ℕ) (j : Fin 256) : Fin 8192 := ⟨256 * (t % 32) + j.val, by omega⟩

/-- The block of the first scan. -/
theorem idx0 : ∀ t : Fin cfg0.N, win0_0.index t 0 = 0 ∧ win0_0.index t 1 = (bOf t.val).val ∧ win0_0.index t 2 = t.val % 32 ∧ win0_0.index t 3 = 0 := by
  decide +kernel
/-- The block of the second scan. -/
theorem idx1 : ∀ t : Fin cfg0.N, win0_1.index t 0 = 1 ∧ win0_1.index t 1 = (bOf t.val).val ∧ win0_1.index t 2 = t.val % 32 ∧ win0_1.index t 3 = 0 := by
  decide +kernel
/-- The block of the convolved half. -/
theorem idx2 : ∀ t : Fin cfg0.N, win0_2.index t 0 = (bOf t.val).val ∧ win0_2.index t 1 = t.val % 32 ∧ win0_2.index t 2 = 0 := by
  decide +kernel
/-- The block of the gating half. -/
theorem idx3 : ∀ t : Fin cfg0.N, win0_3.index t 0 = (bOf t.val).val ∧ win0_3.index t 1 = t.val % 32 ∧ win0_3.index t 2 = 0 := by
  decide +kernel
/-- The block of the tokens. -/
theorem idx4 : ∀ t : Fin cfg0.N, win0_4.index t 0 = (bOf t.val).val ∧ win0_4.index t 1 = t.val % 32 ∧ win0_4.index t 2 = 0 := by
  decide +kernel
/-- The block of the gate. -/
theorem idx5 : ∀ t : Fin cfg0.N, win0_5.index t 0 = (bOf t.val).val ∧ win0_5.index t 1 = 0 ∧ win0_5.index t 2 = 0 := by
  decide +kernel
/-- The block of the norm gain. -/
theorem idx6 : ∀ t : Fin cfg0.N, win0_6.index t 0 = 0 ∧ win0_6.index t 1 = 0 := by
  decide +kernel
/-- The block of the skip. -/
theorem idx7 : ∀ t : Fin cfg0.N, win0_7.index t 0 = 0 ∧ win0_7.index t 1 = 0 := by
  decide +kernel
/-- The block of the matrix. -/
theorem idx8 : ∀ t : Fin cfg0.N, win0_8.index t 0 = 0 ∧ win0_8.index t 1 = 0 := by
  decide +kernel
/-- The block of the result. -/
theorem idx9 : ∀ t : Fin cfg0.N, win0_9.index t 0 = (bOf t.val).val ∧ win0_9.index t 1 = t.val % 32 ∧ win0_9.index t 2 = 0 := by
  decide +kernel

/-- A block of the first scan, at an index. -/
theorem hf_blk (t : Fin cfg0.N) (j : Fin 256) (d : Fin 2048) :
    iblk m c 0 t (ix4 0 0 j d) = m ((c : Thread nD τ).loc main_arg0) (ix4 0 (bOf t.val) (rowOf t.val j) d) := by
  obtain ⟨h0, h1, h2, h3⟩ := idx0 t
  blk_ext [iblk, V, h0, h1, h2, h3, rowOf]

/-- A block of the second scan, at an index. -/
theorem hb_blk (t : Fin cfg0.N) (j : Fin 256) (d : Fin 2048) :
    iblk m c 1 t (ix4 0 0 j d) = m ((c : Thread nD τ).loc main_arg0) (ix4 1 (bOf t.val) (rowOf t.val j) d) := by
  obtain ⟨h0, h1, h2, h3⟩ := idx1 t
  blk_ext [iblk, V, h0, h1, h2, h3, rowOf]

/-- A block of the convolved half, at an index. -/
theorem xc_blk (t : Fin cfg0.N) (j : Fin 256) (d : Fin 2048) :
    iblk m c 2 t (ix3 0 j d) = m ((c : Thread nD τ).loc main_arg1) (ix3 (bOf t.val) (rowOf t.val j) d) := by
  obtain ⟨h0, h1, h2⟩ := idx2 t
  blk_ext [iblk, V, h0, h1, h2, rowOf]

/-- A block of the gating half, at an index. -/
theorem z_blk (t : Fin cfg0.N) (j : Fin 256) (d : Fin 2048) :
    iblk m c 3 t (ix3 0 j d) = m ((c : Thread nD τ).loc main_arg2) (ix3 (bOf t.val) (rowOf t.val j) d) := by
  obtain ⟨h0, h1, h2⟩ := idx3 t
  blk_ext [iblk, V, h0, h1, h2, rowOf]

/-- A block of the tokens, at an index. -/
theorem h_blk (t : Fin cfg0.N) (j : Fin 256) (d : Fin 1024) :
    iblk m c 4 t (ix3 0 j d) = m ((c : Thread nD τ).loc main_arg3) (ix3 (bOf t.val) (rowOf t.val j) d) := by
  obtain ⟨h0, h1, h2⟩ := idx4 t
  blk_ext [iblk, V, h0, h1, h2, rowOf]

/-- The gate's block, at an index. -/
theorem gate_blk (t : Fin cfg0.N) (d : Fin 1024) :
    iblk m c 5 t (ix3 0 0 d) = m ((c : Thread nD τ).loc main_arg4) (ix3 (bOf t.val) 0 d) := by
  obtain ⟨h0, h1, h2⟩ := idx5 t
  blk_ext [iblk, V, h0, h1, h2]

/-- The norm gain's block, at an index. -/
theorem ng_blk (t : Fin cfg0.N) (d : Fin 2048) :
    iblk m c 6 t (ix2 0 d) = m ((c : Thread nD τ).loc main_arg5) (ix1 d) := by
  obtain ⟨h0, h1⟩ := idx6 t
  blk_simp [iblk, h0, h1]
  entry_read
  pointwise
  blk_ext [h0, h1]

/-- The skip's block, at an index. -/
theorem sk_blk (t : Fin cfg0.N) (d : Fin 2048) :
    iblk m c 7 t (ix2 0 d) = m ((c : Thread nD τ).loc main_arg6) (ix1 d) := by
  obtain ⟨h0, h1⟩ := idx7 t
  blk_simp [iblk, h0, h1]
  entry_read
  pointwise
  blk_ext [h0, h1]

/-- The matrix's block, at an index. -/
theorem w_blk (t : Fin cfg0.N) (k : Fin 2048) (e : Fin 1024) :
    iblk m c 8 t (ix2 k e) = m ((c : Thread nD τ).loc main_arg7) (ix2 k e) := by
  obtain ⟨h0, h1⟩ := idx8 t
  blk_simp [iblk, h0, h1]
  entry_read
  pointwise
  blk_ext [h0, h1]

variable {R : Args} (hR : Holds m c R)

/-- The result, as one array. -/
def result (R : Args) : FVec Ideal S4x8192x1024 .f32 := fun i => res R (i 0) (i 1) (i 2)

include hR in
/-- What a point writes of the result. -/
theorem out_at (t : Fin cfg0.N) (j : Fin 256) (e : Fin 1024) :
    out0_9 (iblk m c 0 t) (iblk m c 1 t) (iblk m c 2 t) (iblk m c 3 t) (iblk m c 4 t) (iblk m c 5 t) (iblk m c 6 t) (iblk m c 7 t) (iblk m c 8 t) (ix3 0 j e)
      = res R (bOf t.val) (rowOf t.val j) e := by
  unfold out0_9
  frame_out
  pointwise [k0_pay1, k0_pay2, k0_pay3, k0_pay4, k0_pay5, k0_pay6, k0_pay7, k0_pay8, k0_pay9, k0_pay10, k0_pay11, k0_pay12, k0_pay13]
  simp only [hf_blk m c t, hb_blk m c t, xc_blk m c t, z_blk m c t, h_blk m c t, gate_blk m c t, ng_blk m c t, sk_blk m c t,
    w_blk m c t, hR.hs, hR.xc, hR.z, hR.h, hR.gate, hR.ng, hR.sk, hR.w, zero_sub, zero_add]
  unfold res
  rewrite [Fin.sum_univ_four]
  simp only [col_zero, col_one, col_two, col_three]
  unfold part act xz
  rfl

/-- Every block of the result is some point's. -/
theorem covers9 : (cfg0.win 9).Covers := (cfg0.win 9).covers_of_index_surj rfl (by decide) fun β => by
  have b0 : (β 0).val < 4 := (β 0).isLt
  have b1 : (β 1).val < 32 := (β 1).isLt
  have b2 : (β 2).val < 1 := (β 2).isLt
  obtain ⟨n, hn⟩ : ∃ n, n = (β 0).val * 32 + (β 1).val := ⟨_, rfl⟩
  have hN : n < cfg0.N := lt_of_lt_of_eq (by omega) (show 128 = cfg0.N from N_0.symm)
  obtain ⟨h0, h1, h2⟩ := idx9 ⟨n, hN⟩
  have e0 : n / 32 % 4 = (β 0).val := by omega
  have e1 : n % 32 = (β 1).val := by omega
  have e2 : 0 = (β 2).val := by omega
  refine ⟨⟨n, hN⟩, fun a => ?_⟩
  match a with
  | ⟨0, _⟩ => exact h0.trans e0
  | ⟨1, _⟩ => exact h1.trans e1
  | ⟨2, _⟩ => exact h2.trans e2

include hR

/-- THE KERNEL'S RESULT ARRAY. -/
theorem final : (dats m 0 c).arrAt 9 cfg0.N = result R := by
  refine (dats m 0 c).arrAt_eq_of_covers 9 _ covers9 fun t hf y => ?_
  have key : ∀ y : S1x256x1024.Idx, out0_9 (iblk m c 0 t) (iblk m c 1 t) (iblk m c 2 t) (iblk m c 3 t) (iblk m c 4 t) (iblk m c 5 t) (iblk m c 6 t) (iblk m c 7 t) (iblk m c 8 t) y
      = result R (ix3 (bOf t.val) (rowOf t.val (y 1)) (y 2)) := by
    intro y
    idx_vars y
    obtain rfl : y0 = 0 := Subsingleton.elim _ _
    exact out_at m c hR t y1 y2
  obtain ⟨h0, h1, h2⟩ := idx9 t
  blk_simp
  refine (congrFun (after0_9 m c t) y).trans ((key y).trans (congrArg (result R) ?_))
  blk_ext [h0, h1, h2, rowOf]

end Cert.Kernel6Ideal.MlstmPost

end
-- ==== Proof.MlstmPostRef.lean ====
/-
  The value of the reference of what follows the two scans.
-/
module

public import proofs.«01_k».proof.Proof.MlstmPost
public import proofs.«01_k».proof.Proof.Gen.Reference6Ideal.Run
public import Idealize.ShloMosaic.Lib.Tactic.CleanTypes

@[expose] public section

set_option maxRecDepth 16384

noncomputable section

namespace Cert.Reference6Ideal.MlstmPost

open Cert.Reference6Ideal Cert.Reference6Ideal.Gen Cert.Reference6Ideal.Value Cert.MlstmPost Idealize.ShloMosaic Idealize.ShloMosaic.TcCoe Idealize.SL.Sem

variable (m : (ℓ : Loc nD τ sig) → Buf (Elt Ideal) ℓ) (c : Dev nD)

/-- The launch memory holds the arguments `R`. -/
structure Holds (R : Args) : Prop where
  hs : ∀ s b n d, m ((c : Thread nD τ).loc main_arg0) (ix4 s b n d) = R.hs s b n d
  xc : ∀ b n d, m ((c : Thread nD τ).loc main_arg1) (ix3 b n d) = R.xc b n d
  z : ∀ b n d, m ((c : Thread nD τ).loc main_arg2) (ix3 b n d) = R.z b n d
  h : ∀ b n d, m ((c : Thread nD τ).loc main_arg3) (ix3 b n d) = R.h b n d
  gate : ∀ b d, m ((c : Thread nD τ).loc main_arg4) (ix3 b 0 d) = R.gate b d
  ng : ∀ d, m ((c : Thread nD τ).loc main_arg5) (ix1 d) = R.ng d
  sk : ∀ d, m ((c : Thread nD τ).loc main_arg6) (ix1 d) = R.sk d
  w : ∀ k e, m ((c : Thread nD τ).loc main_arg7) (ix2 k e) = R.w k e

/-- THE REFERENCE'S RESULT, element by element. -/
theorem out_at {R : Args} (hR : Holds m c R) (b : Fin 4) (n : Fin 8192) (e : Fin 1024) :
    res_main_v37 m c (ix3 b n e) = res R b n e := by
  unfold res_main_v37
  clean_types
  pointwise
  rewrite [sum_col]
  simp only [hR.hs, hR.xc, hR.z, hR.h, hR.gate, hR.ng, hR.sk, hR.w, head_col]
  unfold res part act xz
  rfl

end Cert.Reference6Ideal.MlstmPost

end
-- ==== Proof.MlstmPostClaim.lean ====
/-
  The value claim: kernel and reference return the same array, whatever the arguments.
-/
module

public import proofs.«01_k».proof.Defs
public import proofs.«01_k».proof.Proof.MlstmPostKernel
public import proofs.«01_k».proof.Proof.MlstmPostRef

@[expose] public section

set_option maxRecDepth 16384

noncomputable section

namespace Cert.MlstmPost

open Idealize.ShloMosaic Idealize.ShloMosaic.TcCoe Idealize.SL.Sem

variable (m : (ℓ : Loc Cert.Kernel6Ideal.nD Cert.Kernel6Ideal.τ Cert.Kernel6Ideal.sig) → Buf (Elt Ideal) ℓ) (c : Dev Cert.Kernel6Ideal.nD)

/-- A device's arguments, element by element. -/
def argsOf : Args where
  hs s b n d := m ((c.tc : Thread Cert.Kernel6Ideal.nD Cert.Kernel6Ideal.τ).loc Cert.Kernel6Ideal.main_arg0) (ix4 s b n d)
  xc b n d := m ((c.tc : Thread Cert.Kernel6Ideal.nD Cert.Kernel6Ideal.τ).loc Cert.Kernel6Ideal.main_arg1) (ix3 b n d)
  z b n d := m ((c.tc : Thread Cert.Kernel6Ideal.nD Cert.Kernel6Ideal.τ).loc Cert.Kernel6Ideal.main_arg2) (ix3 b n d)
  h b n d := m ((c.tc : Thread Cert.Kernel6Ideal.nD Cert.Kernel6Ideal.τ).loc Cert.Kernel6Ideal.main_arg3) (ix3 b n d)
  gate b d := m ((c.tc : Thread Cert.Kernel6Ideal.nD Cert.Kernel6Ideal.τ).loc Cert.Kernel6Ideal.main_arg4) (ix3 b 0 d)
  ng d := m ((c.tc : Thread Cert.Kernel6Ideal.nD Cert.Kernel6Ideal.τ).loc Cert.Kernel6Ideal.main_arg5) (ix1 d)
  sk d := m ((c.tc : Thread Cert.Kernel6Ideal.nD Cert.Kernel6Ideal.τ).loc Cert.Kernel6Ideal.main_arg6) (ix1 d)
  w k e := m ((c.tc : Thread Cert.Kernel6Ideal.nD Cert.Kernel6Ideal.τ).loc Cert.Kernel6Ideal.main_arg7) (ix2 k e)

/-- The launch memory holds them. -/
theorem holds : Cert.Kernel6Ideal.MlstmPost.Holds m c (argsOf m c) :=
  ⟨fun _ _ _ _ => rfl, fun _ _ _ => rfl, fun _ _ _ => rfl, fun _ _ _ => rfl, fun _ _ => rfl, fun _ => rfl, fun _ => rfl, fun _ _ => rfl⟩

/-- THE VALUE CLAIM. -/
theorem algebraic : Cert.algebraic_Kernel6Ideal_Reference6Ideal := by
  intro m g m' g' _ hargs
  refine ⟨fun c => Cert.Kernel6Ideal.MlstmPost.result (argsOf m c), ?_, ?_⟩
  · refine (θ_run _ _ _).mono (fun r h c => ?_) (Cert.Kernel6Ideal.Value.run_blocks m g)
    obtain ⟨hv, hk⟩ := h c
    exact ⟨hv.trans (Cert.Kernel6Ideal.MlstmPost.final m c (holds m c)), hk⟩
  · refine (θ_run _ _ _).mono (fun r h c => ?_) (Cert.Reference6Ideal.Value.run m' g')
    obtain ⟨hv, hk⟩ := h c
    obtain ⟨a0, a1, a2, a3, a4, a5, a6, a7⟩ := hargs c
    have hR : Cert.Reference6Ideal.MlstmPost.Holds m' c (argsOf m c) :=
      ⟨fun _ _ _ _ => congrFun a0 _, fun _ _ _ => congrFun a1 _, fun _ _ _ => congrFun a2 _, fun _ _ _ => congrFun a3 _, fun _ _ => congrFun a4 _, fun _ => congrFun a5 _, fun _ => congrFun a6 _, fun _ _ => congrFun a7 _⟩
    refine ⟨hv.trans (funext fun i => ?_), hk⟩
    idx_vars i
    exact Cert.Reference6Ideal.MlstmPost.out_at m' c hR i0 i1 i2

end Cert.MlstmPost

end
-- ==== Proof.HyenaIn.lean ====
/-
  The Hyena mixer's input projection: its arguments and its result, over the extended reals.
-/
module

public import Idealize.ShloMosaic.Lib.Pointwise

@[expose] public section

noncomputable section

namespace Cert.HyenaIn

open Idealize.ShloMosaic

/-- The arguments: tokens, modulation, norm gain, the matrix and its bias, the convolution's taps and its bias. -/
structure Args where
  h : Fin 4 → Fin 8192 → Fin 1024 → EReal
  md : Fin 4 → Fin 3 → Fin 1024 → EReal
  g : Fin 1024 → EReal
  w : Fin 1024 → Fin 3072 → EReal
  b : Fin 3072 → EReal
  cw : Fin 3 → Fin 3072 → EReal
  cb : Fin 3072 → EReal

variable (R : Args) (b : Fin 4)

/-- A token, normed and modulated. -/
def u (n : Fin 8192) (d : Fin 1024) : EReal :=
  R.h b n d * Ideal.rsqrt (Ideal.div (∑ x, R.h b n x * R.h b n x) (Ideal.ofBits FTy.f32 0x44800000#32) + Ideal.ofBits FTy.f32 0x358637BD#32)
    * R.g d * (1 + R.md b 1 d) + R.md b 0 d

/-- A token's projection. -/
def proj (n : Fin 8192) (e : Fin 3072) : EReal := (∑ d, u R b n d * R.w d e) + R.b e

/-- The projections with a row of zeros before the first and after the last. -/
def padded (r : ℕ) (e : Fin 3072) : EReal :=
  if h : 1 ≤ r ∧ r < 8193 then proj R b ⟨r - 1, by omega⟩ e else 0

/-- The result: three neighbouring projections, each times its tap, and the bias. -/
def res (n : Fin 8192) (e : Fin 3072) : EReal :=
  padded R b n.val e * R.cw 0 e + padded R b (n.val + 1) e * R.cw 1 e + padded R b (n.val + 2) e * R.cw 2 e + R.cb e

end Cert.HyenaIn

end
-- ==== Proof.HyenaInKernel.lean ====
/-
  The value of the Hyena input projection's kernel: the blocks it reads.
-/
module

public import proofs.«01_k».proof.Proof.HyenaIn
public import proofs.«01_k».proof.Proof.Gen.Kernel7Ideal.Value
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.Kernel7Ideal.HyenaIn

open Cert.Kernel7Ideal Cert.Kernel7Ideal.Gen Cert.HyenaIn Idealize.ShloMosaic Idealize.ShloMosaic.TcCoe Idealize.SL.Sem
open Idealize.ShloMosaic.Pipeline (Dat)

variable (m : (ℓ : Loc nD τ sig) → Buf (Elt Ideal) ℓ) (c : Dev nD)

/-- The launch memory holds the arguments `R`. -/
structure Holds (R : Args) : Prop where
  h : ∀ b n d, m ((c : Thread nD τ).loc main_arg0) (ix3 b n d) = R.h b n d
  md : ∀ b r d, m ((c : Thread nD τ).loc main_arg1) (ix3 b r d) = R.md b r d
  g : ∀ d, m ((c : Thread nD τ).loc main_arg2) (ix1 d) = R.g d
  w : ∀ d e, m ((c : Thread nD τ).loc main_arg3) (ix2 d e) = R.w d e
  b : ∀ e, m ((c : Thread nD τ).loc main_arg4) (ix1 e) = R.b e
  cw : ∀ k e, m ((c : Thread nD τ).loc main_arg5) (ix2 k e) = R.cw k e
  cb : ∀ e, m ((c : Thread nD τ).loc main_arg6) (ix1 e) = R.cb e

/-- A point's sample. -/
def bOf (t : ℕ) : Fin 4 := ⟨t / 16 % 4, Nat.mod_lt _ (by decide)⟩
/-- A row of a point's block of tokens, as a row of the arrays. -/
def rowOf (t : ℕ) (j : Fin 512) : Fin 8192 := ⟨512 * (t % 16) + j.val, by omega⟩
/-- A row of the tokens before a point's block. -/
def rowBefore (t : ℕ) (j : Fin 8) : Fin 8192 := ⟨8 * (64 * (t % 16) - 1) + j.val, by omega⟩
/-- A row of the tokens after a point's block. -/
def rowAfter (t : ℕ) (j : Fin 8) : Fin 8192 := ⟨8 * min (64 * (t % 16) + 64) 1023 + j.val, by omega⟩

/-- The block of the tokens before. -/
theorem idx0 : ∀ t : Fin cfg0.N, win0_0.index t 0 = (bOf t.val).val ∧ win0_0.index t 1 = 64 * (t.val % 16) - 1 ∧ win0_0.index t 2 = 0 := by
  decide +kernel
/-- The block of the tokens. -/
theorem idx1 : ∀ t : Fin cfg0.N, win0_1.index t 0 = (bOf t.val).val ∧ win0_1.index t 1 = t.val % 16 ∧ win0_1.index t 2 = 0 := by
  decide +kernel
/-- The block of the tokens after. -/
theorem idx2 : ∀ t : Fin cfg0.N, win0_2.index t 0 = (bOf t.val).val ∧ win0_2.index t 1 = min (64 * (t.val % 16) + 64) 1023 ∧ win0_2.index t 2 = 0 := by
  decide +kernel
/-- The block of the modulation. -/
theorem idx3 : ∀ t : Fin cfg0.N, win0_3.index t 0 = (bOf t.val).val ∧ win0_3.index t 1 = 0 ∧ win0_3.index t 2 = 0 := by
  decide +kernel
/-- The block of the norm gain. -/
theorem idx4 : ∀ t : Fin cfg0.N, win0_4.index t 0 = 0 ∧ win0_4.index t 1 = 0 := by
  decide +kernel
/-- The block of the matrix. -/
theorem idx5 : ∀ t : Fin cfg0.N, win0_5.index t 0 = 0 ∧ win0_5.index t 1 = 0 := by
  decide +kernel
/-- The block of the matrix's bias. -/
theorem idx6 : ∀ t : Fin cfg0.N, win0_6.index t 0 = 0 ∧ win0_6.index t 1 = 0 := by
  decide +kernel
/-- The block of the taps. -/
theorem idx7 : ∀ t : Fin cfg0.N, win0_7.index t 0 = 0 ∧ win0_7.index t 1 = 0 := by
  decide +kernel
/-- The block of the convolution's bias. -/
theorem idx8 : ∀ t : Fin cfg0.N, win0_8.index t 0 = 0 ∧ win0_8.index t 1 = 0 := by
  decide +kernel
/-- The block of the result. -/
theorem idx9 : ∀ t : Fin cfg0.N, win0_9.index t 0 = (bOf t.val).val ∧ win0_9.index t 1 = t.val % 16 ∧ win0_9.index t 2 = 0 := by
  decide +kernel

/-- A block of the tokens before, at an index. -/
theorem hp_blk (t : Fin cfg0.N) (j : Fin 8) (d : Fin 1024) :
    iblk m c 0 t (ix3 0 j d) = m ((c : Thread nD τ).loc main_arg0) (ix3 (bOf t.val) (rowBefore t.val j) d) := by
  obtain ⟨h0, h1, h2⟩ := idx0 t
  blk_ext [iblk, V, h0, h1, h2, rowBefore]

/-- A block of the tokens, at an index. -/
theorem h_blk (t : Fin cfg0.N) (j : Fin 512) (d : Fin 1024) :
    iblk m c 1 t (ix3 0 j d) = m ((c : Thread nD τ).loc main_arg0) (ix3 (bOf t.val) (rowOf t.val j) d) := by
  obtain ⟨h0, h1, h2⟩ := idx1 t
  blk_ext [iblk, V, h0, h1, h2, rowOf]

/-- A block of the tokens after, at an index. -/
theorem hn_blk (t : Fin cfg0.N) (j : Fin 8) (d : Fin 1024) :
    iblk m c 2 t (ix3 0 j d) = m ((c : Thread nD τ).loc main_arg0) (ix3 (bOf t.val) (rowAfter t.val j) d) := by
  obtain ⟨h0, h1, h2⟩ := idx2 t
  blk_ext [iblk, V, h0, h1, h2, rowAfter]

/-- A modulation block, at an index. -/
theorem md_blk (t : Fin cfg0.N) (r : Fin 3) (d : Fin 1024) :
    iblk m c 3 t (ix3 0 r d) = m ((c : Thread nD τ).loc main_arg1) (ix3 (bOf t.val) r d) := by
  obtain ⟨h0, h1, h2⟩ := idx3 t
  blk_ext [iblk, V, h0, h1, h2]

/-- The norm gain's block, at an index. -/
theorem g_blk (t : Fin cfg0.N) (d : Fin 1024) :
    iblk m c 4 t (ix2 0 d) = m ((c : Thread nD τ).loc main_arg2) (ix1 d) := by
  obtain ⟨h0, h1⟩ := idx4 t
  blk_simp [iblk, h0, h1]
  entry_read
  pointwise
  blk_ext [h0, h1]

/-- The matrix's block, at an index. -/
theorem w_blk (t : Fin cfg0.N) (k : Fin 1024) (e : Fin 3072) :
    iblk m c 5 t (ix2 k e) = m ((c : Thread nD τ).loc main_arg3) (ix2 k e) := by
  obtain ⟨h0, h1⟩ := idx5 t
  blk_simp [iblk, h0, h1]
  entry_read
  pointwise
  blk_ext [h0, h1]

/-- The matrix's bias's block, at an index. -/
theorem b_blk (t : Fin cfg0.N) (e : Fin 3072) :
    iblk m c 6 t (ix2 0 e) = m ((c : Thread nD τ).loc main_arg4) (ix1 e) := by
  obtain ⟨h0, h1⟩ := idx6 t
  blk_simp [iblk, h0, h1]
  entry_read
  pointwise
  blk_ext [h0, h1]

/-- The taps' block, at an index. -/
theorem cw_blk (t : Fin cfg0.N) (k : Fin 3) (e : Fin 3072) :
    iblk m c 7 t (ix2 k e) = m ((c : Thread nD τ).loc main_arg5) (ix2 k e) := by
  obtain ⟨h0, h1⟩ := idx7 t
  blk_ext [iblk, V, h0, h1]

/-- The convolution's bias's block, at an index. -/
theorem cb_blk (t : Fin cfg0.N) (e : Fin 3072) :
    iblk m c 8 t (ix2 0 e) = m ((c : Thread nD τ).loc main_arg6) (ix1 e) := by
  obtain ⟨h0, h1⟩ := idx8 t
  blk_simp [iblk, h0, h1]
  entry_read
  pointwise
  blk_ext [h0, h1]

end Cert.Kernel7Ideal.HyenaIn

end
-- ==== Proof.HyenaInKernelRun.lean ====
/-
  The value of the Hyena input projection's kernel: what a point writes, and its result.
-/
module

public import proofs.«01_k».proof.Proof.HyenaInKernel

@[expose] public section

set_option maxRecDepth 16384

noncomputable section

namespace Cert.Kernel7Ideal.HyenaIn

open Cert.Kernel7Ideal Cert.Kernel7Ideal.Gen Cert.HyenaIn Idealize.ShloMosaic Idealize.ShloMosaic.TcCoe Idealize.SL.Sem
open Idealize.ShloMosaic.Pipeline (Dat)

variable (m : (ℓ : Loc nD τ sig) → Buf (Elt Ideal) ℓ) (c : Dev nD) {R : Args} (hR : Holds m c R)

/-- A choice by whether a small number lies below another. -/
theorem select_slt {α : Type} (r k : ℕ) (hr : r < 1024) (hk : k < 1024) (x y : α) :
    Scalar.select (IntOp.cmpi CmpIPredicate.slt (BitVec.ofNat 32 r) (BitVec.ofNat 32 k)) x y = if r < k then x else y := by
  rewrite [WordCmp.cmpi_slt_ofNat (by omega) (by omega)]
  by_cases h : r < k <;> simp [Scalar.select, h]

/-- A choice by whether a small number reaches another. -/
theorem select_sge {α : Type} (r k : ℕ) (hr : r < 1024) (hk : k < 1024) (x y : α) :
    Scalar.select (IntOp.cmpi CmpIPredicate.sge (BitVec.ofNat 32 r) (BitVec.ofNat 32 k)) x y = if k ≤ r then x else y := by
  rewrite [WordCmp.cmpi_sge_ofNat (by omega) (by omega)]
  by_cases h : k ≤ r <;> simp [Scalar.select, h]

/-- The first row that counts: the sequence's first block has nothing before it. -/
theorem low_row : ∀ i : Fin 16, Scalar.select (Scalar.cmpi CmpIPredicate.eq (BitVec.ofNat 32 i.val) 0#32) 8#32 0#32
    = BitVec.ofNat 32 (if i.val = 0 then 8 else 0) := by decide

/-- The row after the last that counts: the sequence's last block has nothing after it. -/
theorem high_row : ∀ i : Fin 16, Scalar.select (Scalar.cmpi CmpIPredicate.eq (BitVec.ofNat 32 i.val) 15#32) 520#32 528#32
    = BitVec.ofNat 32 (if i.val = 15 then 520 else 528) := by decide

/-- A masked row is the padded projection's. -/
theorem masked (R : Args) (b : Fin 4) (i : Fin 16) (r : ℕ) (hr : r < 528) (e : Fin 3072) (X k : EReal)
    (hX : ∀ n : Fin 8192, n.val + 8 = 512 * i.val + r → X = proj R b n e) :
    Scalar.select (IntOp.cmpi CmpIPredicate.slt (BitVec.ofNat 32 r)
        (Scalar.select (Scalar.cmpi CmpIPredicate.eq (BitVec.ofNat 32 i.val) 0#32) 8#32 0#32)) 0
      (Scalar.select (IntOp.cmpi CmpIPredicate.sge (BitVec.ofNat 32 r)
        (Scalar.select (Scalar.cmpi CmpIPredicate.eq (BitVec.ofNat 32 i.val) 15#32) 520#32 528#32)) 0 (X * k))
      = padded R b (512 * i.val + r - 7) e * k := by
  have hi : i.val < 16 := i.isLt
  rewrite [low_row, high_row, select_slt _ _ (by omega) (by split <;> omega), select_sge _ _ (by omega) (by split <;> omega)]
  unfold padded
  by_cases h : 1 ≤ 512 * i.val + r - 7 ∧ 512 * i.val + r - 7 < 8193
  · rewrite [if_neg (by split <;> omega), if_neg (by split <;> omega), dif_pos h]
    exact congrArg (· * k) (hX ⟨512 * i.val + r - 7 - 1, by omega⟩ (by show 512 * i.val + r - 7 - 1 + 8 = _; omega))
  · rewrite [dif_neg h, zero_mul]
    by_cases h0 : r < if i.val = 0 then 8 else 0
    · exact if_pos h0
    · refine (if_neg h0).trans (if_pos ?_)
      revert h0
      split <;> split <;> omega

/-- A point's place along the sequence. -/
def place (t : ℕ) : Fin 16 := ⟨t % 16, Nat.mod_lt _ (by decide)⟩

/-- A point's second grid coordinate is its place. -/
theorem coord : ∀ t : Fin cfg0.N, (grid0.coords t 1).val = (place t.val).val :=
  (by decide +kernel : ∀ t : Fin grid0.N, (grid0.coords t 1).val = (place t.val).val)

include hR in
/-- The rows of the three blocks, one after the other. -/
theorem rows_at (t : Fin cfg0.N) (r : Fin 528) (n : Fin 8192) (hn : n.val + 8 = 512 * (place t.val).val + r.val) (d : Fin 1024) :
    (if h : r.val < 8 then iblk m c 0 t (ix3 0 ⟨r.val, h⟩ d)
      else if h' : r.val - 8 < 512 then iblk m c 1 t (ix3 0 ⟨r.val - 8, h'⟩ d)
        else iblk m c 2 t (ix3 0 ⟨r.val - 8 - 512, by have := r.isLt; omega⟩ d)) = R.h (bOf t.val) n d := by
  have hr := r.isLt
  have hp : (place t.val).val = t.val % 16 := rfl
  have hn' := n.isLt
  split
  · rewrite [hp_blk m c t, hR.h]
    exact congrArg (R.h (bOf t.val) · d) (Fin.ext (by show 8 * (64 * (t.val % 16) - 1) + r.val = n.val; omega))
  · split
    · rewrite [h_blk m c t, hR.h]
      exact congrArg (R.h (bOf t.val) · d) (Fin.ext (by show 512 * (t.val % 16) + (r.val - 8) = n.val; omega))
    · rewrite [hn_blk m c t, hR.h]
      exact congrArg (R.h (bOf t.val) · d)
        (Fin.ext (by show 8 * min (64 * (t.val % 16) + 64) 1023 + (r.val - 8 - 512) = n.val; omega))

include hR in
/-- A row of the three blocks that lies in the sequence, normed and modulated. -/
theorem u_at (t : Fin cfg0.N) (r : Fin 528) (n : Fin 8192) (hn : n.val + 8 = 512 * (place t.val).val + r.val) (d : Fin 1024) :
    k0_pay3 (iblk m c 0 t) (iblk m c 1 t) (iblk m c 2 t) (iblk m c 4 t)
      (View.ld (iblk m c 3 t) r0_3) (View.ld (iblk m c 3 t) r0_4) (ix2 r d) = u R (bOf t.val) n d := by
  pointwise [k0_pay3]
  simp only [rows_at m c hR t r n hn, g_blk m c t, md_blk m c t, hR.g, hR.md]
  rfl

include hR in
/-- A row's projection. -/
theorem proj_at (t : Fin cfg0.N) (r : Fin 528) (e : Fin 3072) (n : Fin 8192) (hn : n.val + 8 = 512 * (place t.val).val + r.val) :
    (∑ x : Fin 1024, k0_pay3 (iblk m c 0 t) (iblk m c 1 t) (iblk m c 2 t) (iblk m c 4 t)
      (View.ld (iblk m c 3 t) r0_3) (View.ld (iblk m c 3 t) r0_4) (ix2 r x) * R.w x e) + R.b e = proj R (bOf t.val) n e := by
  unfold proj
  exact congrArg (· + R.b e) (Finset.sum_congr rfl fun x _ => congrArg (· * R.w x e) (u_at m c hR t r n hn x))

/-- The result, as one array. -/
def result (R : Args) : FVec Ideal S4x8192x3072 .f32 := fun i => res R (i 0) (i 1) (i 2)

include hR in
/-- What a point writes of the result. -/
theorem out_at (t : Fin cfg0.N) (j : Fin 512) (e : Fin 3072) :
    out0_9 (grid0.coords t) (iblk m c 0 t) (iblk m c 1 t) (iblk m c 2 t) (iblk m c 3 t) (iblk m c 4 t) (iblk m c 5 t) (iblk m c 6 t) (iblk m c 7 t) (iblk m c 8 t) (ix3 0 j e)
      = res R (bOf t.val) (rowOf t.val j) e := by
  have hj := j.isLt
  unfold out0_9
  frame_out
  pointwise [k0_pay1, k0_pay2, k0_pay4]
  simp only [w_blk m c t, b_blk m c t, cw_blk m c t, cb_blk m c t, hR.w, hR.b, hR.cw, hR.cb, coord t]
  have f0 := masked R (bOf t.val) (place t.val) ((8 + j.val + 528 - 1) % 528) (by omega) e _ (R.cw 0 e)
    (proj_at m c hR t ⟨(8 + j.val + 528 - 1) % 528, by omega⟩ e)
  have f1 := masked R (bOf t.val) (place t.val) (8 + j.val) (by omega) e _ (R.cw 1 e)
    (proj_at m c hR t ⟨8 + j.val, by omega⟩ e)
  have f2 := masked R (bOf t.val) (place t.val) ((8 + j.val + 528 - 527) % 528) (by omega) e _ (R.cw 2 e)
    (proj_at m c hR t ⟨(8 + j.val + 528 - 527) % 528, by omega⟩ e)
  have n0 : 512 * (place t.val).val + (8 + j.val + 528 - 1) % 528 - 7 = (rowOf t.val j).val := by
    show 512 * (t.val % 16) + _ - 7 = 512 * (t.val % 16) + j.val; omega
  have n1 : 512 * (place t.val).val + (8 + j.val) - 7 = (rowOf t.val j).val + 1 := by
    show 512 * (t.val % 16) + _ - 7 = 512 * (t.val % 16) + j.val + 1; omega
  have n2 : 512 * (place t.val).val + (8 + j.val + 528 - 527) % 528 - 7 = (rowOf t.val j).val + 2 := by
    show 512 * (t.val % 16) + _ - 7 = 512 * (t.val % 16) + j.val + 2; omega
  rewrite [n0] at f0
  rewrite [n1] at f1
  rewrite [n2] at f2
  unfold res
  exact congrArg (· + R.cb e) (congrArg₂ (· + ·) (congrArg₂ (· + ·) f0 f1) f2)

/-- Every block of the result is some point's. -/
theorem covers9 : (cfg0.win 9).Covers := (cfg0.win 9).covers_of_index_surj rfl (by decide) fun β => by
  have b0 : (β 0).val < 4 := (β 0).isLt
  have b1 : (β 1).val < 16 := (β 1).isLt
  have b2 : (β 2).val < 1 := (β 2).isLt
  obtain ⟨n, hn⟩ : ∃ n, n = (β 0).val * 16 + (β 1).val := ⟨_, rfl⟩
  have hN : n < cfg0.N := lt_of_lt_of_eq (by omega) (show 64 = cfg0.N from N_0.symm)
  obtain ⟨h0, h1, h2⟩ := idx9 ⟨n, hN⟩
  have e0 : n / 16 % 4 = (β 0).val := by omega
  have e1 : n % 16 = (β 1).val := by omega
  have e2 : 0 = (β 2).val := by omega
  refine ⟨⟨n, hN⟩, fun a => ?_⟩
  match a with
  | ⟨0, _⟩ => exact h0.trans e0
  | ⟨1, _⟩ => exact h1.trans e1
  | ⟨2, _⟩ => exact h2.trans e2

include hR

/-- THE HYENA INPUT PROJECTION KERNEL'S RESULT ARRAY. -/
theorem final : (dats m 0 c).arrAt 9 cfg0.N = result R := by
  refine (dats m 0 c).arrAt_eq_of_covers 9 _ covers9 fun t hf y => ?_
  have key : ∀ y : S1x512x3072.Idx, out0_9 (grid0.coords t) (iblk m c 0 t) (iblk m c 1 t) (iblk m c 2 t) (iblk m c 3 t) (iblk m c 4 t) (iblk m c 5 t) (iblk m c 6 t) (iblk m c 7 t) (iblk m c 8 t) y
      = result R (ix3 (bOf t.val) (rowOf t.val (y 1)) (y 2)) := by
    intro y
    idx_vars y
    obtain rfl : y0 = 0 := Subsingleton.elim _ _
    exact out_at m c hR t y1 y2
  obtain ⟨h0, h1, h2⟩ := idx9 t
  blk_simp
  refine (congrFun (after0_9 m c t) y).trans ((key y).trans (congrArg (result R) ?_))
  blk_ext [h0, h1, h2, rowOf]

end Cert.Kernel7Ideal.HyenaIn

end
-- ==== Proof.HyenaInRef.lean ====
/-
  The value of the Hyena input projection's reference.
-/
module

public import proofs.«01_k».proof.Proof.HyenaIn
public import proofs.«01_k».proof.Proof.Gen.Reference7Ideal.Run
public import Idealize.ShloMosaic.Lib.Tactic.CleanTypes

@[expose] public section

set_option maxRecDepth 16384

noncomputable section

namespace Cert.Reference7Ideal.HyenaIn

open Cert.Reference7Ideal Cert.Reference7Ideal.Gen Cert.Reference7Ideal.Value Cert.HyenaIn Idealize.ShloMosaic Idealize.ShloMosaic.TcCoe Idealize.SL.Sem

variable (m : (ℓ : Loc nD τ sig) → Buf (Elt Ideal) ℓ) (c : Dev nD)

/-- The launch memory holds the arguments `R`. -/
structure Holds (R : Args) : Prop where
  h : ∀ b n d, m ((c : Thread nD τ).loc main_arg0) (ix3 b n d) = R.h b n d
  md : ∀ b r d, m ((c : Thread nD τ).loc main_arg1) (ix3 b r d) = R.md b r d
  g : ∀ d, m ((c : Thread nD τ).loc main_arg2) (ix1 d) = R.g d
  w : ∀ d e, m ((c : Thread nD τ).loc main_arg3) (ix2 d e) = R.w d e
  b : ∀ e, m ((c : Thread nD τ).loc main_arg4) (ix1 e) = R.b e
  cw : ∀ k e, m ((c : Thread nD τ).loc main_arg5) (ix2 k e) = R.cw k e
  cb : ∀ e, m ((c : Thread nD τ).loc main_arg6) (ix1 e) = R.cb e

/-- The reference's zero of the padding is zero. -/
theorem pad_zero : (FloatOps.sitofp FTy.f32 (0#32 : BitVec 32) : Ideal FTy.f32) = 0 := by
  show (((0#32 : BitVec 32).toInt : ℝ) : EReal) = 0
  simp

/-- The padded projections as the reference reads them: inside the sequence, or the padding. -/
theorem padded_eq (R : Args) (b : Fin 4) (r : ℕ) (e : Fin 3072) :
    padded R b r e = if h : 1 ≤ r ∧ r - 1 < 8192 then proj R b ⟨r - 1, h.2⟩ e else (FloatOps.sitofp FTy.f32 (0#32 : BitVec 32) : Ideal FTy.f32) := by
  unfold padded
  by_cases h : 1 ≤ r ∧ r < 8193
  · rewrite [dif_pos h, dif_pos ⟨h.1, by omega⟩]; rfl
  · rewrite [dif_neg h, dif_neg (by omega)]; exact pad_zero.symm

/-- A row of the sequence is the padded one after it. -/
theorem padded_mid (R : Args) (b : Fin 4) (n : Fin 8192) (e : Fin 3072) : padded R b (n.val + 1) e = proj R b n e := by
  have hn := n.isLt
  unfold padded
  rewrite [dif_pos ⟨by omega, by omega⟩]
  rfl

/-- The result, with the rows as the reference reads them. -/
theorem res_eq (R : Args) (b : Fin 4) (n : Fin 8192) (e : Fin 3072) :
    res R b n e = (if h : 1 ≤ n.val ∧ n.val - 1 < 8192 then proj R b ⟨n.val - 1, h.2⟩ e else (FloatOps.sitofp FTy.f32 (0#32 : BitVec 32) : Ideal FTy.f32)) * R.cw 0 e
      + proj R b n e * R.cw 1 e
      + (if h : 1 ≤ 2 + n.val ∧ 2 + n.val - 1 < 8192 then proj R b ⟨2 + n.val - 1, h.2⟩ e else (FloatOps.sitofp FTy.f32 (0#32 : BitVec 32) : Ideal FTy.f32)) * R.cw 2 e
      + R.cb e := by
  unfold res
  rewrite [padded_mid, Nat.add_comm n.val 2, padded_eq R b n.val, padded_eq R b (2 + n.val)]
  rfl

/-- THE REFERENCE'S RESULT, element by element. -/
theorem out_at {R : Args} (hR : Holds m c R) (b : Fin 4) (n : Fin 8192) (e : Fin 3072) :
    res_main_v50 m c (ix3 b n e) = res R b n e := by
  unfold res_main_v50
  clean_types
  pointwise
  simp only [hR.h, hR.md, hR.g, hR.w, hR.b, hR.cw, hR.cb]
  rewrite [res_eq]
  unfold proj u
  with_reducible rfl

end Cert.Reference7Ideal.HyenaIn

end
-- ==== Proof.HyenaInClaim.lean ====
/-
  The Hyena input projection's value claim: kernel and reference return the same array, whatever the arguments.
-/
module

public import proofs.«01_k».proof.Defs
public import proofs.«01_k».proof.Proof.HyenaInKernelRun
public import proofs.«01_k».proof.Proof.HyenaInRef

@[expose] public section

set_option maxRecDepth 16384

noncomputable section

namespace Cert.HyenaIn

open Idealize.ShloMosaic Idealize.ShloMosaic.TcCoe Idealize.SL.Sem

variable (m : (ℓ : Loc Cert.Kernel7Ideal.nD Cert.Kernel7Ideal.τ Cert.Kernel7Ideal.sig) → Buf (Elt Ideal) ℓ) (c : Dev Cert.Kernel7Ideal.nD)

/-- A device's arguments, element by element. -/
def argsOf : Args where
  h b n d := m ((c.tc : Thread Cert.Kernel7Ideal.nD Cert.Kernel7Ideal.τ).loc Cert.Kernel7Ideal.main_arg0) (ix3 b n d)
  md b r d := m ((c.tc : Thread Cert.Kernel7Ideal.nD Cert.Kernel7Ideal.τ).loc Cert.Kernel7Ideal.main_arg1) (ix3 b r d)
  g d := m ((c.tc : Thread Cert.Kernel7Ideal.nD Cert.Kernel7Ideal.τ).loc Cert.Kernel7Ideal.main_arg2) (ix1 d)
  w d e := m ((c.tc : Thread Cert.Kernel7Ideal.nD Cert.Kernel7Ideal.τ).loc Cert.Kernel7Ideal.main_arg3) (ix2 d e)
  b e := m ((c.tc : Thread Cert.Kernel7Ideal.nD Cert.Kernel7Ideal.τ).loc Cert.Kernel7Ideal.main_arg4) (ix1 e)
  cw k e := m ((c.tc : Thread Cert.Kernel7Ideal.nD Cert.Kernel7Ideal.τ).loc Cert.Kernel7Ideal.main_arg5) (ix2 k e)
  cb e := m ((c.tc : Thread Cert.Kernel7Ideal.nD Cert.Kernel7Ideal.τ).loc Cert.Kernel7Ideal.main_arg6) (ix1 e)

/-- The launch memory holds them. -/
theorem holds : Cert.Kernel7Ideal.HyenaIn.Holds m c (argsOf m c) :=
  ⟨fun _ _ _ => rfl, fun _ _ _ => rfl, fun _ => rfl, fun _ _ => rfl, fun _ => rfl, fun _ _ => rfl, fun _ => rfl⟩

/-- THE HYENA INPUT PROJECTION'S VALUE CLAIM. -/
theorem algebraic : Cert.algebraic_Kernel7Ideal_Reference7Ideal := by
  intro m g m' g' _ hargs
  refine ⟨fun c => Cert.Kernel7Ideal.HyenaIn.result (argsOf m c), ?_, ?_⟩
  · refine (θ_run _ _ _).mono (fun r h c => ?_) (Cert.Kernel7Ideal.Value.run_blocks m g)
    obtain ⟨hv, hk⟩ := h c
    exact ⟨hv.trans (Cert.Kernel7Ideal.HyenaIn.final m c (holds m c)), hk⟩
  · refine (θ_run _ _ _).mono (fun r h c => ?_) (Cert.Reference7Ideal.Value.run m' g')
    obtain ⟨hv, hk⟩ := h c
    obtain ⟨a0, a1, a2, a3, a4, a5, a6⟩ := hargs c
    have hR : Cert.Reference7Ideal.HyenaIn.Holds m' c (argsOf m c) :=
      ⟨fun _ _ _ => congrFun a0 _, fun _ _ _ => congrFun a1 _, fun _ => congrFun a2 _, fun _ _ => congrFun a3 _, fun _ => congrFun a4 _, fun _ _ => congrFun a5 _, fun _ => congrFun a6 _⟩
    refine ⟨hv.trans (funext fun i => ?_), hk⟩
    idx_vars i
    exact Cert.Reference7Ideal.HyenaIn.out_at m' c hR i0 i1 i2

end Cert.HyenaIn

end
-- ==== Proof.MlstmPre.lean ====
/-
  What precedes the scans: its arguments and its six results, over the extended reals.
-/
module

public import Idealize.ShloMosaic.Lib.Pointwise

@[expose] public section

noncomputable section

namespace Cert.MlstmPre

open Idealize.ShloMosaic

/-- The arguments: tokens, modulation, norm gain, the matrix, the taps and their bias, the three block-diagonal matrices'
    blocks, the gates' matrix and its bias. -/
structure Args where
  h : Fin 4 → Fin 8192 → Fin 1024 → EReal
  md : Fin 4 → Fin 3 → Fin 1024 → EReal
  g : Fin 1024 → EReal
  w : Fin 1024 → Fin 4096 → EReal
  cw : Fin 3 → Fin 2048 → EReal
  cb : Fin 2048 → EReal
  wq : Fin 512 → Fin 4 → Fin 4 → EReal
  wk : Fin 512 → Fin 4 → Fin 4 → EReal
  wv : Fin 512 → Fin 4 → Fin 4 → EReal
  wg : Fin 6144 → Fin 16 → EReal
  bg : Fin 16 → EReal

/-- A block's feature, among all features. -/
def feat (p : Fin 512) (d : Fin 4) : Fin 2048 := ⟨4 * p.val + d.val, by omega⟩
/-- A feature's block. -/
def blk (e : Fin 2048) : Fin 512 := ⟨e.val / 4, by omega⟩
/-- A feature's place in its block. -/
def plc (e : Fin 2048) : Fin 4 := ⟨e.val % 4, by omega⟩

/-- A row times a block-diagonal matrix. -/
def bd (X : Fin 2048 → EReal) (W : Fin 512 → Fin 4 → Fin 4 → EReal) (e : Fin 2048) : EReal :=
  ∑ d, X (feat (blk e) d) * W (blk e) d (plc e)

variable (R : Args) (b : Fin 4)

/-- A token, normed and modulated. -/
def u (n : Fin 8192) (d : Fin 1024) : EReal :=
  R.h b n d * Ideal.rsqrt (Ideal.div (∑ x, R.h b n x * R.h b n x) (Ideal.ofBits FTy.f32 0x44800000#32) + Ideal.ofBits FTy.f32 0x358637BD#32)
    * R.g d * (1 + R.md b 1 d) + R.md b 0 d

/-- A token's projection. -/
def up (n : Fin 8192) (e : Fin 4096) : EReal := ∑ d, u R b n d * R.w d e

/-- The projection's first half. -/
def xm (n : Fin 8192) (e : Fin 2048) : EReal := up R b n ⟨e.val, by omega⟩
/-- The projection's second half: the output gates. -/
def z (n : Fin 8192) (e : Fin 2048) : EReal := up R b n ⟨2048 + e.val, by omega⟩

/-- The first halves with a row of zeros before the first and after the last. -/
def padded (r : ℕ) (e : Fin 2048) : EReal :=
  if h : 1 ≤ r ∧ r < 8193 then xm R b ⟨r - 1, by omega⟩ e else 0

/-- Three neighbouring rows, each times its tap, and the bias. -/
def conv (n : Fin 8192) (e : Fin 2048) : EReal :=
  padded R b n.val e * R.cw 0 e + padded R b (n.val + 1) e * R.cw 1 e + padded R b (n.val + 2) e * R.cw 2 e + R.cb e

/-- The convolved rows. -/
def xc (n : Fin 8192) (e : Fin 2048) : EReal := conv R b n e * Ideal.div 1 (1 + Ideal.exp (-conv R b n e))

/-- The queries. -/
def q (n : Fin 8192) : Fin 2048 → EReal := bd (xc R b n) R.wq
/-- The keys, before their scale. -/
def k (n : Fin 8192) : Fin 2048 → EReal := bd (xc R b n) R.wk
/-- The values. -/
def v (n : Fin 8192) : Fin 2048 → EReal := bd (xm R b n) R.wv

/-- The keys, scaled. -/
def ks (n : Fin 8192) (e : Fin 2048) : EReal := Ideal.div (k R b n e) (Ideal.sqrt (Ideal.ofBits FTy.f32 0x44000000#32))

/-- The scan's gates. -/
def gates (n : Fin 8192) (o : Fin 16) : EReal :=
  (∑ e : Fin 2048, q R b n e * R.wg ⟨e.val, by omega⟩ o) + (∑ e : Fin 2048, k R b n e * R.wg ⟨2048 + e.val, by omega⟩ o)
    + (∑ e : Fin 2048, v R b n e * R.wg ⟨4096 + e.val, by omega⟩ o) + R.bg o

/-- A feature of a group of 256, among all features. -/
def gfeat (g : Fin 8) (x : Fin 256) : Fin 2048 := ⟨256 * g.val + x.val, by omega⟩

/-- A sum over the features, group by group. -/
theorem sum_gfeat (F : Fin 2048 → EReal) : ∑ e, F e = ∑ g, ∑ x, F (gfeat g x) := by
  rw [← Fintype.sum_prod_type']
  exact (Fintype.sum_equiv (finProdFinEquiv (m := 8) (n := 256)) (fun p => F (gfeat p.1 p.2)) F
    fun p => congrArg F (Fin.ext (Nat.add_comm _ _))).symm

/-- A group's block of a row and a dense group of the block-diagonal matrix: only the column's own block counts. -/
theorem dense_sum (X : Fin 2048 → EReal) (W : Fin 512 → Fin 4 → Fin 4 → EReal) (D : Fin 256 → EReal) (g : Fin 8) (y : Fin 256)
    (hD : ∀ x : Fin 256, D x = W (blk (gfeat g x)) (plc (gfeat g x)) (plc (gfeat g y)) * if x.val / 4 = y.val / 4 then 1 else 0) :
    ∑ x, X (gfeat g x) * D x = bd X W (gfeat g y) := by
  have hy := y.isLt
  have hs : ∑ x, X (gfeat g x) * D x
      = ∑ p : Fin 64, ∑ d : Fin 4, X (gfeat g ⟨4 * p.val + d.val, by omega⟩) * D ⟨4 * p.val + d.val, by omega⟩ := by
    rw [← Fintype.sum_prod_type']
    exact (Fintype.sum_equiv (finProdFinEquiv (m := 64) (n := 4))
      (fun p => X (gfeat g ⟨4 * p.1.val + p.2.val, by omega⟩) * D ⟨4 * p.1.val + p.2.val, by omega⟩) (fun x => X (gfeat g x) * D x)
      fun p => congrArg (fun x => X (gfeat g x) * D x) (Fin.ext (Nat.add_comm _ _))).symm
  rw [hs, Finset.sum_eq_single (⟨y.val / 4, by omega⟩ : Fin 64)]
  · refine Finset.sum_congr rfl fun d _ => ?_
    have hd := d.isLt
    rw [hD, if_pos (by show (4 * (y.val / 4) + d.val) / 4 = y.val / 4; omega), mul_one]
    have e0 : gfeat g ⟨4 * (y.val / 4) + d.val, by omega⟩ = feat (blk (gfeat g y)) d :=
      Fin.ext (by show 256 * g.val + (4 * (y.val / 4) + d.val) = 4 * ((256 * g.val + y.val) / 4) + d.val; omega)
    have e1 : blk (feat (blk (gfeat g y)) d) = blk (gfeat g y) :=
      Fin.ext (by show (4 * ((256 * g.val + y.val) / 4) + d.val) / 4 = (256 * g.val + y.val) / 4; omega)
    have e2 : plc (feat (blk (gfeat g y)) d) = d :=
      Fin.ext (by show (4 * ((256 * g.val + y.val) / 4) + d.val) % 4 = d.val; omega)
    rw [e0, e1, e2]
  · intro p _ hp
    refine Finset.sum_eq_zero fun d _ => ?_
    have hd := d.isLt
    have : p.val ≠ y.val / 4 := fun h => hp (Fin.ext h)
    rw [hD, if_neg (by show ¬ (4 * p.val + d.val) / 4 = y.val / 4; omega), mul_zero, mul_zero]
  · exact fun h => absurd (Finset.mem_univ _) h

end Cert.MlstmPre

end
-- ==== Proof.MlstmPreKernel.lean ====
/-
  The value of the kernel before the scans: the blocks it reads.
-/
module

public import proofs.«01_k».proof.Proof.MlstmPre
public import proofs.«01_k».proof.Proof.Gen.Kernel8Ideal.Value
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.Kernel8Ideal.MlstmPre

open Cert.Kernel8Ideal Cert.Kernel8Ideal.Gen Cert.MlstmPre Idealize.ShloMosaic Idealize.ShloMosaic.TcCoe Idealize.SL.Sem
open Idealize.ShloMosaic.Pipeline (Dat)

variable (m : (ℓ : Loc nD τ sig) → Buf (Elt Ideal) ℓ) (c : Dev nD)

/-- The launch memory holds the arguments `R`. -/
structure Holds (R : Args) : Prop where
  h : ∀ b n d, m ((c : Thread nD τ).loc main_arg0) (ix3 b n d) = R.h b n d
  md : ∀ b r d, m ((c : Thread nD τ).loc main_arg1) (ix3 b r d) = R.md b r d
  g : ∀ d, m ((c : Thread nD τ).loc main_arg2) (ix1 d) = R.g d
  w : ∀ d e, m ((c : Thread nD τ).loc main_arg3) (ix2 d e) = R.w d e
  cw : ∀ k e, m ((c : Thread nD τ).loc main_arg4) (ix2 k e) = R.cw k e
  cb : ∀ e, m ((c : Thread nD τ).loc main_arg5) (ix1 e) = R.cb e
  wq : ∀ p d y, m ((c : Thread nD τ).loc main_arg6) (ix3 p d y) = R.wq p d y
  wk : ∀ p d y, m ((c : Thread nD τ).loc main_arg7) (ix3 p d y) = R.wk p d y
  wv : ∀ p d y, m ((c : Thread nD τ).loc main_arg8) (ix3 p d y) = R.wv p d y
  wg : ∀ e o, m ((c : Thread nD τ).loc main_arg9) (ix2 e o) = R.wg e o
  bg : ∀ o, m ((c : Thread nD τ).loc main_arg10) (ix1 o) = R.bg o

/-- A point's sample. -/
def bOf (t : ℕ) : Fin 4 := ⟨t / 32 % 4, Nat.mod_lt _ (by decide)⟩
/-- A row of a point's block of tokens, as a row of the arrays. -/
def rowOf (t : ℕ) (j : Fin 256) : Fin 8192 := ⟨256 * (t % 32) + j.val, by omega⟩
/-- A row of the tokens before a point's block. -/
def rowBefore (t : ℕ) (j : Fin 8) : Fin 8192 := ⟨8 * (32 * (t % 32) - 1) + j.val, by omega⟩
/-- A row of the tokens after a point's block. -/
def rowAfter (t : ℕ) (j : Fin 8) : Fin 8192 := ⟨8 * min (32 * (t % 32) + 32) 1023 + j.val, by omega⟩

/-- The block of the tokens before. -/
theorem idx0 : ∀ t : Fin cfg0.N, win0_0.index t 0 = (bOf t.val).val ∧ win0_0.index t 1 = 32 * (t.val % 32) - 1 ∧ win0_0.index t 2 = 0 := by
  decide +kernel
/-- The block of the tokens. -/
theorem idx1 : ∀ t : Fin cfg0.N, win0_1.index t 0 = (bOf t.val).val ∧ win0_1.index t 1 = t.val % 32 ∧ win0_1.index t 2 = 0 := by
  decide +kernel
/-- The block of the tokens after. -/
theorem idx2 : ∀ t : Fin cfg0.N, win0_2.index t 0 = (bOf t.val).val ∧ win0_2.index t 1 = min (32 * (t.val % 32) + 32) 1023 ∧ win0_2.index t 2 = 0 := by
  decide +kernel
/-- The block of the modulation. -/
theorem idx3 : ∀ t : Fin cfg0.N, win0_3.index t 0 = (bOf t.val).val ∧ win0_3.index t 1 = 0 ∧ win0_3.index t 2 = 0 := by
  decide +kernel
/-- The block of the norm gain. -/
theorem idx4 : ∀ t : Fin cfg0.N, win0_4.index t 0 = 0 ∧ win0_4.index t 1 = 0 := by
  decide +kernel
/-- The block of the matrix. -/
theorem idx5 : ∀ t : Fin cfg0.N, win0_5.index t 0 = 0 ∧ win0_5.index t 1 = 0 := by
  decide +kernel
/-- The block of the taps. -/
theorem idx6 : ∀ t : Fin cfg0.N, win0_6.index t 0 = 0 ∧ win0_6.index t 1 = 0 := by
  decide +kernel
/-- The block of the convolution's bias. -/
theorem idx7 : ∀ t : Fin cfg0.N, win0_7.index t 0 = 0 ∧ win0_7.index t 1 = 0 := by
  decide +kernel
/-- The block of the query matrix. -/
theorem idx8 : ∀ t : Fin cfg0.N, win0_8.index t 0 = 0 ∧ win0_8.index t 1 = 0 ∧ win0_8.index t 2 = 0 := by
  decide +kernel
/-- The block of the key matrix. -/
theorem idx9 : ∀ t : Fin cfg0.N, win0_9.index t 0 = 0 ∧ win0_9.index t 1 = 0 ∧ win0_9.index t 2 = 0 := by
  decide +kernel
/-- The block of the value matrix. -/
theorem idx10 : ∀ t : Fin cfg0.N, win0_10.index t 0 = 0 ∧ win0_10.index t 1 = 0 ∧ win0_10.index t 2 = 0 := by
  decide +kernel
/-- The block of the gates' matrix. -/
theorem idx11 : ∀ t : Fin cfg0.N, win0_11.index t 0 = 0 ∧ win0_11.index t 1 = 0 := by
  decide +kernel
/-- The block of the gates' bias. -/
theorem idx12 : ∀ t : Fin cfg0.N, win0_12.index t 0 = 0 ∧ win0_12.index t 1 = 0 := by
  decide +kernel
/-- The block of the queries. -/
theorem idx13 : ∀ t : Fin cfg0.N, win0_13.index t 0 = (bOf t.val).val ∧ win0_13.index t 1 = t.val % 32 ∧ win0_13.index t 2 = 0 := by
  decide +kernel
/-- The block of the keys. -/
theorem idx14 : ∀ t : Fin cfg0.N, win0_14.index t 0 = (bOf t.val).val ∧ win0_14.index t 1 = t.val % 32 ∧ win0_14.index t 2 = 0 := by
  decide +kernel
/-- The block of the values. -/
theorem idx15 : ∀ t : Fin cfg0.N, win0_15.index t 0 = (bOf t.val).val ∧ win0_15.index t 1 = t.val % 32 ∧ win0_15.index t 2 = 0 := by
  decide +kernel
/-- The block of the convolved rows. -/
theorem idx16 : ∀ t : Fin cfg0.N, win0_16.index t 0 = (bOf t.val).val ∧ win0_16.index t 1 = t.val % 32 ∧ win0_16.index t 2 = 0 := by
  decide +kernel
/-- The block of the output gates. -/
theorem idx17 : ∀ t : Fin cfg0.N, win0_17.index t 0 = (bOf t.val).val ∧ win0_17.index t 1 = t.val % 32 ∧ win0_17.index t 2 = 0 := by
  decide +kernel
/-- The block of the scan's gates. -/
theorem idx18 : ∀ t : Fin cfg0.N, win0_18.index t 0 = (bOf t.val).val ∧ win0_18.index t 1 = t.val % 32 ∧ win0_18.index t 2 = 0 := by
  decide +kernel

/-- A block of the tokens before, at an index. -/
theorem hp_blk (t : Fin cfg0.N) (j : Fin 8) (d : Fin 1024) :
    iblk m c 0 t (ix3 0 j d) = m ((c : Thread nD τ).loc main_arg0) (ix3 (bOf t.val) (rowBefore t.val j) d) := by
  obtain ⟨h0, h1, h2⟩ := idx0 t
  blk_ext [iblk, V, h0, h1, h2, rowBefore]

/-- A block of the tokens, at an index. -/
theorem h_blk (t : Fin cfg0.N) (j : Fin 256) (d : Fin 1024) :
    iblk m c 1 t (ix3 0 j d) = m ((c : Thread nD τ).loc main_arg0) (ix3 (bOf t.val) (rowOf t.val j) d) := by
  obtain ⟨h0, h1, h2⟩ := idx1 t
  blk_ext [iblk, V, h0, h1, h2, rowOf]

/-- A block of the tokens after, at an index. -/
theorem hn_blk (t : Fin cfg0.N) (j : Fin 8) (d : Fin 1024) :
    iblk m c 2 t (ix3 0 j d) = m ((c : Thread nD τ).loc main_arg0) (ix3 (bOf t.val) (rowAfter t.val j) d) := by
  obtain ⟨h0, h1, h2⟩ := idx2 t
  blk_ext [iblk, V, h0, h1, h2, rowAfter]

/-- A modulation block, at an index. -/
theorem md_blk (t : Fin cfg0.N) (r : Fin 3) (d : Fin 1024) :
    iblk m c 3 t (ix3 0 r d) = m ((c : Thread nD τ).loc main_arg1) (ix3 (bOf t.val) r d) := by
  obtain ⟨h0, h1, h2⟩ := idx3 t
  blk_ext [iblk, V, h0, h1, h2]

/-- The norm gain's block, at an index. -/
theorem g_blk (t : Fin cfg0.N) (d : Fin 1024) :
    iblk m c 4 t (ix2 0 d) = m ((c : Thread nD τ).loc main_arg2) (ix1 d) := by
  obtain ⟨h0, h1⟩ := idx4 t
  blk_simp [iblk, h0, h1]
  entry_read
  pointwise
  blk_ext [h0, h1]

/-- The matrix's block, at an index. -/
theorem w_blk (t : Fin cfg0.N) (k : Fin 1024) (e : Fin 4096) :
    iblk m c 5 t (ix2 k e) = m ((c : Thread nD τ).loc main_arg3) (ix2 k e) := by
  obtain ⟨h0, h1⟩ := idx5 t
  blk_simp [iblk, h0, h1]
  entry_read
  pointwise
  blk_ext [h0, h1]

/-- The taps' block, at an index. -/
theorem cw_blk (t : Fin cfg0.N) (k : Fin 3) (e : Fin 2048) :
    iblk m c 6 t (ix2 k e) = m ((c : Thread nD τ).loc main_arg4) (ix2 k e) := by
  obtain ⟨h0, h1⟩ := idx6 t
  blk_ext [iblk, V, h0, h1]

/-- The convolution's bias's block, at an index. -/
theorem cb_blk (t : Fin cfg0.N) (e : Fin 2048) :
    iblk m c 7 t (ix2 0 e) = m ((c : Thread nD τ).loc main_arg5) (ix1 e) := by
  obtain ⟨h0, h1⟩ := idx7 t
  blk_simp [iblk, h0, h1]
  entry_read
  pointwise
  blk_ext [h0, h1]

/-- The gates' matrix's block, at an index. -/
theorem wg_blk (t : Fin cfg0.N) (e : Fin 6144) (o : Fin 16) :
    iblk m c 11 t (ix2 e o) = m ((c : Thread nD τ).loc main_arg9) (ix2 e o) := by
  obtain ⟨h0, h1⟩ := idx11 t
  blk_simp [iblk, h0, h1]
  entry_read
  pointwise
  blk_ext [h0, h1]

/-- The gates' bias's block, at an index. -/
theorem bg_blk (t : Fin cfg0.N) (o : Fin 16) :
    iblk m c 12 t (ix2 0 o) = m ((c : Thread nD τ).loc main_arg10) (ix1 o) := by
  obtain ⟨h0, h1⟩ := idx12 t
  blk_simp [iblk, h0, h1]
  entry_read
  pointwise
  blk_ext [h0, h1]

end Cert.Kernel8Ideal.MlstmPre

end
-- ==== Proof.MlstmPreDense.lean ====
/-
  The value of the kernel before the scans: the three dense matrices it reads.
-/
module

public import proofs.«01_k».proof.Proof.MlstmPreKernel
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.Kernel8Ideal.MlstmPre

open Cert.Kernel8Ideal Cert.Kernel8Ideal.Gen Cert.MlstmPre Idealize.ShloMosaic Idealize.ShloMosaic.TcCoe Idealize.SL.Sem
open Idealize.ShloMosaic.Pipeline (Dat)

variable (m : (ℓ : Loc nD τ sig) → Buf (Elt Ideal) ℓ) (c : Dev nD)

/-- Whether two places lie in one block, as a number. -/
theorem same_block (x y : Fin 256) :
    (FloatOps.uitofp FTy.f32 (IntOp.cmpi CmpIPredicate.eq (IntOp.addi (BitVec.ofNat 32 (x.val / 4)) 0#32) (BitVec.ofNat 32 (y.val / 4))) : Ideal FTy.f32)
      = (if x.val / 4 = y.val / 4 then (1 : EReal) else 0) := by
  have hx := x.isLt
  have hy := y.isLt
  have h0 : IntOp.addi (BitVec.ofNat 32 (x.val / 4)) 0#32 = BitVec.ofNat 32 (x.val / 4) := BitVec.add_zero _
  rewrite [h0, WordCmp.cmpi_eq_ofNat (by omega) (by omega)]
  by_cases h : x.val / 4 = y.val / 4
  · rewrite [if_pos h, decide_eq_true h]
    show (((1#1 : BitVec 1).toNat : ℝ) : EReal) = 1
    simp
  · rewrite [if_neg h, decide_eq_false h]
    show (((0#1 : BitVec 1).toNat : ℝ) : EReal) = 0
    simp

/-- The block of a group's feature. -/
theorem block_feat (g : Fin 8) (x : Fin 256) (h : g.val * 64 + x.val / 4 < 512) : (⟨g.val * 64 + x.val / 4, h⟩ : Fin 512) = blk (gfeat g x) :=
  Fin.ext (by show g.val * 64 + x.val / 4 = (256 * g.val + x.val) / 4; omega)

/-- The place of a group's feature in its block. -/
theorem place_feat (g : Fin 8) (x : Fin 256) (h : x.val % 4 < 4) : (⟨x.val % 4, h⟩ : Fin 4) = plc (gfeat g x) :=
  Fin.ext (by show x.val % 4 = (256 * g.val + x.val) % 4; omega)

/-- The query matrix's block, at an index: the block-diagonal matrix, a group of 256 at a time. -/
theorem wq_blk {R : Args} (hR : Holds m c R) (t : Fin cfg0.N) (g : Fin 8) (x y : Fin 256) :
    iblk m c 8 t (ix3 g x y) = R.wq (blk (gfeat g x)) (plc (gfeat g x)) (plc (gfeat g y)) * (if x.val / 4 = y.val / 4 then (1 : EReal) else 0) := by
  obtain ⟨h0, h1, h2⟩ := idx8 t
  blk_simp [iblk, h0, h1, h2]
  entry_read
  pointwise
  blk_simp [h0, h1, h2]
  exact congrArg₂ (fun a b : EReal => a * b) ((hR.wq _ _ _).trans (congr (congrArg₂ R.wq (block_feat g x _) (place_feat g x _)) (place_feat g y _)))
    (same_block x y)

/-- The key matrix's block, at an index: the block-diagonal matrix, a group of 256 at a time. -/
theorem wk_blk {R : Args} (hR : Holds m c R) (t : Fin cfg0.N) (g : Fin 8) (x y : Fin 256) :
    iblk m c 9 t (ix3 g x y) = R.wk (blk (gfeat g x)) (plc (gfeat g x)) (plc (gfeat g y)) * (if x.val / 4 = y.val / 4 then (1 : EReal) else 0) := by
  obtain ⟨h0, h1, h2⟩ := idx9 t
  blk_simp [iblk, h0, h1, h2]
  entry_read
  pointwise
  blk_simp [h0, h1, h2]
  exact congrArg₂ (fun a b : EReal => a * b) ((hR.wk _ _ _).trans (congr (congrArg₂ R.wk (block_feat g x _) (place_feat g x _)) (place_feat g y _)))
    (same_block x y)

/-- The value matrix's block, at an index: the block-diagonal matrix, a group of 256 at a time. -/
theorem wv_blk {R : Args} (hR : Holds m c R) (t : Fin cfg0.N) (g : Fin 8) (x y : Fin 256) :
    iblk m c 10 t (ix3 g x y) = R.wv (blk (gfeat g x)) (plc (gfeat g x)) (plc (gfeat g y)) * (if x.val / 4 = y.val / 4 then (1 : EReal) else 0) := by
  obtain ⟨h0, h1, h2⟩ := idx10 t
  blk_simp [iblk, h0, h1, h2]
  entry_read
  pointwise
  blk_simp [h0, h1, h2]
  exact congrArg₂ (fun a b : EReal => a * b) ((hR.wv _ _ _).trans (congr (congrArg₂ R.wv (block_feat g x _) (place_feat g x _)) (place_feat g y _)))
    (same_block x y)

end Cert.Kernel8Ideal.MlstmPre

end
-- ==== Proof.MlstmPreTiles.lean ====
/-
  The value of the kernel before the scans: its tiles, over any rows and matrices.
-/
module

public import proofs.«01_k».proof.Proof.MlstmPre
public import proofs.«01_k».proof.Proof.Gen.Kernel8Ideal.Value
public import Idealize.ShloMosaic.Lib.Pipeline.ValueKit
public import Idealize.ShloMosaic.Lib.Pipeline.ReadBack

@[expose] public section

set_option maxRecDepth 16384

noncomputable section

namespace Cert.Kernel8Ideal.MlstmPre

open Cert.Kernel8Ideal Cert.Kernel8Ideal.Gen Cert.MlstmPre Idealize.ShloMosaic Idealize.ShloMosaic.TcCoe Idealize.SL.Sem
open Idealize.ShloMosaic.Pipeline (Dat)

variable (A : FVec Ideal S256x2048 .f32) (D : FVec Ideal S8x256x256 .bf16)

/-- A group's feature, with the group's offset in front. -/
theorem gfeat_eq (g : Fin 8) (x : Fin 256) (n : ℕ) (h : n + x.val < 2048) (hn : n = 256 * g.val) : (⟨n + x.val, h⟩ : Fin 2048) = gfeat g x :=
  Fin.ext (by show n + x.val = 256 * g.val + x.val; omega)

/-- A tile: the rows' group times the matrix's group. -/
def tile (g : Fin 8) (j y : Fin 256) : EReal := ∑ x : Fin 256, A (ix2 j (gfeat g x)) * D (ix3 g x y)

/-- The tile of the queries of group 0. -/
theorem q0_at (V : FVec Ideal S256x2048 .f32) (U : FVec Ideal S1x2048 .f32) (j y : Fin 256) : k0_pay14 V U (View.ld D r0_12) (ix2 j y) = tile (k0_pay11 V U) D 0 j y := by
  pointwise [k0_pay14]
  rfl

/-- The tile of the queries of group 1. -/
theorem q1_at (j y : Fin 256) : k0_pay21 A (View.ld D r0_17) (ix2 j y) = tile A D 1 j y := by
  pointwise [k0_pay21]
  rfl

/-- The tile of the queries of group 2. -/
theorem q2_at (j y : Fin 256) : k0_pay31 (k0_pay30 A) (View.ld D r0_22) (ix2 j y) = tile A D 2 j y := by
  pointwise [k0_pay31, k0_pay30]
  rfl

/-- The tile of the queries of group 3. -/
theorem q3_at (j y : Fin 256) : k0_pay40 A (View.ld D r0_27) (ix2 j y) = tile A D 3 j y := by
  pointwise [k0_pay40]
  rfl

/-- The tile of the queries of group 4. -/
theorem q4_at (j y : Fin 256) : k0_pay47 A (View.ld D r0_32) (ix2 j y) = tile A D 4 j y := by
  pointwise [k0_pay47]
  rfl

/-- The tile of the queries of group 5. -/
theorem q5_at (j y : Fin 256) : k0_pay54 A (View.ld D r0_37) (ix2 j y) = tile A D 5 j y := by
  pointwise [k0_pay54]
  rfl

/-- The tile of the queries of group 6. -/
theorem q6_at (j y : Fin 256) : k0_pay64 (k0_pay63 A) (View.ld D r0_42) (ix2 j y) = tile A D 6 j y := by
  pointwise [k0_pay64, k0_pay63]
  rfl

/-- The tile of the queries of group 7. -/
theorem q7_at (j y : Fin 256) : k0_pay73 A (View.ld D r0_47) (ix2 j y) = tile A D 7 j y := by
  pointwise [k0_pay73]
  rfl

/-- The tile of the keys of group 0. -/
theorem k0_at (V : FVec Ideal S256x2048 .f32) (U : FVec Ideal S1x2048 .f32) (j y : Fin 256) : k0_pay15 V U (View.ld D r0_12) (ix2 j y) = tile (k0_pay11 V U) D 0 j y := by
  pointwise [k0_pay15]
  rfl

/-- The tile of the keys of group 1. -/
theorem k1_at (j y : Fin 256) : k0_pay24 (k0_pay22 (View.ld D r0_17)) (k0_pay23 A) (constant S256x256 .f32 0x00000000#32) (ix2 j y) = tile A D 1 j y := by
  pointwise [k0_pay24, k0_pay22, k0_pay23]
  rfl

/-- The tile of the keys of group 2. -/
theorem k2_at (j y : Fin 256) : k0_pay32 A (View.ld D r0_22) (ix2 j y) = tile A D 2 j y := by
  pointwise [k0_pay32]
  rfl

/-- The tile of the keys of group 3. -/
theorem k3_at (j y : Fin 256) : k0_pay41 A (View.ld D r0_27) (ix2 j y) = tile A D 3 j y := by
  pointwise [k0_pay41]
  rfl

/-- The tile of the keys of group 4. -/
theorem k4_at (j y : Fin 256) : k0_pay48 A (View.ld D r0_32) (ix2 j y) = tile A D 4 j y := by
  pointwise [k0_pay48]
  rfl

/-- The tile of the keys of group 5. -/
theorem k5_at (j y : Fin 256) : k0_pay57 (k0_pay55 (View.ld D r0_37)) (k0_pay56 A) (constant S256x256 .f32 0x00000000#32) (ix2 j y) = tile A D 5 j y := by
  pointwise [k0_pay57, k0_pay55, k0_pay56]
  rfl

/-- The tile of the keys of group 6. -/
theorem k6_at (j y : Fin 256) : k0_pay65 A (View.ld D r0_42) (ix2 j y) = tile A D 6 j y := by
  pointwise [k0_pay65]
  rfl

/-- The tile of the keys of group 7. -/
theorem k7_at (j y : Fin 256) : k0_pay74 A (View.ld D r0_47) (ix2 j y) = tile A D 7 j y := by
  pointwise [k0_pay74]
  rfl

/-- The tile of the values of group 0. -/
theorem v0_at (j y : Fin 256) : k0_pay16 A (View.ld D r0_12) (ix2 j y) = tile A D 0 j y := by
  pointwise [k0_pay16]
  rfl

/-- The tile of the values of group 1. -/
theorem v1_at (j y : Fin 256) : k0_pay25 A (View.ld D r0_17) (ix2 j y) = tile A D 1 j y := by
  pointwise [k0_pay25]
  rfl

/-- The tile of the values of group 2. -/
theorem v2_at (j y : Fin 256) : k0_pay33 A (View.ld D r0_22) (ix2 j y) = tile A D 2 j y := by
  pointwise [k0_pay33]
  rfl

/-- The tile of the values of group 3. -/
theorem v3_at (j y : Fin 256) : k0_pay42 A (View.ld D r0_27) (ix2 j y) = tile A D 3 j y := by
  pointwise [k0_pay42]
  rfl

/-- The tile of the values of group 4. -/
theorem v4_at (j y : Fin 256) : k0_pay49 A (View.ld D r0_32) (ix2 j y) = tile A D 4 j y := by
  pointwise [k0_pay49]
  rfl

/-- The tile of the values of group 5. -/
theorem v5_at (j y : Fin 256) : k0_pay58 A (View.ld D r0_37) (ix2 j y) = tile A D 5 j y := by
  pointwise [k0_pay58]
  rfl

/-- The tile of the values of group 6. -/
theorem v6_at (j y : Fin 256) : k0_pay66 A (View.ld D r0_42) (ix2 j y) = tile A D 6 j y := by
  pointwise [k0_pay66]
  rfl

/-- The tile of the values of group 7. -/
theorem v7_at (j y : Fin 256) : k0_pay75 A (View.ld D r0_47) (ix2 j y) = tile A D 7 j y := by
  pointwise [k0_pay75]
  rfl

/-- The stripe of the queries of group 0, from its tile. -/
theorem q0_stripe (T : FVec Ideal S256x256 .f32) (j y : Fin 256) : k0_pay17 T (ix3 0 j y) = T (ix2 j y) := by
  pointwise [k0_pay17]

/-- The stripe of the queries of group 1, from its tile. -/
theorem q1_stripe (T : FVec Ideal S256x256 .f32) (j y : Fin 256) : k0_pay26 T (ix3 0 j y) = T (ix2 j y) := by
  pointwise [k0_pay26]

/-- The stripe of the queries of group 2, from its tile. -/
theorem q2_stripe (j y : Fin 256) : k0_pay34 (k0_pay30 A) (View.ld D r0_22) (ix3 0 j y) = (k0_pay31 (k0_pay30 A) (View.ld D r0_22)) (ix2 j y) := by
  pointwise [k0_pay34]

/-- The stripe of the queries of group 3, from its tile. -/
theorem q3_stripe (j y : Fin 256) : k0_pay43 A (View.ld D r0_27) (ix3 0 j y) = (k0_pay40 A (View.ld D r0_27)) (ix2 j y) := by
  pointwise [k0_pay43]

/-- The stripe of the queries of group 4, from its tile. -/
theorem q4_stripe (T : FVec Ideal S256x256 .f32) (j y : Fin 256) : k0_pay50 T (ix3 0 j y) = T (ix2 j y) := by
  pointwise [k0_pay50]

/-- The stripe of the queries of group 5, from its tile. -/
theorem q5_stripe (T : FVec Ideal S256x256 .f32) (j y : Fin 256) : k0_pay59 T (ix3 0 j y) = T (ix2 j y) := by
  pointwise [k0_pay59]

/-- The stripe of the queries of group 6, from its tile. -/
theorem q6_stripe (j y : Fin 256) : k0_pay67 (k0_pay63 A) (View.ld D r0_42) (ix3 0 j y) = (k0_pay64 (k0_pay63 A) (View.ld D r0_42)) (ix2 j y) := by
  pointwise [k0_pay67]

/-- The stripe of the queries of group 7, from its tile. -/
theorem q7_stripe (j y : Fin 256) : k0_pay76 A (View.ld D r0_47) (ix3 0 j y) = (k0_pay73 A (View.ld D r0_47)) (ix2 j y) := by
  pointwise [k0_pay76]

/-- The stripe of the keys of group 0, from its tile. -/
theorem k0_stripe (T : FVec Ideal S256x256 .f32) (j y : Fin 256) : k0_pay18 T (ix3 0 j y) = T (ix2 j y) * Named.named (F := Ideal) κ "k_scale" (φ := .f32) 0x3D3504F3#32 := by
  pointwise [k0_pay18]

/-- The stripe of the keys of group 1, from its tile. -/
theorem k1_stripe (j y : Fin 256) : k0_pay27 (k0_pay22 (View.ld D r0_17)) (k0_pay23 A) (constant S256x256 .f32 0x00000000#32) (ix3 0 j y) = (k0_pay24 (k0_pay22 (View.ld D r0_17)) (k0_pay23 A) (constant S256x256 .f32 0x00000000#32)) (ix2 j y) * Named.named (F := Ideal) κ "k_scale" (φ := .f32) 0x3D3504F3#32 := by
  pointwise [k0_pay27]

/-- The stripe of the keys of group 2, from its tile. -/
theorem k2_stripe (j y : Fin 256) : k0_pay35 A (View.ld D r0_22) (ix3 0 j y) = (k0_pay32 A (View.ld D r0_22)) (ix2 j y) * Named.named (F := Ideal) κ "k_scale" (φ := .f32) 0x3D3504F3#32 := by
  pointwise [k0_pay35]

/-- The stripe of the keys of group 3, from its tile. -/
theorem k3_stripe (j y : Fin 256) : k0_pay44 A (View.ld D r0_27) (ix3 0 j y) = (k0_pay41 A (View.ld D r0_27)) (ix2 j y) * Named.named (F := Ideal) κ "k_scale" (φ := .f32) 0x3D3504F3#32 := by
  pointwise [k0_pay44]

/-- The stripe of the keys of group 4, from its tile. -/
theorem k4_stripe (T : FVec Ideal S256x256 .f32) (j y : Fin 256) : k0_pay51 T (ix3 0 j y) = T (ix2 j y) * Named.named (F := Ideal) κ "k_scale" (φ := .f32) 0x3D3504F3#32 := by
  pointwise [k0_pay51]

/-- The stripe of the keys of group 5, from its tile. -/
theorem k5_stripe (j y : Fin 256) : k0_pay60 (k0_pay55 (View.ld D r0_37)) (k0_pay56 A) (constant S256x256 .f32 0x00000000#32) (ix3 0 j y) = (k0_pay57 (k0_pay55 (View.ld D r0_37)) (k0_pay56 A) (constant S256x256 .f32 0x00000000#32)) (ix2 j y) * Named.named (F := Ideal) κ "k_scale" (φ := .f32) 0x3D3504F3#32 := by
  pointwise [k0_pay60]

/-- The stripe of the keys of group 6, from its tile. -/
theorem k6_stripe (j y : Fin 256) : k0_pay68 A (View.ld D r0_42) (ix3 0 j y) = (k0_pay65 A (View.ld D r0_42)) (ix2 j y) * Named.named (F := Ideal) κ "k_scale" (φ := .f32) 0x3D3504F3#32 := by
  pointwise [k0_pay68]

/-- The stripe of the keys of group 7, from its tile. -/
theorem k7_stripe (j y : Fin 256) : k0_pay77 A (View.ld D r0_47) (ix3 0 j y) = (k0_pay74 A (View.ld D r0_47)) (ix2 j y) * Named.named (F := Ideal) κ "k_scale" (φ := .f32) 0x3D3504F3#32 := by
  pointwise [k0_pay77]

/-- The stripe of the values of group 0, from its tile. -/
theorem v0_stripe (T : FVec Ideal S256x256 .f32) (j y : Fin 256) : k0_pay19 T (ix3 0 j y) = T (ix2 j y) := by
  pointwise [k0_pay19]

/-- The stripe of the values of group 1, from its tile. -/
theorem v1_stripe (j y : Fin 256) : k0_pay28 A (View.ld D r0_17) (ix3 0 j y) = (k0_pay25 A (View.ld D r0_17)) (ix2 j y) := by
  pointwise [k0_pay28]

/-- The stripe of the values of group 2, from its tile. -/
theorem v2_stripe (j y : Fin 256) : k0_pay36 A (View.ld D r0_22) (ix3 0 j y) = (k0_pay33 A (View.ld D r0_22)) (ix2 j y) := by
  pointwise [k0_pay36]

/-- The stripe of the values of group 3, from its tile. -/
theorem v3_stripe (T : FVec Ideal S256x256 .f32) (j y : Fin 256) : k0_pay45 T (ix3 0 j y) = T (ix2 j y) := by
  pointwise [k0_pay45]

/-- The stripe of the values of group 4, from its tile. -/
theorem v4_stripe (T : FVec Ideal S256x256 .f32) (j y : Fin 256) : k0_pay52 T (ix3 0 j y) = T (ix2 j y) := by
  pointwise [k0_pay52]

/-- The stripe of the values of group 5, from its tile. -/
theorem v5_stripe (j y : Fin 256) : k0_pay61 A (View.ld D r0_37) (ix3 0 j y) = (k0_pay58 A (View.ld D r0_37)) (ix2 j y) := by
  pointwise [k0_pay61]

/-- The stripe of the values of group 6, from its tile. -/
theorem v6_stripe (j y : Fin 256) : k0_pay69 A (View.ld D r0_42) (ix3 0 j y) = (k0_pay66 A (View.ld D r0_42)) (ix2 j y) := by
  pointwise [k0_pay69]

/-- The stripe of the values of group 7, from its tile. -/
theorem v7_stripe (T : FVec Ideal S256x256 .f32) (j y : Fin 256) : k0_pay1 T (ix3 0 j y) = T (ix2 j y) := by
  pointwise [k0_pay1]

/-- What a group adds to the gates. -/
def part (W : FVec Ideal S6144x16 .bf16) (g : Fin 8) (T U V : FVec Ideal S256x256 .f32) (j : Fin 256) (o : Fin 16) : EReal :=
  (∑ x : Fin 256, T (ix2 j x) * W (ix2 ⟨256 * g.val + x.val, by omega⟩ o))
    + (∑ x : Fin 256, U (ix2 j x) * W (ix2 ⟨2048 + 256 * g.val + x.val, by omega⟩ o))
    + (∑ x : Fin 256, V (ix2 j x) * W (ix2 ⟨4096 + 256 * g.val + x.val, by omega⟩ o))

variable (W : FVec Ideal S6144x16 .bf16) (acc : FVec Ideal S256x16 .f32)

/-- The gates start from their bias. -/
theorem start_at (B : FVec Ideal S1x16 .f32) (j : Fin 256) (o : Fin 16) : k0_pay13 B (ix2 j o) = B (ix2 0 o) := by
  pointwise [k0_pay13]

/-- The gates after group 0. -/
theorem gates0_at (T U V : FVec Ideal S256x256 .f32) (j : Fin 256) (o : Fin 16) : k0_pay20 acc T U V (View.ld W r0_14) (View.ld W r0_15) (View.ld W r0_16) (ix2 j o) = acc (ix2 j o) + part W 0 T U V j o := by
  pointwise [k0_pay20]
  rfl

/-- The gates after group 1. -/
theorem gates1_at (T : FVec Ideal S256x256 .f32) (C : FVec Ideal S256x2048 .f32) (E : FVec Ideal S8x256x256 .bf16) (j : Fin 256) (o : Fin 16) : k0_pay29 C acc T (k0_pay22 (View.ld D r0_17)) (k0_pay23 A) (constant S256x256 .f32 0x00000000#32) (View.ld E r0_17) (View.ld W r0_19) (View.ld W r0_20) (View.ld W r0_21) (ix2 j o) = acc (ix2 j o) + part W 1 T (k0_pay24 (k0_pay22 (View.ld D r0_17)) (k0_pay23 A) (constant S256x256 .f32 0x00000000#32)) (k0_pay25 C (View.ld E r0_17)) j o := by
  pointwise [k0_pay29]
  rfl

/-- The gates after group 2. -/
theorem gates2_at (U V S : FVec Ideal S256x256 .f32) (j : Fin 256) (o : Fin 16) : k0_pay39 acc U V (k0_pay37 S (View.ld D r0_22) (View.ld W r0_24)) (k0_pay38 (View.ld W r0_25)) (View.ld W r0_26) (ix2 j o) = acc (ix2 j o) + part W 2 (k0_pay31 S (View.ld D r0_22)) U V j o := by
  pointwise [k0_pay39, k0_pay37, k0_pay38]
  rfl

/-- The gates after group 3. -/
theorem gates3_at (T U V : FVec Ideal S256x256 .f32) (j : Fin 256) (o : Fin 16) : k0_pay46 acc T U V (View.ld W r0_29) (View.ld W r0_30) (View.ld W r0_31) (ix2 j o) = acc (ix2 j o) + part W 3 T U V j o := by
  pointwise [k0_pay46]
  rfl

/-- The gates after group 4. -/
theorem gates4_at (T U V : FVec Ideal S256x256 .f32) (j : Fin 256) (o : Fin 16) : k0_pay53 acc T U V (View.ld W r0_34) (View.ld W r0_35) (View.ld W r0_36) (ix2 j o) = acc (ix2 j o) + part W 4 T U V j o := by
  pointwise [k0_pay53]
  rfl

/-- The gates after group 5. -/
theorem gates5_at (T : FVec Ideal S256x256 .f32) (C : FVec Ideal S256x2048 .f32) (E : FVec Ideal S8x256x256 .bf16) (j : Fin 256) (o : Fin 16) : k0_pay62 C acc T (k0_pay55 (View.ld D r0_37)) (k0_pay56 A) (constant S256x256 .f32 0x00000000#32) (View.ld E r0_37) (View.ld W r0_39) (View.ld W r0_40) (View.ld W r0_41) (ix2 j o) = acc (ix2 j o) + part W 5 T (k0_pay57 (k0_pay55 (View.ld D r0_37)) (k0_pay56 A) (constant S256x256 .f32 0x00000000#32)) (k0_pay58 C (View.ld E r0_37)) j o := by
  pointwise [k0_pay62]
  rfl

/-- The gates after group 6. -/
theorem gates6_at (U V S : FVec Ideal S256x256 .f32) (j : Fin 256) (o : Fin 16) : k0_pay72 acc U V (k0_pay70 S (View.ld D r0_42) (View.ld W r0_44)) (k0_pay71 (View.ld W r0_45)) (View.ld W r0_46) (ix2 j o) = acc (ix2 j o) + part W 6 (k0_pay64 S (View.ld D r0_42)) U V j o := by
  pointwise [k0_pay72, k0_pay70, k0_pay71]
  rfl

/-- The gates after group 7. -/
theorem gates7_at (T U V : FVec Ideal S256x256 .f32) (j : Fin 256) (o : Fin 16) : k0_pay2 acc T U V (View.ld W r0_49) (View.ld W r0_50) (View.ld W r0_51) (ix3 0 j o) = acc (ix2 j o) + part W 7 T U V j o := by
  pointwise [k0_pay2]
  rfl

end Cert.Kernel8Ideal.MlstmPre

end
-- ==== Proof.MlstmPreRows.lean ====
/-
  The value of the kernel before the scans: its rows: normed, projected, masked, convolved.
-/
module

public import proofs.«01_k».proof.Proof.MlstmPreKernel
public import proofs.«01_k».proof.Proof.MlstmPreTiles

@[expose] public section

set_option maxRecDepth 16384

noncomputable section

namespace Cert.Kernel8Ideal.MlstmPre

open Cert.Kernel8Ideal Cert.Kernel8Ideal.Gen Cert.MlstmPre Idealize.ShloMosaic Idealize.ShloMosaic.TcCoe Idealize.SL.Sem
open Idealize.ShloMosaic.Pipeline (Dat)

variable (m : (ℓ : Loc nD τ sig) → Buf (Elt Ideal) ℓ) (c : Dev nD) {R : Args} (hR : Holds m c R)

/-- A choice by whether a small number lies below another. -/
theorem select_slt {α : Type} (r k : ℕ) (hr : r < 1024) (hk : k < 1024) (x y : α) :
    Scalar.select (IntOp.cmpi CmpIPredicate.slt (BitVec.ofNat 32 r) (BitVec.ofNat 32 k)) x y = if r < k then x else y := by
  rewrite [WordCmp.cmpi_slt_ofNat (by omega) (by omega)]
  by_cases h : r < k <;> simp [Scalar.select, h]

/-- A choice by whether a small number reaches another. -/
theorem select_sge {α : Type} (r k : ℕ) (hr : r < 1024) (hk : k < 1024) (x y : α) :
    Scalar.select (IntOp.cmpi CmpIPredicate.sge (BitVec.ofNat 32 r) (BitVec.ofNat 32 k)) x y = if k ≤ r then x else y := by
  rewrite [WordCmp.cmpi_sge_ofNat (by omega) (by omega)]
  by_cases h : k ≤ r <;> simp [Scalar.select, h]

/-- The first row that counts: the sequence's first block has nothing before it. -/
theorem low_row : ∀ i : Fin 32, Scalar.select (Scalar.cmpi CmpIPredicate.eq (BitVec.ofNat 32 i.val) 0#32) 8#32 0#32
    = BitVec.ofNat 32 (if i.val = 0 then 8 else 0) := by decide

/-- The row after the last that counts: the sequence's last block has nothing after it. -/
theorem high_row : ∀ i : Fin 32, Scalar.select (Scalar.cmpi CmpIPredicate.eq (BitVec.ofNat 32 i.val) 31#32) 264#32 272#32
    = BitVec.ofNat 32 (if i.val = 31 then 264 else 272) := by decide

/-- A masked row is the padded one. -/
theorem masked (R : Args) (b : Fin 4) (i : Fin 32) (r : ℕ) (hr : r < 272) (e : Fin 2048) (X : EReal)
    (hX : ∀ n : Fin 8192, n.val + 8 = 256 * i.val + r → X = xm R b n e) :
    Scalar.select (IntOp.cmpi CmpIPredicate.slt (BitVec.ofNat 32 r)
        (Scalar.select (Scalar.cmpi CmpIPredicate.eq (BitVec.ofNat 32 i.val) 0#32) 8#32 0#32)) 0
      (Scalar.select (IntOp.cmpi CmpIPredicate.sge (BitVec.ofNat 32 r)
        (Scalar.select (Scalar.cmpi CmpIPredicate.eq (BitVec.ofNat 32 i.val) 31#32) 264#32 272#32)) 0 X)
      = padded R b (256 * i.val + r - 7) e := by
  have hi : i.val < 32 := i.isLt
  rewrite [low_row, high_row, select_slt _ _ (by omega) (by split <;> omega), select_sge _ _ (by omega) (by split <;> omega)]
  unfold padded
  by_cases h : 1 ≤ 256 * i.val + r - 7 ∧ 256 * i.val + r - 7 < 8193
  · rewrite [if_neg (by split <;> omega), if_neg (by split <;> omega), dif_pos h]
    exact hX ⟨256 * i.val + r - 7 - 1, by omega⟩ (by show 256 * i.val + r - 7 - 1 + 8 = _; omega)
  · rewrite [dif_neg h]
    by_cases h0 : r < if i.val = 0 then 8 else 0
    · exact if_pos h0
    · refine (if_neg h0).trans (if_pos ?_)
      revert h0
      split <;> split <;> omega

/-- A row of the sequence is the padded one after it. -/
theorem padded_mid (R : Args) (b : Fin 4) (n : Fin 8192) (e : Fin 2048) : padded R b (n.val + 1) e = xm R b n e := by
  have hn := n.isLt
  unfold padded
  rewrite [dif_pos ⟨by omega, by omega⟩]
  rfl

/-- A point's place along the sequence. -/
def place (t : ℕ) : Fin 32 := ⟨t % 32, Nat.mod_lt _ (by decide)⟩

/-- A point's second grid coordinate is its place. -/
theorem coord : ∀ t : Fin cfg0.N, (grid0.coords t 1).val = (place t.val).val :=
  (by decide +kernel : ∀ t : Fin grid0.N, (grid0.coords t 1).val = (place t.val).val)

include hR in
/-- The rows of the three blocks, one after the other. -/
theorem rows_at (t : Fin cfg0.N) (r : Fin 272) (n : Fin 8192) (hn : n.val + 8 = 256 * (place t.val).val + r.val) (d : Fin 1024) :
    (if h : r.val < 8 then iblk m c 0 t (ix3 0 ⟨r.val, h⟩ d)
      else if h' : r.val - 8 < 256 then iblk m c 1 t (ix3 0 ⟨r.val - 8, h'⟩ d)
        else iblk m c 2 t (ix3 0 ⟨r.val - 8 - 256, by have := r.isLt; omega⟩ d)) = R.h (bOf t.val) n d := by
  have hr := r.isLt
  have hp : (place t.val).val = t.val % 32 := rfl
  have hn' := n.isLt
  split
  · rewrite [hp_blk m c t, hR.h]
    exact congrArg (R.h (bOf t.val) · d) (Fin.ext (by show 8 * (32 * (t.val % 32) - 1) + r.val = n.val; omega))
  · split
    · rewrite [h_blk m c t, hR.h]
      exact congrArg (R.h (bOf t.val) · d) (Fin.ext (by show 256 * (t.val % 32) + (r.val - 8) = n.val; omega))
    · rewrite [hn_blk m c t, hR.h]
      exact congrArg (R.h (bOf t.val) · d)
        (Fin.ext (by show 8 * min (32 * (t.val % 32) + 32) 1023 + (r.val - 8 - 256) = n.val; omega))

include hR in
/-- A row of the three blocks that lies in the sequence, normed and modulated. -/
theorem u_at (t : Fin cfg0.N) (r : Fin 272) (n : Fin 8192) (hn : n.val + 8 = 256 * (place t.val).val + r.val) (d : Fin 1024) :
    k0_pay80 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d) = u R (bOf t.val) n d := by
  pointwise [k0_pay80, k0_pay4]
  simp only [rows_at m c hR t r n hn, g_blk m c t, md_blk m c t, hR.g, hR.md]
  rfl

include hR in
/-- A row's projection. -/
theorem proj_at (t : Fin cfg0.N) (r : Fin 272) (e : Fin 4096) (n : Fin 8192) (hn : n.val + 8 = 256 * (place t.val).val + r.val) :
    (∑ x : Fin 1024, k0_pay80 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r x) * R.w x e) = up R (bOf t.val) n e := by
  unfold up
  exact Finset.sum_congr rfl fun x _ => congrArg (· * R.w x e) (u_at m c hR t r n hn x)

include hR in
/-- The projections' second half. -/
theorem z_at (t : Fin cfg0.N) (j : Fin 256) (e : Fin 2048) :
    k0_pay8 (k0_pay79 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay80 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay78 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix3 0 j e) = z R (bOf t.val) (rowOf t.val j) e := by
  pointwise [k0_pay8, k0_pay5, k0_pay79, k0_pay3, k0_pay78]
  simp only [w_blk m c t, hR.w]
  exact proj_at m c hR t _ _ _ (by show 256 * (t.val % 32) + j.val + 8 = 256 * (t.val % 32) + (8 + j.val); omega)

include hR in
/-- The projections' first half, masked. -/
theorem half_at (t : Fin cfg0.N) (r : Fin 272) (e : Fin 2048) :
    k0_pay6 (BitVec.ofNat 32 (grid0.coords t 1).val) (k0_pay79 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay80 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay78 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 r e)
      = padded R (bOf t.val) (256 * (place t.val).val + r.val - 7) e := by
  rewrite [coord t]
  pointwise [k0_pay6, k0_pay5, k0_pay79, k0_pay3, k0_pay78]
  simp only [w_blk m c t, hR.w]
  exact masked R (bOf t.val) (place t.val) r.val r.isLt e _ (proj_at m c hR t r ⟨e.val, by omega⟩)

include hR in
/-- The projections' first half. -/
theorem xm_at (t : Fin cfg0.N) (j : Fin 256) (e : Fin 2048) : k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 j e) = xm R (bOf t.val) (rowOf t.val j) e := by
  pointwise [k0_pay81, k0_pay7]
  rewrite [half_at m c hR t, ← padded_mid]
  exact congrArg (padded R (bOf t.val) · e) (by show 256 * (t.val % 32) + (8 + j.val) - 7 = 256 * (t.val % 32) + j.val + 1; omega)

include hR in
/-- The convolution, before its bias. -/
theorem taps_at (t : Fin cfg0.N) (j : Fin 256) (e : Fin 2048) :
    k0_pay82 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 j e) = padded R (bOf t.val) (rowOf t.val j).val e * R.cw 0 e + padded R (bOf t.val) ((rowOf t.val j).val + 1) e * R.cw 1 e
      + padded R (bOf t.val) ((rowOf t.val j).val + 2) e * R.cw 2 e := by
  have hj := j.isLt
  pointwise [k0_pay82, k0_pay9]
  simp only [half_at m c hR t, cw_blk m c t, hR.cw]
  refine congrArg₂ (· + ·) (congrArg₂ (· + ·) (congrArg (· * R.cw 0 e) ?_) (congrArg (· * R.cw 1 e) ?_)) (congrArg (· * R.cw 2 e) ?_)
  · exact congrArg (padded R (bOf t.val) · e) (by show 256 * (t.val % 32) + (8 + j.val + 272 - 1) % 272 - 7 = 256 * (t.val % 32) + j.val; omega)
  · exact congrArg (padded R (bOf t.val) · e) (by show 256 * (t.val % 32) + (8 + j.val) - 7 = 256 * (t.val % 32) + j.val + 1; omega)
  · exact congrArg (padded R (bOf t.val) · e) (by show 256 * (t.val % 32) + (8 + j.val + 272 - 271) % 272 - 7 = 256 * (t.val % 32) + j.val + 2; omega)

include hR in
/-- The convolution's bias. -/
theorem bias_at (t : Fin cfg0.N) (e : Fin 2048) : k0_pay83 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 0 e) = R.cb e := by
  pointwise [k0_pay83, k0_pay10]
  rewrite [cb_blk m c t, hR.cb]
  rfl

include hR in
/-- The convolved rows. -/
theorem xc_at (t : Fin cfg0.N) (j : Fin 256) (e : Fin 2048) : k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 j e) = xc R (bOf t.val) (rowOf t.val j) e := by
  pointwise [k0_pay84, k0_pay11]
  rewrite [taps_at m c hR t, bias_at m c hR t]
  simp only [zero_sub]
  rfl

end Cert.Kernel8Ideal.MlstmPre

end
-- ==== Proof.MlstmPrePoint.lean ====
/-
  The value of the kernel before the scans: its tiles at a point.
-/
module

public import proofs.«01_k».proof.Proof.MlstmPreDense
public import proofs.«01_k».proof.Proof.MlstmPreRows

@[expose] public section

set_option maxRecDepth 16384

noncomputable section

namespace Cert.Kernel8Ideal.MlstmPre

open Cert.Kernel8Ideal Cert.Kernel8Ideal.Gen Cert.MlstmPre Idealize.ShloMosaic Idealize.ShloMosaic.TcCoe Idealize.SL.Sem
open Idealize.ShloMosaic.Pipeline (Dat)

variable (m : (ℓ : Loc nD τ sig) → Buf (Elt Ideal) ℓ) (c : Dev nD) {R : Args} (hR : Holds m c R)

/-- A point's rows of the queries, keys and values times a group of a dense matrix. -/
theorem tile_at (A : FVec Ideal S256x2048 .f32) (D : FVec Ideal S8x256x256 .bf16) (X : Fin 2048 → EReal) (W : Fin 512 → Fin 4 → Fin 4 → EReal)
    (g : Fin 8) (j y : Fin 256) (hA : ∀ e, A (ix2 j e) = X e)
    (hD : ∀ x, D (ix3 g x y) = W (blk (gfeat g x)) (plc (gfeat g x)) (plc (gfeat g y)) * if x.val / 4 = y.val / 4 then 1 else 0) :
    tile A D g j y = bd X W (gfeat g y) := by
  unfold tile
  simp only [hA]
  exact dense_sum X W (fun x => D (ix3 g x y)) g y hD

include hR in
/-- A tile of the queries. -/
theorem q_tile (t : Fin cfg0.N) (g : Fin 8) (j y : Fin 256) :
    tile (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 8 t) g j y = q R (bOf t.val) (rowOf t.val j) (gfeat g y) :=
  tile_at _ _ (xc R (bOf t.val) (rowOf t.val j)) R.wq g j y (xc_at m c hR t j) fun x => wq_blk m c hR t g x y

include hR in
/-- A tile of the keys. -/
theorem k_tile (t : Fin cfg0.N) (g : Fin 8) (j y : Fin 256) :
    tile (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) g j y = k R (bOf t.val) (rowOf t.val j) (gfeat g y) :=
  tile_at _ _ (xc R (bOf t.val) (rowOf t.val j)) R.wk g j y (xc_at m c hR t j) fun x => wk_blk m c hR t g x y

include hR in
/-- A tile of the values. -/
theorem v_tile (t : Fin cfg0.N) (g : Fin 8) (j y : Fin 256) :
    tile (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t) g j y = v R (bOf t.val) (rowOf t.val j) (gfeat g y) :=
  tile_at _ _ (xm R (bOf t.val) (rowOf t.val j)) R.wv g j y (xm_at m c hR t j) fun x => wv_blk m c hR t g x y

include hR in
/-- A point's tile of the queries of group 0. -/
theorem q0_pt (t : Fin cfg0.N) (j y : Fin 256) :
    (k0_pay85 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : FVec Ideal S256x256 .f32) (ix2 j y) = q R (bOf t.val) (rowOf t.val j) (gfeat 0 y) :=
  (q0_at (iblk m c 8 t) (k0_pay82 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay83 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) j y).trans (q_tile m c hR t 0 j y)

include hR in
/-- A point's tile of the queries of group 1. -/
theorem q1_pt (t : Fin cfg0.N) (j y : Fin 256) :
    (k0_pay89 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : FVec Ideal S256x256 .f32) (ix2 j y) = q R (bOf t.val) (rowOf t.val j) (gfeat 1 y) :=
  (q1_at (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 8 t) j y).trans (q_tile m c hR t 1 j y)

include hR in
/-- A point's tile of the queries of group 2. -/
theorem q2_pt (t : Fin cfg0.N) (j y : Fin 256) :
    (k0_pay31 (k0_pay92 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 8 t) r0_22) : FVec Ideal S256x256 .f32) (ix2 j y) = q R (bOf t.val) (rowOf t.val j) (gfeat 2 y) :=
  (q2_at (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 8 t) j y).trans (q_tile m c hR t 2 j y)

include hR in
/-- A point's tile of the queries of group 3. -/
theorem q3_pt (t : Fin cfg0.N) (j y : Fin 256) :
    (k0_pay40 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 8 t) r0_27) : FVec Ideal S256x256 .f32) (ix2 j y) = q R (bOf t.val) (rowOf t.val j) (gfeat 3 y) :=
  (q3_at (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 8 t) j y).trans (q_tile m c hR t 3 j y)

include hR in
/-- A point's tile of the queries of group 4. -/
theorem q4_pt (t : Fin cfg0.N) (j y : Fin 256) :
    (k0_pay94 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : FVec Ideal S256x256 .f32) (ix2 j y) = q R (bOf t.val) (rowOf t.val j) (gfeat 4 y) :=
  (q4_at (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 8 t) j y).trans (q_tile m c hR t 4 j y)

include hR in
/-- A point's tile of the queries of group 5. -/
theorem q5_pt (t : Fin cfg0.N) (j y : Fin 256) :
    (k0_pay98 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : FVec Ideal S256x256 .f32) (ix2 j y) = q R (bOf t.val) (rowOf t.val j) (gfeat 5 y) :=
  (q5_at (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 8 t) j y).trans (q_tile m c hR t 5 j y)

include hR in
/-- A point's tile of the queries of group 6. -/
theorem q6_pt (t : Fin cfg0.N) (j y : Fin 256) :
    (k0_pay64 (k0_pay101 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 8 t) r0_42) : FVec Ideal S256x256 .f32) (ix2 j y) = q R (bOf t.val) (rowOf t.val j) (gfeat 6 y) :=
  (q6_at (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 8 t) j y).trans (q_tile m c hR t 6 j y)

include hR in
/-- A point's tile of the queries of group 7. -/
theorem q7_pt (t : Fin cfg0.N) (j y : Fin 256) :
    (k0_pay73 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 8 t) r0_47) : FVec Ideal S256x256 .f32) (ix2 j y) = q R (bOf t.val) (rowOf t.val j) (gfeat 7 y) :=
  (q7_at (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 8 t) j y).trans (q_tile m c hR t 7 j y)

include hR in
/-- A point's tile of the keys of group 0. -/
theorem k0_pt (t : Fin cfg0.N) (j y : Fin 256) :
    (k0_pay86 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : FVec Ideal S256x256 .f32) (ix2 j y) = k R (bOf t.val) (rowOf t.val j) (gfeat 0 y) :=
  (k0_at (iblk m c 9 t) (k0_pay82 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay83 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) j y).trans (k_tile m c hR t 0 j y)

include hR in
/-- A point's tile of the keys of group 1. -/
theorem k1_pt (t : Fin cfg0.N) (j y : Fin 256) :
    (k0_pay24 (k0_pay90 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay91 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay88 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) : FVec Ideal S256x256 .f32) (ix2 j y) = k R (bOf t.val) (rowOf t.val j) (gfeat 1 y) :=
  (k1_at (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) j y).trans (k_tile m c hR t 1 j y)

include hR in
/-- A point's tile of the keys of group 2. -/
theorem k2_pt (t : Fin cfg0.N) (j y : Fin 256) :
    (k0_pay32 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t) r0_22) : FVec Ideal S256x256 .f32) (ix2 j y) = k R (bOf t.val) (rowOf t.val j) (gfeat 2 y) :=
  (k2_at (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) j y).trans (k_tile m c hR t 2 j y)

include hR in
/-- A point's tile of the keys of group 3. -/
theorem k3_pt (t : Fin cfg0.N) (j y : Fin 256) :
    (k0_pay41 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t) r0_27) : FVec Ideal S256x256 .f32) (ix2 j y) = k R (bOf t.val) (rowOf t.val j) (gfeat 3 y) :=
  (k3_at (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) j y).trans (k_tile m c hR t 3 j y)

include hR in
/-- A point's tile of the keys of group 4. -/
theorem k4_pt (t : Fin cfg0.N) (j y : Fin 256) :
    (k0_pay95 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : FVec Ideal S256x256 .f32) (ix2 j y) = k R (bOf t.val) (rowOf t.val j) (gfeat 4 y) :=
  (k4_at (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) j y).trans (k_tile m c hR t 4 j y)

include hR in
/-- A point's tile of the keys of group 5. -/
theorem k5_pt (t : Fin cfg0.N) (j y : Fin 256) :
    (k0_pay57 (k0_pay99 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay100 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay97 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) : FVec Ideal S256x256 .f32) (ix2 j y) = k R (bOf t.val) (rowOf t.val j) (gfeat 5 y) :=
  (k5_at (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) j y).trans (k_tile m c hR t 5 j y)

include hR in
/-- A point's tile of the keys of group 6. -/
theorem k6_pt (t : Fin cfg0.N) (j y : Fin 256) :
    (k0_pay65 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t) r0_42) : FVec Ideal S256x256 .f32) (ix2 j y) = k R (bOf t.val) (rowOf t.val j) (gfeat 6 y) :=
  (k6_at (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) j y).trans (k_tile m c hR t 6 j y)

include hR in
/-- A point's tile of the keys of group 7. -/
theorem k7_pt (t : Fin cfg0.N) (j y : Fin 256) :
    (k0_pay74 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t) r0_47) : FVec Ideal S256x256 .f32) (ix2 j y) = k R (bOf t.val) (rowOf t.val j) (gfeat 7 y) :=
  (k7_at (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) j y).trans (k_tile m c hR t 7 j y)

include hR in
/-- A point's tile of the values of group 0. -/
theorem v0_pt (t : Fin cfg0.N) (j y : Fin 256) :
    (k0_pay87 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : FVec Ideal S256x256 .f32) (ix2 j y) = v R (bOf t.val) (rowOf t.val j) (gfeat 0 y) :=
  (v0_at (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t) j y).trans (v_tile m c hR t 0 j y)

include hR in
/-- A point's tile of the values of group 1. -/
theorem v1_pt (t : Fin cfg0.N) (j y : Fin 256) :
    (k0_pay25 (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 10 t) r0_17) : FVec Ideal S256x256 .f32) (ix2 j y) = v R (bOf t.val) (rowOf t.val j) (gfeat 1 y) :=
  (v1_at (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t) j y).trans (v_tile m c hR t 1 j y)

include hR in
/-- A point's tile of the values of group 2. -/
theorem v2_pt (t : Fin cfg0.N) (j y : Fin 256) :
    (k0_pay33 (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 10 t) r0_22) : FVec Ideal S256x256 .f32) (ix2 j y) = v R (bOf t.val) (rowOf t.val j) (gfeat 2 y) :=
  (v2_at (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t) j y).trans (v_tile m c hR t 2 j y)

include hR in
/-- A point's tile of the values of group 3. -/
theorem v3_pt (t : Fin cfg0.N) (j y : Fin 256) :
    (k0_pay93 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : FVec Ideal S256x256 .f32) (ix2 j y) = v R (bOf t.val) (rowOf t.val j) (gfeat 3 y) :=
  (v3_at (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t) j y).trans (v_tile m c hR t 3 j y)

include hR in
/-- A point's tile of the values of group 4. -/
theorem v4_pt (t : Fin cfg0.N) (j y : Fin 256) :
    (k0_pay96 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : FVec Ideal S256x256 .f32) (ix2 j y) = v R (bOf t.val) (rowOf t.val j) (gfeat 4 y) :=
  (v4_at (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t) j y).trans (v_tile m c hR t 4 j y)

include hR in
/-- A point's tile of the values of group 5. -/
theorem v5_pt (t : Fin cfg0.N) (j y : Fin 256) :
    (k0_pay58 (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 10 t) r0_37) : FVec Ideal S256x256 .f32) (ix2 j y) = v R (bOf t.val) (rowOf t.val j) (gfeat 5 y) :=
  (v5_at (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t) j y).trans (v_tile m c hR t 5 j y)

include hR in
/-- A point's tile of the values of group 6. -/
theorem v6_pt (t : Fin cfg0.N) (j y : Fin 256) :
    (k0_pay66 (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 10 t) r0_42) : FVec Ideal S256x256 .f32) (ix2 j y) = v R (bOf t.val) (rowOf t.val j) (gfeat 6 y) :=
  (v6_at (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t) j y).trans (v_tile m c hR t 6 j y)

include hR in
/-- A point's tile of the values of group 7. -/
theorem v7_pt (t : Fin cfg0.N) (j y : Fin 256) :
    (k0_pay102 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : FVec Ideal S256x256 .f32) (ix2 j y) = v R (bOf t.val) (rowOf t.val j) (gfeat 7 y) :=
  (v7_at (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t) j y).trans (v_tile m c hR t 7 j y)

end Cert.Kernel8Ideal.MlstmPre

end
-- ==== Proof.MlstmPreOut.lean ====
/-
  The value of the kernel before the scans: what its points write.
-/
module

public import proofs.«01_k».proof.Proof.MlstmPrePoint
public import Idealize.ShloMosaic.Lib.Pipeline.Covers

@[expose] public section

set_option maxRecDepth 16384

noncomputable section

namespace Cert.Kernel8Ideal.MlstmPre

open Cert.Kernel8Ideal Cert.Kernel8Ideal.Gen Cert.MlstmPre Idealize.ShloMosaic Idealize.ShloMosaic.TcCoe Idealize.SL.Sem
open Idealize.ShloMosaic.Pipeline (Dat)

variable (m : (ℓ : Loc nD τ sig) → Buf (Elt Ideal) ℓ) (c : Dev nD) {R : Args} (hR : Holds m c R)

/-- The keys as the kernel scales them. -/
def scaled (R : Args) (b : Fin 4) (n : Fin 8192) (e : Fin 2048) : EReal := k R b n e * Named.named (F := Ideal) κ "k_scale" (φ := .f32) 0x3D3504F3#32

/-- A point's block of an array of rows and features. -/
def rows (F : Fin 4 → Fin 8192 → Fin 2048 → EReal) (t : ℕ) : FVec Ideal S1x256x2048 .f32 := fun i => F (bOf t) (rowOf t (i 1)) (i 2)

/-- A stripe's element, in the point's block. -/
theorem stripe_rows (F : Fin 4 → Fin 8192 → Fin 2048 → EReal) (t : ℕ) (g : Fin 8) (j y : Fin 256) (i : S1x256x2048.Idx)
    (h1 : (i 1).val = j.val) (h2 : (i 2).val = 256 * g.val + y.val) : F (bOf t) (rowOf t j) (gfeat g y) = rows F t i :=
  congrArg₂ (fun r e => F (bOf t) (rowOf t r) e) (Fin.ext h1.symm) (Fin.ext h2.symm)

include hR in
/-- A point's stripe of the queries of group 7. -/
theorem q7_out (t : Fin cfg0.N) (x : S1x256x256.Idx) :
    k0_pay76 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 8 t) r0_47) x = rows (q R) t.val (r0_48.emb x) := by
  idx_vars x
  obtain rfl : x0 = 0 := Subsingleton.elim _ _
  exact ((q7_stripe (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 8 t) x1 x2).trans (q7_pt m c hR t x1 x2)).trans (stripe_rows (q R) t.val 7 x1 x2 _
    (by show 0 + 1 * x1.val = x1.val; omega) (by show 1792 + 1 * x2.val = 256 * 7 + x2.val; omega))

include hR in
/-- A point's stripe of the queries of group 6. -/
theorem q6_out (t : Fin cfg0.N) (x : S1x256x256.Idx) :
    k0_pay67 (k0_pay101 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 8 t) r0_42) x = rows (q R) t.val (r0_43.emb x) := by
  idx_vars x
  obtain rfl : x0 = 0 := Subsingleton.elim _ _
  exact ((q6_stripe (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 8 t) x1 x2).trans (q6_pt m c hR t x1 x2)).trans (stripe_rows (q R) t.val 6 x1 x2 _
    (by show 0 + 1 * x1.val = x1.val; omega) (by show 1536 + 1 * x2.val = 256 * 6 + x2.val; omega))

include hR in
/-- A point's stripe of the queries of group 5. -/
theorem q5_out (t : Fin cfg0.N) (x : S1x256x256.Idx) :
    k0_pay59 (k0_pay98 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x = rows (q R) t.val (r0_38.emb x) := by
  idx_vars x
  obtain rfl : x0 = 0 := Subsingleton.elim _ _
  exact ((q5_stripe (k0_pay98 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x1 x2).trans (q5_pt m c hR t x1 x2)).trans (stripe_rows (q R) t.val 5 x1 x2 _
    (by show 0 + 1 * x1.val = x1.val; omega) (by show 1280 + 1 * x2.val = 256 * 5 + x2.val; omega))

include hR in
/-- A point's stripe of the queries of group 4. -/
theorem q4_out (t : Fin cfg0.N) (x : S1x256x256.Idx) :
    k0_pay50 (k0_pay94 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x = rows (q R) t.val (r0_33.emb x) := by
  idx_vars x
  obtain rfl : x0 = 0 := Subsingleton.elim _ _
  exact ((q4_stripe (k0_pay94 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x1 x2).trans (q4_pt m c hR t x1 x2)).trans (stripe_rows (q R) t.val 4 x1 x2 _
    (by show 0 + 1 * x1.val = x1.val; omega) (by show 1024 + 1 * x2.val = 256 * 4 + x2.val; omega))

include hR in
/-- A point's stripe of the queries of group 3. -/
theorem q3_out (t : Fin cfg0.N) (x : S1x256x256.Idx) :
    k0_pay43 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 8 t) r0_27) x = rows (q R) t.val (r0_28.emb x) := by
  idx_vars x
  obtain rfl : x0 = 0 := Subsingleton.elim _ _
  exact ((q3_stripe (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 8 t) x1 x2).trans (q3_pt m c hR t x1 x2)).trans (stripe_rows (q R) t.val 3 x1 x2 _
    (by show 0 + 1 * x1.val = x1.val; omega) (by show 768 + 1 * x2.val = 256 * 3 + x2.val; omega))

include hR in
/-- A point's stripe of the queries of group 2. -/
theorem q2_out (t : Fin cfg0.N) (x : S1x256x256.Idx) :
    k0_pay34 (k0_pay92 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 8 t) r0_22) x = rows (q R) t.val (r0_23.emb x) := by
  idx_vars x
  obtain rfl : x0 = 0 := Subsingleton.elim _ _
  exact ((q2_stripe (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 8 t) x1 x2).trans (q2_pt m c hR t x1 x2)).trans (stripe_rows (q R) t.val 2 x1 x2 _
    (by show 0 + 1 * x1.val = x1.val; omega) (by show 512 + 1 * x2.val = 256 * 2 + x2.val; omega))

include hR in
/-- A point's stripe of the queries of group 1. -/
theorem q1_out (t : Fin cfg0.N) (x : S1x256x256.Idx) :
    k0_pay26 (k0_pay89 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x = rows (q R) t.val (r0_18.emb x) := by
  idx_vars x
  obtain rfl : x0 = 0 := Subsingleton.elim _ _
  exact ((q1_stripe (k0_pay89 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x1 x2).trans (q1_pt m c hR t x1 x2)).trans (stripe_rows (q R) t.val 1 x1 x2 _
    (by show 0 + 1 * x1.val = x1.val; omega) (by show 256 + 1 * x2.val = 256 * 1 + x2.val; omega))

include hR in
/-- A point's stripe of the queries of group 0. -/
theorem q0_out (t : Fin cfg0.N) (x : S1x256x256.Idx) :
    k0_pay17 (k0_pay85 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x = rows (q R) t.val (r0_13.emb x) := by
  idx_vars x
  obtain rfl : x0 = 0 := Subsingleton.elim _ _
  exact ((q0_stripe (k0_pay85 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x1 x2).trans (q0_pt m c hR t x1 x2)).trans (stripe_rows (q R) t.val 0 x1 x2 _
    (by show 0 + 1 * x1.val = x1.val; omega) (by show 0 + 1 * x2.val = 256 * 0 + x2.val; omega))

include hR in
/-- WHAT A POINT WRITES OF THE QUERIES. -/
theorem out13_at (t : Fin cfg0.N) (y : S1x256x2048.Idx) : out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = rows (q R) t.val y := by
  unfold out0_13
  refine View.canon_apply_of_pieces (Val := Elt Ideal) (rows (q R) t.val) _ ?_ y (cover0_13 _ _ _ _ _ _ _ _ y)
  simp only [List.forall_mem_cons, List.not_mem_nil, false_imp_iff, implies_true, and_true]
  exact ⟨q7_out m c hR t, q6_out m c hR t, q5_out m c hR t, q4_out m c hR t, q3_out m c hR t, q2_out m c hR t, q1_out m c hR t, q0_out m c hR t⟩

include hR in
/-- A point's stripe of the keys of group 7. -/
theorem k7_out (t : Fin cfg0.N) (x : S1x256x256.Idx) :
    k0_pay77 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t) r0_47) x = rows (scaled R) t.val (r0_48.emb x) := by
  idx_vars x
  obtain rfl : x0 = 0 := Subsingleton.elim _ _
  exact ((k7_stripe (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) x1 x2).trans (congrArg (· * Named.named (F := Ideal) κ "k_scale" (φ := .f32) 0x3D3504F3#32) (k7_pt m c hR t x1 x2))).trans (stripe_rows (scaled R) t.val 7 x1 x2 _
    (by show 0 + 1 * x1.val = x1.val; omega) (by show 1792 + 1 * x2.val = 256 * 7 + x2.val; omega))

include hR in
/-- A point's stripe of the keys of group 6. -/
theorem k6_out (t : Fin cfg0.N) (x : S1x256x256.Idx) :
    k0_pay68 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t) r0_42) x = rows (scaled R) t.val (r0_43.emb x) := by
  idx_vars x
  obtain rfl : x0 = 0 := Subsingleton.elim _ _
  exact ((k6_stripe (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) x1 x2).trans (congrArg (· * Named.named (F := Ideal) κ "k_scale" (φ := .f32) 0x3D3504F3#32) (k6_pt m c hR t x1 x2))).trans (stripe_rows (scaled R) t.val 6 x1 x2 _
    (by show 0 + 1 * x1.val = x1.val; omega) (by show 1536 + 1 * x2.val = 256 * 6 + x2.val; omega))

include hR in
/-- A point's stripe of the keys of group 5. -/
theorem k5_out (t : Fin cfg0.N) (x : S1x256x256.Idx) :
    k0_pay60 (k0_pay99 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay100 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay97 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x = rows (scaled R) t.val (r0_38.emb x) := by
  idx_vars x
  obtain rfl : x0 = 0 := Subsingleton.elim _ _
  exact ((k5_stripe (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) x1 x2).trans (congrArg (· * Named.named (F := Ideal) κ "k_scale" (φ := .f32) 0x3D3504F3#32) (k5_pt m c hR t x1 x2))).trans (stripe_rows (scaled R) t.val 5 x1 x2 _
    (by show 0 + 1 * x1.val = x1.val; omega) (by show 1280 + 1 * x2.val = 256 * 5 + x2.val; omega))

include hR in
/-- A point's stripe of the keys of group 4. -/
theorem k4_out (t : Fin cfg0.N) (x : S1x256x256.Idx) :
    k0_pay51 (k0_pay95 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x = rows (scaled R) t.val (r0_33.emb x) := by
  idx_vars x
  obtain rfl : x0 = 0 := Subsingleton.elim _ _
  exact ((k4_stripe (k0_pay95 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x1 x2).trans (congrArg (· * Named.named (F := Ideal) κ "k_scale" (φ := .f32) 0x3D3504F3#32) (k4_pt m c hR t x1 x2))).trans (stripe_rows (scaled R) t.val 4 x1 x2 _
    (by show 0 + 1 * x1.val = x1.val; omega) (by show 1024 + 1 * x2.val = 256 * 4 + x2.val; omega))

include hR in
/-- A point's stripe of the keys of group 3. -/
theorem k3_out (t : Fin cfg0.N) (x : S1x256x256.Idx) :
    k0_pay44 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t) r0_27) x = rows (scaled R) t.val (r0_28.emb x) := by
  idx_vars x
  obtain rfl : x0 = 0 := Subsingleton.elim _ _
  exact ((k3_stripe (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) x1 x2).trans (congrArg (· * Named.named (F := Ideal) κ "k_scale" (φ := .f32) 0x3D3504F3#32) (k3_pt m c hR t x1 x2))).trans (stripe_rows (scaled R) t.val 3 x1 x2 _
    (by show 0 + 1 * x1.val = x1.val; omega) (by show 768 + 1 * x2.val = 256 * 3 + x2.val; omega))

include hR in
/-- A point's stripe of the keys of group 2. -/
theorem k2_out (t : Fin cfg0.N) (x : S1x256x256.Idx) :
    k0_pay35 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t) r0_22) x = rows (scaled R) t.val (r0_23.emb x) := by
  idx_vars x
  obtain rfl : x0 = 0 := Subsingleton.elim _ _
  exact ((k2_stripe (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) x1 x2).trans (congrArg (· * Named.named (F := Ideal) κ "k_scale" (φ := .f32) 0x3D3504F3#32) (k2_pt m c hR t x1 x2))).trans (stripe_rows (scaled R) t.val 2 x1 x2 _
    (by show 0 + 1 * x1.val = x1.val; omega) (by show 512 + 1 * x2.val = 256 * 2 + x2.val; omega))

include hR in
/-- A point's stripe of the keys of group 1. -/
theorem k1_out (t : Fin cfg0.N) (x : S1x256x256.Idx) :
    k0_pay27 (k0_pay90 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay91 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay88 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x = rows (scaled R) t.val (r0_18.emb x) := by
  idx_vars x
  obtain rfl : x0 = 0 := Subsingleton.elim _ _
  exact ((k1_stripe (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) x1 x2).trans (congrArg (· * Named.named (F := Ideal) κ "k_scale" (φ := .f32) 0x3D3504F3#32) (k1_pt m c hR t x1 x2))).trans (stripe_rows (scaled R) t.val 1 x1 x2 _
    (by show 0 + 1 * x1.val = x1.val; omega) (by show 256 + 1 * x2.val = 256 * 1 + x2.val; omega))

include hR in
/-- A point's stripe of the keys of group 0. -/
theorem k0_out (t : Fin cfg0.N) (x : S1x256x256.Idx) :
    k0_pay18 (k0_pay86 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x = rows (scaled R) t.val (r0_13.emb x) := by
  idx_vars x
  obtain rfl : x0 = 0 := Subsingleton.elim _ _
  exact ((k0_stripe (k0_pay86 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x1 x2).trans (congrArg (· * Named.named (F := Ideal) κ "k_scale" (φ := .f32) 0x3D3504F3#32) (k0_pt m c hR t x1 x2))).trans (stripe_rows (scaled R) t.val 0 x1 x2 _
    (by show 0 + 1 * x1.val = x1.val; omega) (by show 0 + 1 * x2.val = 256 * 0 + x2.val; omega))

include hR in
/-- WHAT A POINT WRITES OF THE KEYS. -/
theorem out14_at (t : Fin cfg0.N) (y : S1x256x2048.Idx) : out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = rows (scaled R) t.val y := by
  unfold out0_14
  refine View.canon_apply_of_pieces (Val := Elt Ideal) (rows (scaled R) t.val) _ ?_ y (cover0_14 _ _ _ _ _ _ _ _ y)
  simp only [List.forall_mem_cons, List.not_mem_nil, false_imp_iff, implies_true, and_true]
  exact ⟨k7_out m c hR t, k6_out m c hR t, k5_out m c hR t, k4_out m c hR t, k3_out m c hR t, k2_out m c hR t, k1_out m c hR t, k0_out m c hR t⟩

include hR in
/-- A point's stripe of the values of group 7. -/
theorem v7_out (t : Fin cfg0.N) (x : S1x256x256.Idx) :
    k0_pay1 (k0_pay102 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x = rows (v R) t.val (r0_48.emb x) := by
  idx_vars x
  obtain rfl : x0 = 0 := Subsingleton.elim _ _
  exact ((v7_stripe (k0_pay102 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x1 x2).trans (v7_pt m c hR t x1 x2)).trans (stripe_rows (v R) t.val 7 x1 x2 _
    (by show 0 + 1 * x1.val = x1.val; omega) (by show 1792 + 1 * x2.val = 256 * 7 + x2.val; omega))

include hR in
/-- A point's stripe of the values of group 6. -/
theorem v6_out (t : Fin cfg0.N) (x : S1x256x256.Idx) :
    k0_pay69 (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 10 t) r0_42) x = rows (v R) t.val (r0_43.emb x) := by
  idx_vars x
  obtain rfl : x0 = 0 := Subsingleton.elim _ _
  exact ((v6_stripe (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t) x1 x2).trans (v6_pt m c hR t x1 x2)).trans (stripe_rows (v R) t.val 6 x1 x2 _
    (by show 0 + 1 * x1.val = x1.val; omega) (by show 1536 + 1 * x2.val = 256 * 6 + x2.val; omega))

include hR in
/-- A point's stripe of the values of group 5. -/
theorem v5_out (t : Fin cfg0.N) (x : S1x256x256.Idx) :
    k0_pay61 (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 10 t) r0_37) x = rows (v R) t.val (r0_38.emb x) := by
  idx_vars x
  obtain rfl : x0 = 0 := Subsingleton.elim _ _
  exact ((v5_stripe (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t) x1 x2).trans (v5_pt m c hR t x1 x2)).trans (stripe_rows (v R) t.val 5 x1 x2 _
    (by show 0 + 1 * x1.val = x1.val; omega) (by show 1280 + 1 * x2.val = 256 * 5 + x2.val; omega))

include hR in
/-- A point's stripe of the values of group 4. -/
theorem v4_out (t : Fin cfg0.N) (x : S1x256x256.Idx) :
    k0_pay52 (k0_pay96 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x = rows (v R) t.val (r0_33.emb x) := by
  idx_vars x
  obtain rfl : x0 = 0 := Subsingleton.elim _ _
  exact ((v4_stripe (k0_pay96 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x1 x2).trans (v4_pt m c hR t x1 x2)).trans (stripe_rows (v R) t.val 4 x1 x2 _
    (by show 0 + 1 * x1.val = x1.val; omega) (by show 1024 + 1 * x2.val = 256 * 4 + x2.val; omega))

include hR in
/-- A point's stripe of the values of group 3. -/
theorem v3_out (t : Fin cfg0.N) (x : S1x256x256.Idx) :
    k0_pay45 (k0_pay93 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x = rows (v R) t.val (r0_28.emb x) := by
  idx_vars x
  obtain rfl : x0 = 0 := Subsingleton.elim _ _
  exact ((v3_stripe (k0_pay93 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x1 x2).trans (v3_pt m c hR t x1 x2)).trans (stripe_rows (v R) t.val 3 x1 x2 _
    (by show 0 + 1 * x1.val = x1.val; omega) (by show 768 + 1 * x2.val = 256 * 3 + x2.val; omega))

include hR in
/-- A point's stripe of the values of group 2. -/
theorem v2_out (t : Fin cfg0.N) (x : S1x256x256.Idx) :
    k0_pay36 (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 10 t) r0_22) x = rows (v R) t.val (r0_23.emb x) := by
  idx_vars x
  obtain rfl : x0 = 0 := Subsingleton.elim _ _
  exact ((v2_stripe (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t) x1 x2).trans (v2_pt m c hR t x1 x2)).trans (stripe_rows (v R) t.val 2 x1 x2 _
    (by show 0 + 1 * x1.val = x1.val; omega) (by show 512 + 1 * x2.val = 256 * 2 + x2.val; omega))

include hR in
/-- A point's stripe of the values of group 1. -/
theorem v1_out (t : Fin cfg0.N) (x : S1x256x256.Idx) :
    k0_pay28 (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 10 t) r0_17) x = rows (v R) t.val (r0_18.emb x) := by
  idx_vars x
  obtain rfl : x0 = 0 := Subsingleton.elim _ _
  exact ((v1_stripe (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t) x1 x2).trans (v1_pt m c hR t x1 x2)).trans (stripe_rows (v R) t.val 1 x1 x2 _
    (by show 0 + 1 * x1.val = x1.val; omega) (by show 256 + 1 * x2.val = 256 * 1 + x2.val; omega))

include hR in
/-- A point's stripe of the values of group 0. -/
theorem v0_out (t : Fin cfg0.N) (x : S1x256x256.Idx) :
    k0_pay19 (k0_pay87 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x = rows (v R) t.val (r0_13.emb x) := by
  idx_vars x
  obtain rfl : x0 = 0 := Subsingleton.elim _ _
  exact ((v0_stripe (k0_pay87 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) x1 x2).trans (v0_pt m c hR t x1 x2)).trans (stripe_rows (v R) t.val 0 x1 x2 _
    (by show 0 + 1 * x1.val = x1.val; omega) (by show 0 + 1 * x2.val = 256 * 0 + x2.val; omega))

include hR in
/-- WHAT A POINT WRITES OF THE VALUES. -/
theorem out15_at (t : Fin cfg0.N) (y : S1x256x2048.Idx) : out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = rows (v R) t.val y := by
  unfold out0_15
  refine View.canon_apply_of_pieces (Val := Elt Ideal) (rows (v R) t.val) _ ?_ y (cover0_15 _ _ _ _ _ _ _ _ y)
  simp only [List.forall_mem_cons, List.not_mem_nil, false_imp_iff, implies_true, and_true]
  exact ⟨v7_out m c hR t, v6_out m c hR t, v5_out m c hR t, v4_out m c hR t, v3_out m c hR t, v2_out m c hR t, v1_out m c hR t, v0_out m c hR t⟩

include hR in
/-- WHAT A POINT WRITES OF THE CONVOLVED ROWS. -/
theorem out16_at (t : Fin cfg0.N) (j : Fin 256) (e : Fin 2048) : out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 j e) = xc R (bOf t.val) (rowOf t.val j) e := by
  unfold out0_16
  frame_out
  refine Eq.trans ?_ (xc_at m c hR t j e)
  pointwise [k0_pay12]
  rfl

include hR in
/-- WHAT A POINT WRITES OF THE OUTPUT GATES. -/
theorem out17_at (t : Fin cfg0.N) (j : Fin 256) (e : Fin 2048) : out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 j e) = z R (bOf t.val) (rowOf t.val j) e := by
  unfold out0_17
  frame_out
  exact z_at m c hR t j e

end Cert.Kernel8Ideal.MlstmPre

end
-- ==== Proof.MlstmPreRun.lean ====
/-
  The value of the kernel before the scans: its six result arrays.
-/
module

public import proofs.«01_k».proof.Proof.MlstmPreOut

@[expose] public section

set_option maxRecDepth 16384

noncomputable section

namespace Cert.Kernel8Ideal.MlstmPre

open Cert.Kernel8Ideal Cert.Kernel8Ideal.Gen Cert.MlstmPre Idealize.ShloMosaic Idealize.ShloMosaic.TcCoe Idealize.SL.Sem
open Idealize.ShloMosaic.Pipeline (Dat)

variable (m : (ℓ : Loc nD τ sig) → Buf (Elt Ideal) ℓ) (c : Dev nD) {R : Args} (hR : Holds m c R)

/-- What a group adds to a token's gates. -/
def gpart (R : Args) (b : Fin 4) (n : Fin 8192) (o : Fin 16) (g : Fin 8) : EReal :=
  (∑ x, q R b n (gfeat g x) * R.wg ⟨(gfeat g x).val, by omega⟩ o) + (∑ x, k R b n (gfeat g x) * R.wg ⟨2048 + (gfeat g x).val, by omega⟩ o)
    + (∑ x, v R b n (gfeat g x) * R.wg ⟨4096 + (gfeat g x).val, by omega⟩ o)

/-- The gates are their bias and what each group adds. -/
theorem gates_parts (R : Args) (b : Fin 4) (n : Fin 8192) (o : Fin 16) :
    R.bg o + gpart R b n o 0 + gpart R b n o 1 + gpart R b n o 2 + gpart R b n o 3 + gpart R b n o 4 + gpart R b n o 5 + gpart R b n o 6
      + gpart R b n o 7 = gates R b n o := by
  have h : gates R b n o = (∑ g, gpart R b n o g) + R.bg o := by
    unfold gates
    rewrite [sum_gfeat fun e => q R b n e * R.wg ⟨e.val, by omega⟩ o, sum_gfeat fun e => k R b n e * R.wg ⟨2048 + e.val, by omega⟩ o,
      sum_gfeat fun e => v R b n e * R.wg ⟨4096 + e.val, by omega⟩ o, ← Finset.sum_add_distrib, ← Finset.sum_add_distrib]
    rfl
  rewrite [h, Fin.sum_univ_eight, add_comm _ (R.bg o)]
  simp only [add_assoc]

/-- What a group's tiles add to the gates. -/
theorem part_at (R : Args) (b : Fin 4) (n : Fin 8192) (W : FVec Ideal S6144x16 .bf16) (g : Fin 8) (T U V : FVec Ideal S256x256 .f32) (j : Fin 256) (o : Fin 16)
    (hW : ∀ e, W (ix2 e o) = R.wg e o) (hT : ∀ y, T (ix2 j y) = q R b n (gfeat g y)) (hU : ∀ y, U (ix2 j y) = k R b n (gfeat g y))
    (hV : ∀ y, V (ix2 j y) = v R b n (gfeat g y)) : part W g T U V j o = gpart R b n o g := by
  unfold part gpart
  simp only [hT, hU, hV, hW]
  refine congrArg₂ (· + ·) (congrArg₂ (· + ·) rfl ?_) ?_
  · exact Finset.sum_congr rfl fun x _ => congrArg (fun e => k R b n (gfeat g x) * R.wg e o) (Fin.ext (Nat.add_assoc 2048 (256 * g.val) x.val))
  · exact Finset.sum_congr rfl fun x _ => congrArg (fun e => v R b n (gfeat g x) * R.wg e o) (Fin.ext (Nat.add_assoc 4096 (256 * g.val) x.val))

include hR in
/-- What group 0 adds to a point's gates. -/
theorem step0 (t : Fin cfg0.N) (acc : FVec Ideal S256x16 .f32) (j : Fin 256) (o : Fin 16) (s : EReal) (hs : acc (ix2 j o) = s) :
    k0_pay20 acc (k0_pay85 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay86 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay87 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 11 t) r0_14) (View.ld (iblk m c 11 t) r0_15) (View.ld (iblk m c 11 t) r0_16) (ix2 j o) = s + gpart R (bOf t.val) (rowOf t.val j) o 0 :=
  (gates0_at (iblk m c 11 t) acc (k0_pay85 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay86 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay87 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) j o).trans (congrArg₂ (· + ·) hs
    (part_at R (bOf t.val) (rowOf t.val j) (iblk m c 11 t) 0 _ _ _ j o (fun e => (wg_blk m c t e o).trans (hR.wg e o)) (q0_pt m c hR t j) (k0_pt m c hR t j) (v0_pt m c hR t j)))

include hR in
/-- What group 1 adds to a point's gates. -/
theorem step1 (t : Fin cfg0.N) (acc : FVec Ideal S256x16 .f32) (j : Fin 256) (o : Fin 16) (s : EReal) (hs : acc (ix2 j o) = s) :
    k0_pay29 (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) acc (k0_pay89 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay90 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay91 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay88 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 10 t) r0_17) (View.ld (iblk m c 11 t) r0_19) (View.ld (iblk m c 11 t) r0_20) (View.ld (iblk m c 11 t) r0_21) (ix2 j o) = s + gpart R (bOf t.val) (rowOf t.val j) o 1 :=
  (gates1_at (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) (iblk m c 11 t) acc (k0_pay89 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t) j o).trans (congrArg₂ (· + ·) hs
    (part_at R (bOf t.val) (rowOf t.val j) (iblk m c 11 t) 1 _ _ _ j o (fun e => (wg_blk m c t e o).trans (hR.wg e o)) (q1_pt m c hR t j) (k1_pt m c hR t j) (v1_pt m c hR t j)))

include hR in
/-- What group 2 adds to a point's gates. -/
theorem step2 (t : Fin cfg0.N) (acc : FVec Ideal S256x16 .f32) (j : Fin 256) (o : Fin 16) (s : EReal) (hs : acc (ix2 j o) = s) :
    k0_pay39 acc (k0_pay32 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t) r0_22)) (k0_pay33 (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 10 t) r0_22)) (k0_pay37 (k0_pay92 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 8 t) r0_22) (View.ld (iblk m c 11 t) r0_24)) (k0_pay38 (View.ld (iblk m c 11 t) r0_25)) (View.ld (iblk m c 11 t) r0_26) (ix2 j o) = s + gpart R (bOf t.val) (rowOf t.val j) o 2 :=
  (gates2_at (iblk m c 8 t) (iblk m c 11 t) acc (k0_pay32 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t) r0_22)) (k0_pay33 (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 10 t) r0_22)) (k0_pay92 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) j o).trans (congrArg₂ (· + ·) hs
    (part_at R (bOf t.val) (rowOf t.val j) (iblk m c 11 t) 2 _ _ _ j o (fun e => (wg_blk m c t e o).trans (hR.wg e o)) (q2_pt m c hR t j) (k2_pt m c hR t j) (v2_pt m c hR t j)))

include hR in
/-- What group 3 adds to a point's gates. -/
theorem step3 (t : Fin cfg0.N) (acc : FVec Ideal S256x16 .f32) (j : Fin 256) (o : Fin 16) (s : EReal) (hs : acc (ix2 j o) = s) :
    k0_pay46 acc (k0_pay40 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 8 t) r0_27)) (k0_pay41 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t) r0_27)) (k0_pay93 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 11 t) r0_29) (View.ld (iblk m c 11 t) r0_30) (View.ld (iblk m c 11 t) r0_31) (ix2 j o) = s + gpart R (bOf t.val) (rowOf t.val j) o 3 :=
  (gates3_at (iblk m c 11 t) acc (k0_pay40 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 8 t) r0_27)) (k0_pay41 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t) r0_27)) (k0_pay93 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) j o).trans (congrArg₂ (· + ·) hs
    (part_at R (bOf t.val) (rowOf t.val j) (iblk m c 11 t) 3 _ _ _ j o (fun e => (wg_blk m c t e o).trans (hR.wg e o)) (q3_pt m c hR t j) (k3_pt m c hR t j) (v3_pt m c hR t j)))

include hR in
/-- What group 4 adds to a point's gates. -/
theorem step4 (t : Fin cfg0.N) (acc : FVec Ideal S256x16 .f32) (j : Fin 256) (o : Fin 16) (s : EReal) (hs : acc (ix2 j o) = s) :
    k0_pay53 acc (k0_pay94 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay95 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay96 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 11 t) r0_34) (View.ld (iblk m c 11 t) r0_35) (View.ld (iblk m c 11 t) r0_36) (ix2 j o) = s + gpart R (bOf t.val) (rowOf t.val j) o 4 :=
  (gates4_at (iblk m c 11 t) acc (k0_pay94 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay95 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay96 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) j o).trans (congrArg₂ (· + ·) hs
    (part_at R (bOf t.val) (rowOf t.val j) (iblk m c 11 t) 4 _ _ _ j o (fun e => (wg_blk m c t e o).trans (hR.wg e o)) (q4_pt m c hR t j) (k4_pt m c hR t j) (v4_pt m c hR t j)))

include hR in
/-- What group 5 adds to a point's gates. -/
theorem step5 (t : Fin cfg0.N) (acc : FVec Ideal S256x16 .f32) (j : Fin 256) (o : Fin 16) (s : EReal) (hs : acc (ix2 j o) = s) :
    k0_pay62 (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) acc (k0_pay98 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay99 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay100 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay97 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 10 t) r0_37) (View.ld (iblk m c 11 t) r0_39) (View.ld (iblk m c 11 t) r0_40) (View.ld (iblk m c 11 t) r0_41) (ix2 j o) = s + gpart R (bOf t.val) (rowOf t.val j) o 5 :=
  (gates5_at (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 9 t) (iblk m c 11 t) acc (k0_pay98 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 10 t) j o).trans (congrArg₂ (· + ·) hs
    (part_at R (bOf t.val) (rowOf t.val j) (iblk m c 11 t) 5 _ _ _ j o (fun e => (wg_blk m c t e o).trans (hR.wg e o)) (q5_pt m c hR t j) (k5_pt m c hR t j) (v5_pt m c hR t j)))

include hR in
/-- What group 6 adds to a point's gates. -/
theorem step6 (t : Fin cfg0.N) (acc : FVec Ideal S256x16 .f32) (j : Fin 256) (o : Fin 16) (s : EReal) (hs : acc (ix2 j o) = s) :
    k0_pay72 acc (k0_pay65 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t) r0_42)) (k0_pay66 (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 10 t) r0_42)) (k0_pay70 (k0_pay101 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 8 t) r0_42) (View.ld (iblk m c 11 t) r0_44)) (k0_pay71 (View.ld (iblk m c 11 t) r0_45)) (View.ld (iblk m c 11 t) r0_46) (ix2 j o) = s + gpart R (bOf t.val) (rowOf t.val j) o 6 :=
  (gates6_at (iblk m c 8 t) (iblk m c 11 t) acc (k0_pay65 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t) r0_42)) (k0_pay66 (k0_pay81 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 10 t) r0_42)) (k0_pay101 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) j o).trans (congrArg₂ (· + ·) hs
    (part_at R (bOf t.val) (rowOf t.val j) (iblk m c 11 t) 6 _ _ _ j o (fun e => (wg_blk m c t e o).trans (hR.wg e o)) (q6_pt m c hR t j) (k6_pt m c hR t j) (v6_pt m c hR t j)))

include hR in
/-- What group 7 adds to a point's gates. -/
theorem step7 (t : Fin cfg0.N) (acc : FVec Ideal S256x16 .f32) (j : Fin 256) (o : Fin 16) (s : EReal) (hs : acc (ix2 j o) = s) :
    k0_pay2 acc (k0_pay73 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 8 t) r0_47)) (k0_pay74 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t) r0_47)) (k0_pay102 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 11 t) r0_49) (View.ld (iblk m c 11 t) r0_50) (View.ld (iblk m c 11 t) r0_51) (ix3 0 j o) = s + gpart R (bOf t.val) (rowOf t.val j) o 7 :=
  (gates7_at (iblk m c 11 t) acc (k0_pay73 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 8 t) r0_47)) (k0_pay74 (k0_pay84 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t) r0_47)) (k0_pay102 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) j o).trans (congrArg₂ (· + ·) hs
    (part_at R (bOf t.val) (rowOf t.val j) (iblk m c 11 t) 7 _ _ _ j o (fun e => (wg_blk m c t e o).trans (hR.wg e o)) (q7_pt m c hR t j) (k7_pt m c hR t j) (v7_pt m c hR t j)))

include hR in
/-- WHAT A POINT WRITES OF THE GATES. -/
theorem out18_at (t : Fin cfg0.N) (j : Fin 256) (o : Fin 16) : out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 j o) = gates R (bOf t.val) (rowOf t.val j) o := by
  unfold out0_18
  frame_out
  refine Eq.trans ?_ (gates_parts R (bOf t.val) (rowOf t.val j) o)
  exact (step7 m c hR t _ j o _ (step6 m c hR t _ j o _ (step5 m c hR t _ j o _ (step4 m c hR t _ j o _ (step3 m c hR t _ j o _ (step2 m c hR t _ j o _ (step1 m c hR t _ j o _ (step0 m c hR t _ j o _ ((start_at (iblk m c 12 t) j o).trans ((bg_blk m c t o).trans (hR.bg o)))))))))))

/-- An array of samples, tokens and features. -/
def arr (F : Fin 4 → Fin 8192 → Fin 2048 → EReal) : FVec Ideal S4x8192x2048 .f32 := fun i => F (i 0) (i 1) (i 2)
/-- The gates, as one array. -/
def gatesArr (R : Args) : FVec Ideal S4x8192x16 .f32 := fun i => gates R (i 0) (i 1) (i 2)

/-- Every block of the queries is some point's. -/
theorem covers13 : (cfg0.win 13).Covers := (cfg0.win 13).covers_of_index_surj rfl (by decide) fun β => by
  have b0 : (β 0).val < 4 := (β 0).isLt
  have b1 : (β 1).val < 32 := (β 1).isLt
  have b2 : (β 2).val < 1 := (β 2).isLt
  obtain ⟨n, hn⟩ : ∃ n, n = (β 0).val * 32 + (β 1).val := ⟨_, rfl⟩
  have hN : n < cfg0.N := lt_of_lt_of_eq (by omega) (show 128 = cfg0.N from N_0.symm)
  obtain ⟨h0, h1, h2⟩ := idx13 ⟨n, hN⟩
  have e0 : n / 32 % 4 = (β 0).val := by omega
  have e1 : n % 32 = (β 1).val := by omega
  have e2 : 0 = (β 2).val := by omega
  refine ⟨⟨n, hN⟩, fun a => ?_⟩
  match a with
  | ⟨0, _⟩ => exact h0.trans e0
  | ⟨1, _⟩ => exact h1.trans e1
  | ⟨2, _⟩ => exact h2.trans e2

/-- Every block of the keys is some point's. -/
theorem covers14 : (cfg0.win 14).Covers := (cfg0.win 14).covers_of_index_surj rfl (by decide) fun β => by
  have b0 : (β 0).val < 4 := (β 0).isLt
  have b1 : (β 1).val < 32 := (β 1).isLt
  have b2 : (β 2).val < 1 := (β 2).isLt
  obtain ⟨n, hn⟩ : ∃ n, n = (β 0).val * 32 + (β 1).val := ⟨_, rfl⟩
  have hN : n < cfg0.N := lt_of_lt_of_eq (by omega) (show 128 = cfg0.N from N_0.symm)
  obtain ⟨h0, h1, h2⟩ := idx14 ⟨n, hN⟩
  have e0 : n / 32 % 4 = (β 0).val := by omega
  have e1 : n % 32 = (β 1).val := by omega
  have e2 : 0 = (β 2).val := by omega
  refine ⟨⟨n, hN⟩, fun a => ?_⟩
  match a with
  | ⟨0, _⟩ => exact h0.trans e0
  | ⟨1, _⟩ => exact h1.trans e1
  | ⟨2, _⟩ => exact h2.trans e2

/-- Every block of the values is some point's. -/
theorem covers15 : (cfg0.win 15).Covers := (cfg0.win 15).covers_of_index_surj rfl (by decide) fun β => by
  have b0 : (β 0).val < 4 := (β 0).isLt
  have b1 : (β 1).val < 32 := (β 1).isLt
  have b2 : (β 2).val < 1 := (β 2).isLt
  obtain ⟨n, hn⟩ : ∃ n, n = (β 0).val * 32 + (β 1).val := ⟨_, rfl⟩
  have hN : n < cfg0.N := lt_of_lt_of_eq (by omega) (show 128 = cfg0.N from N_0.symm)
  obtain ⟨h0, h1, h2⟩ := idx15 ⟨n, hN⟩
  have e0 : n / 32 % 4 = (β 0).val := by omega
  have e1 : n % 32 = (β 1).val := by omega
  have e2 : 0 = (β 2).val := by omega
  refine ⟨⟨n, hN⟩, fun a => ?_⟩
  match a with
  | ⟨0, _⟩ => exact h0.trans e0
  | ⟨1, _⟩ => exact h1.trans e1
  | ⟨2, _⟩ => exact h2.trans e2

/-- Every block of the convolved rows is some point's. -/
theorem covers16 : (cfg0.win 16).Covers := (cfg0.win 16).covers_of_index_surj rfl (by decide) fun β => by
  have b0 : (β 0).val < 4 := (β 0).isLt
  have b1 : (β 1).val < 32 := (β 1).isLt
  have b2 : (β 2).val < 1 := (β 2).isLt
  obtain ⟨n, hn⟩ : ∃ n, n = (β 0).val * 32 + (β 1).val := ⟨_, rfl⟩
  have hN : n < cfg0.N := lt_of_lt_of_eq (by omega) (show 128 = cfg0.N from N_0.symm)
  obtain ⟨h0, h1, h2⟩ := idx16 ⟨n, hN⟩
  have e0 : n / 32 % 4 = (β 0).val := by omega
  have e1 : n % 32 = (β 1).val := by omega
  have e2 : 0 = (β 2).val := by omega
  refine ⟨⟨n, hN⟩, fun a => ?_⟩
  match a with
  | ⟨0, _⟩ => exact h0.trans e0
  | ⟨1, _⟩ => exact h1.trans e1
  | ⟨2, _⟩ => exact h2.trans e2

/-- Every block of the output gates is some point's. -/
theorem covers17 : (cfg0.win 17).Covers := (cfg0.win 17).covers_of_index_surj rfl (by decide) fun β => by
  have b0 : (β 0).val < 4 := (β 0).isLt
  have b1 : (β 1).val < 32 := (β 1).isLt
  have b2 : (β 2).val < 1 := (β 2).isLt
  obtain ⟨n, hn⟩ : ∃ n, n = (β 0).val * 32 + (β 1).val := ⟨_, rfl⟩
  have hN : n < cfg0.N := lt_of_lt_of_eq (by omega) (show 128 = cfg0.N from N_0.symm)
  obtain ⟨h0, h1, h2⟩ := idx17 ⟨n, hN⟩
  have e0 : n / 32 % 4 = (β 0).val := by omega
  have e1 : n % 32 = (β 1).val := by omega
  have e2 : 0 = (β 2).val := by omega
  refine ⟨⟨n, hN⟩, fun a => ?_⟩
  match a with
  | ⟨0, _⟩ => exact h0.trans e0
  | ⟨1, _⟩ => exact h1.trans e1
  | ⟨2, _⟩ => exact h2.trans e2

/-- Every block of the gates is some point's. -/
theorem covers18 : (cfg0.win 18).Covers := (cfg0.win 18).covers_of_index_surj rfl (by decide) fun β => by
  have b0 : (β 0).val < 4 := (β 0).isLt
  have b1 : (β 1).val < 32 := (β 1).isLt
  have b2 : (β 2).val < 1 := (β 2).isLt
  obtain ⟨n, hn⟩ : ∃ n, n = (β 0).val * 32 + (β 1).val := ⟨_, rfl⟩
  have hN : n < cfg0.N := lt_of_lt_of_eq (by omega) (show 128 = cfg0.N from N_0.symm)
  obtain ⟨h0, h1, h2⟩ := idx18 ⟨n, hN⟩
  have e0 : n / 32 % 4 = (β 0).val := by omega
  have e1 : n % 32 = (β 1).val := by omega
  have e2 : 0 = (β 2).val := by omega
  refine ⟨⟨n, hN⟩, fun a => ?_⟩
  match a with
  | ⟨0, _⟩ => exact h0.trans e0
  | ⟨1, _⟩ => exact h1.trans e1
  | ⟨2, _⟩ => exact h2.trans e2

include hR in
/-- THE KERNEL'S QUERIES. -/
theorem final13 : (dats m 0 c).arrAt 13 cfg0.N = arr (q R) := by
  refine (dats m 0 c).arrAt_eq_of_covers 13 _ covers13 fun t hf y => ?_
  have key : ∀ y : S1x256x2048.Idx, out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = (arr (q R)) (ix3 (bOf t.val) (rowOf t.val (y 1)) (y 2)) := by
    intro y
    exact out13_at m c hR t y
  obtain ⟨h0, h1, h2⟩ := idx13 t
  blk_simp
  refine (congrFun (after0_13 m c t) y).trans ((key y).trans (congrArg (arr (q R)) ?_))
  blk_ext [h0, h1, h2, rowOf]

include hR in
/-- THE KERNEL'S KEYS. -/
theorem final14 : (dats m 0 c).arrAt 14 cfg0.N = arr (scaled R) := by
  refine (dats m 0 c).arrAt_eq_of_covers 14 _ covers14 fun t hf y => ?_
  have key : ∀ y : S1x256x2048.Idx, out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = (arr (scaled R)) (ix3 (bOf t.val) (rowOf t.val (y 1)) (y 2)) := by
    intro y
    exact out14_at m c hR t y
  obtain ⟨h0, h1, h2⟩ := idx14 t
  blk_simp
  refine (congrFun (after0_14 m c t) y).trans ((key y).trans (congrArg (arr (scaled R)) ?_))
  blk_ext [h0, h1, h2, rowOf]

include hR in
/-- THE KERNEL'S VALUES. -/
theorem final15 : (dats m 0 c).arrAt 15 cfg0.N = arr (v R) := by
  refine (dats m 0 c).arrAt_eq_of_covers 15 _ covers15 fun t hf y => ?_
  have key : ∀ y : S1x256x2048.Idx, out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = (arr (v R)) (ix3 (bOf t.val) (rowOf t.val (y 1)) (y 2)) := by
    intro y
    exact out15_at m c hR t y
  obtain ⟨h0, h1, h2⟩ := idx15 t
  blk_simp
  refine (congrFun (after0_15 m c t) y).trans ((key y).trans (congrArg (arr (v R)) ?_))
  blk_ext [h0, h1, h2, rowOf]

include hR in
/-- THE KERNEL'S CONVOLVED ROWS. -/
theorem final16 : (dats m 0 c).arrAt 16 cfg0.N = arr (xc R) := by
  refine (dats m 0 c).arrAt_eq_of_covers 16 _ covers16 fun t hf y => ?_
  have key : ∀ y : S1x256x2048.Idx, out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = (arr (xc R)) (ix3 (bOf t.val) (rowOf t.val (y 1)) (y 2)) := by
    intro y
    idx_vars y
    obtain rfl : y0 = 0 := Subsingleton.elim _ _
    exact out16_at m c hR t y1 y2
  obtain ⟨h0, h1, h2⟩ := idx16 t
  blk_simp
  refine (congrFun (after0_16 m c t) y).trans ((key y).trans (congrArg (arr (xc R)) ?_))
  blk_ext [h0, h1, h2, rowOf]

include hR in
/-- THE KERNEL'S OUTPUT GATES. -/
theorem final17 : (dats m 0 c).arrAt 17 cfg0.N = arr (z R) := by
  refine (dats m 0 c).arrAt_eq_of_covers 17 _ covers17 fun t hf y => ?_
  have key : ∀ y : S1x256x2048.Idx, out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = (arr (z R)) (ix3 (bOf t.val) (rowOf t.val (y 1)) (y 2)) := by
    intro y
    idx_vars y
    obtain rfl : y0 = 0 := Subsingleton.elim _ _
    exact out17_at m c hR t y1 y2
  obtain ⟨h0, h1, h2⟩ := idx17 t
  blk_simp
  refine (congrFun (after0_17 m c t) y).trans ((key y).trans (congrArg (arr (z R)) ?_))
  blk_ext [h0, h1, h2, rowOf]

include hR in
/-- THE KERNEL'S GATES. -/
theorem final18 : (dats m 0 c).arrAt 18 cfg0.N = gatesArr R := by
  refine (dats m 0 c).arrAt_eq_of_covers 18 _ covers18 fun t hf y => ?_
  have key : ∀ y : S1x256x16.Idx, out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = (gatesArr R) (ix3 (bOf t.val) (rowOf t.val (y 1)) (y 2)) := by
    intro y
    idx_vars y
    obtain rfl : y0 = 0 := Subsingleton.elim _ _
    exact out18_at m c hR t y1 y2
  obtain ⟨h0, h1, h2⟩ := idx18 t
  blk_simp
  refine (congrFun (after0_18 m c t) y).trans ((key y).trans (congrArg (gatesArr R) ?_))
  blk_ext [h0, h1, h2, rowOf]

end Cert.Kernel8Ideal.MlstmPre

end
-- ==== Proof.MlstmPreRef.lean ====
/-
  The value of the reference of what precedes the scans.
-/
module

public import proofs.«01_k».proof.Proof.MlstmPre
public import proofs.«01_k».proof.Proof.Gen.Reference8Ideal.Run
public import Idealize.ShloMosaic.Lib.Tactic.CleanTypes

@[expose] public section

set_option maxRecDepth 16384

noncomputable section

namespace Cert.Reference8Ideal.MlstmPre

open Cert.Reference8Ideal Cert.Reference8Ideal.Gen Cert.Reference8Ideal.Value Cert.MlstmPre Idealize.ShloMosaic Idealize.ShloMosaic.TcCoe Idealize.SL.Sem

variable (m : (ℓ : Loc nD τ sig) → Buf (Elt Ideal) ℓ) (c : Dev nD)

/-- The launch memory holds the arguments `R`. -/
structure Holds (R : Args) : Prop where
  h : ∀ b n d, m ((c : Thread nD τ).loc main_arg0) (ix3 b n d) = R.h b n d
  md : ∀ b r d, m ((c : Thread nD τ).loc main_arg1) (ix3 b r d) = R.md b r d
  g : ∀ d, m ((c : Thread nD τ).loc main_arg2) (ix1 d) = R.g d
  w : ∀ d e, m ((c : Thread nD τ).loc main_arg3) (ix2 d e) = R.w d e
  cw : ∀ k e, m ((c : Thread nD τ).loc main_arg4) (ix2 k e) = R.cw k e
  cb : ∀ e, m ((c : Thread nD τ).loc main_arg5) (ix1 e) = R.cb e
  wq : ∀ p d y, m ((c : Thread nD τ).loc main_arg6) (ix3 p d y) = R.wq p d y
  wk : ∀ p d y, m ((c : Thread nD τ).loc main_arg7) (ix3 p d y) = R.wk p d y
  wv : ∀ p d y, m ((c : Thread nD τ).loc main_arg8) (ix3 p d y) = R.wv p d y
  wg : ∀ e o, m ((c : Thread nD τ).loc main_arg9) (ix2 e o) = R.wg e o
  bg : ∀ o, m ((c : Thread nD τ).loc main_arg10) (ix1 o) = R.bg o

/-- The projections. -/
def upA : FVec Ideal S4x8192x4096 .f32 :=
  Host.dotGeneral (φ₁ := .f32) (φ₂ := .f32) dot_S4x8192x1024_S1024x4096_S4x8192x4096_2_0_01_1_n_n none (addf (mulf (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg2))))) (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 1, 0] (m ((c.tc : Thread nD τ).loc main_arg1)) slices_S4x3x1024_S4x1x1024_0_1_0)))) (broadcastInDim S4x8192x1024 ![0, 1, 2] bcast_S4x1x1024_S4x8192x1024_0_1_2 (extractStridedSlice S4x1x1024 ![0, 0, 0] (m ((c.tc : Thread nD τ).loc main_arg1)) slices_S4x3x1024_S4x1x1024_0_0_0))) (m ((c.tc : Thread nD τ).loc main_arg3))

/-- The convolution of the first halves of the projections `U`. -/
def convA (U : FVec Ideal S4x8192x4096 .f32) (cw : FVec Ideal S3x2048 .f32) (cb : FVec Ideal S2048 .f32) : FVec Ideal S4x8192x2048 .f32 :=
  addf (addf (addf (addf (broadcastInDim S4x8192x2048 ![] bcast_S_S4x8192x2048 (constant S_ .f32 0x00000000#32)) (mulf (extractStridedSlice S4x8192x2048 ![0, 0, 0] (pad S4x8194x2048 ![0, 1, 0] ![0, 1, 0] ![0, 0, 0] (extractStridedSlice S4x8192x2048 ![0, 0, 0] U slices_S4x8192x4096_S4x8192x2048_0_0_0) (sitofp .f32 (constantI S_ 32 0#32)) pads_S4x8192x2048_S4x8194x2048_000_110_000 h_S_) slices_S4x8194x2048_S4x8192x2048_0_0_0) (broadcastInDim S4x8192x2048 ![0, 1, 2] bcast_S1x1x2048_S4x8192x2048_0_1_2 (broadcastInDim S1x1x2048 ![2] bcast_S2048_S1x1x2048_2 (shapeCast _ (extractStridedSlice S1x2048 ![0, 0] cw slices_S3x2048_S1x2048_0_0) shapeCasts_S1x2048_S2048))))) (mulf (extractStridedSlice S4x8192x2048 ![0, 1, 0] (pad S4x8194x2048 ![0, 1, 0] ![0, 1, 0] ![0, 0, 0] (extractStridedSlice S4x8192x2048 ![0, 0, 0] U slices_S4x8192x4096_S4x8192x2048_0_0_0) (sitofp .f32 (constantI S_ 32 0#32)) pads_S4x8192x2048_S4x8194x2048_000_110_000 h_S_) slices_S4x8194x2048_S4x8192x2048_0_1_0) (broadcastInDim S4x8192x2048 ![0, 1, 2] bcast_S1x1x2048_S4x8192x2048_0_1_2 (broadcastInDim S1x1x2048 ![2] bcast_S2048_S1x1x2048_2 (shapeCast _ (extractStridedSlice S1x2048 ![1, 0] cw slices_S3x2048_S1x2048_1_0) shapeCasts_S1x2048_S2048))))) (mulf (extractStridedSlice S4x8192x2048 ![0, 2, 0] (pad S4x8194x2048 ![0, 1, 0] ![0, 1, 0] ![0, 0, 0] (extractStridedSlice S4x8192x2048 ![0, 0, 0] U slices_S4x8192x4096_S4x8192x2048_0_0_0) (sitofp .f32 (constantI S_ 32 0#32)) pads_S4x8192x2048_S4x8194x2048_000_110_000 h_S_) slices_S4x8194x2048_S4x8192x2048_0_2_0) (broadcastInDim S4x8192x2048 ![0, 1, 2] bcast_S1x1x2048_S4x8192x2048_0_1_2 (broadcastInDim S1x1x2048 ![2] bcast_S2048_S1x1x2048_2 (shapeCast _ (extractStridedSlice S1x2048 ![2, 0] cw slices_S3x2048_S1x2048_2_0) shapeCasts_S1x2048_S2048))))) (broadcastInDim S4x8192x2048 ![0, 1, 2] bcast_S1x1x2048_S4x8192x2048_0_1_2 (broadcastInDim S1x1x2048 ![2] bcast_S2048_S1x1x2048_2 cb))

/-- The convolved rows. -/
def xcA (U : FVec Ideal S4x8192x4096 .f32) (cw : FVec Ideal S3x2048 .f32) (cb : FVec Ideal S2048 .f32) : FVec Ideal S4x8192x2048 .f32 :=
  mulf (convA U cw cb) (Host.divf (broadcastInDim S4x8192x2048 ![] bcast_S_S4x8192x2048 (constant S_ .f32 0x3F800000#32)) (addf (broadcastInDim S4x8192x2048 ![] bcast_S_S4x8192x2048 (constant S_ .f32 0x3F800000#32)) (Host.exp (Host.negf (convA U cw cb)))))

/-- Rows times a block-diagonal matrix. -/
def bdA (w : FVec Ideal S512x4x4 .f32) (X : FVec Ideal S4x8192x2048 .f32) : FVec Ideal S4x8192x2048 .f32 :=
  shapeCast _ (transpose S4x8192x512x4 [2, 3, 0, 1] (Host.dotGeneral dot_S512x4x4_S4x8192x512x4_S512x4x4x8192_1_3_2_01_0_2 none w
    (shapeCast _ X shapeCasts_S4x8192x2048_S4x8192x512x4)) transposes_S512x4x4x8192_S4x8192x512x4_2_3_0_1) shapeCasts_S4x8192x512x4_S4x8192x2048

/-- The first halves. -/
def xmA (U : FVec Ideal S4x8192x4096 .f32) : FVec Ideal S4x8192x2048 .f32 :=
  extractStridedSlice S4x8192x2048 ![0, 0, 0] U slices_S4x8192x4096_S4x8192x2048_0_0_0

/-- The gates of queries, keys and values. -/
def gatesA (q k v : FVec Ideal S4x8192x2048 .f32) (wg : FVec Ideal S6144x16 .f32) (bg : FVec Ideal S16 .f32) : FVec Ideal S4x8192x16 .f32 :=
  addf (Host.dotGeneral dot_S4x8192x6144_S6144x16_S4x8192x16_2_0_01_1_n_n none (concatenate S4x8192x6144 2 [⟨S4x8192x2048, q⟩, ⟨S4x8192x2048, k⟩, ⟨S4x8192x2048, v⟩]
    concatenates_S4x8192x2048_S4x8192x2048_S4x8192x2048_S4x8192x6144_d2) wg)
    (broadcastInDim S4x8192x16 ![0, 1, 2] bcast_S1x1x16_S4x8192x16_0_1_2 (broadcastInDim S1x1x16 ![2] bcast_S16_S1x1x16_2 bg))

/-- The reference's convolved rows. -/
theorem v50_eq : res_main_v50 m c = xcA (upA m c) (m ((c.tc : Thread nD τ).loc main_arg4)) (m ((c.tc : Thread nD τ).loc main_arg5)) := rfl
/-- The reference's queries. -/
theorem v54_eq : res_main_v54 m c = bdA (m ((c.tc : Thread nD τ).loc main_arg6)) (res_main_v50 m c) := rfl
/-- The reference's keys, scaled. -/
theorem v70_eq : res_main_v70 m c = Host.divf (bdA (m ((c.tc : Thread nD τ).loc main_arg7)) (res_main_v50 m c))
    (broadcastInDim S4x8192x2048 ![] bcast_S_S4x8192x2048 (Host.sqrt (constant S_ .f32 0x44000000#32))) := rfl
/-- The reference's gates. -/
theorem v67_eq : res_main_v67 m c = gatesA (res_main_v54 m c) (bdA (m ((c.tc : Thread nD τ).loc main_arg7)) (res_main_v50 m c))
    (bdA (m ((c.tc : Thread nD τ).loc main_arg8)) (xmA (upA m c))) (m ((c.tc : Thread nD τ).loc main_arg9)) (m ((c.tc : Thread nD τ).loc main_arg10)) := rfl

/-- The reference's zero of the padding is zero. -/
theorem pad_zero : (FloatOps.sitofp FTy.f32 (0#32 : BitVec 32) : Ideal FTy.f32) = 0 := by
  show (((0#32 : BitVec 32).toInt : ℝ) : EReal) = 0
  simp

/-- The padded first halves as the reference reads them: inside the sequence, or the padding. -/
theorem padded_eq (R : Args) (b : Fin 4) (r : ℕ) (e : Fin 2048) :
    padded R b r e = if h : 1 ≤ r ∧ r - 1 < 8192 then up R b ⟨r - 1, h.2⟩ ⟨e.val, by omega⟩ else (FloatOps.sitofp FTy.f32 (0#32 : BitVec 32) : Ideal FTy.f32) := by
  unfold padded
  by_cases h : 1 ≤ r ∧ r < 8193
  · rewrite [dif_pos h, dif_pos ⟨h.1, by omega⟩]; rfl
  · rewrite [dif_neg h, dif_neg (by omega)]; exact pad_zero.symm

/-- A row of the sequence is the padded one after it. -/
theorem padded_mid (R : Args) (b : Fin 4) (n : Fin 8192) (e : Fin 2048) : padded R b (n.val + 1) e = up R b n ⟨e.val, by omega⟩ := by
  have hn := n.isLt
  unfold padded
  rewrite [dif_pos ⟨by omega, by omega⟩]
  rfl

/-- The convolution, with the rows as the reference reads them. -/
theorem conv_eq (R : Args) (b : Fin 4) (n : Fin 8192) (e : Fin 2048) :
    conv R b n e = (if h : 1 ≤ n.val ∧ n.val - 1 < 8192 then up R b ⟨n.val - 1, h.2⟩ ⟨e.val, by omega⟩ else (FloatOps.sitofp FTy.f32 (0#32 : BitVec 32) : Ideal FTy.f32)) * R.cw 0 e
      + up R b n ⟨e.val, by omega⟩ * R.cw 1 e
      + (if h : 1 ≤ 2 + n.val ∧ 2 + n.val - 1 < 8192 then up R b ⟨2 + n.val - 1, h.2⟩ ⟨e.val, by omega⟩ else (FloatOps.sitofp FTy.f32 (0#32 : BitVec 32) : Ideal FTy.f32)) * R.cw 2 e
      + R.cb e := by
  unfold conv
  rewrite [padded_mid, Nat.add_comm n.val 2, padded_eq R b n.val, padded_eq R b (2 + n.val)]
  rfl

/-- A sum over queries, keys and values is one over each. -/
theorem sum_three (F : Fin 6144 → EReal) :
    ∑ x, F x = (∑ e : Fin 2048, F ⟨e.val, by omega⟩) + (∑ e : Fin 2048, F ⟨2048 + e.val, by omega⟩) + ∑ e : Fin 2048, F ⟨4096 + e.val, by omega⟩ := by
  refine (Fin.sum_univ_add (a := 4096) (b := 2048) F).trans ?_
  refine congrArg₂ (· + ·) ?_ rfl
  exact Fin.sum_univ_add (a := 2048) (b := 2048) fun i => F (Fin.castAdd 2048 i)

variable {R : Args} (hR : Holds m c R)

include hR in
/-- The projections, element by element. -/
theorem up_at (b : Fin 4) (n : Fin 8192) (e : Fin 4096) : upA m c (ix3 b n e) = up R b n e := by
  unfold upA
  clean_types
  pointwise
  simp only [hR.h, hR.md, hR.g, hR.w]
  unfold up u
  with_reducible rfl

/-- Rows times a block-diagonal matrix, element by element. -/
theorem bd_at (w : FVec Ideal S512x4x4 .f32) (X : FVec Ideal S4x8192x2048 .f32) (b : Fin 4) (n : Fin 8192) (e : Fin 2048) :
    bdA w X (ix3 b n e) = bd (fun x => X (ix3 b n x)) (fun p d y => w (ix3 p d y)) e := by
  unfold bdA
  pointwise
  unfold bd
  refine Finset.sum_congr rfl fun d _ => ?_
  rewrite [mul_comm]
  refine congrArg₂ (· * ·) (congrArg (fun i => X (ix3 b n i)) (Fin.ext (congrArg (· + d.val) (Nat.mul_comm (e.val / 4) 4)))) ?_
  rfl

/-- The first halves, element by element. -/
theorem xmA_at (U : FVec Ideal S4x8192x4096 .f32) (b : Fin 4) (n : Fin 8192) (e : Fin 2048) : xmA U (ix3 b n e) = U (ix3 b n ⟨e.val, by omega⟩) := by
  unfold xmA
  pointwise

include hR in
/-- The convolution, element by element. -/
theorem conv_at (b : Fin 4) (n : Fin 8192) (e : Fin 2048) :
    convA (upA m c) (m ((c.tc : Thread nD τ).loc main_arg4)) (m ((c.tc : Thread nD τ).loc main_arg5)) (ix3 b n e) = conv R b n e := by
  unfold convA
  clean_types
  pointwise
  simp only [up_at m c hR, hR.cw, hR.cb]
  rewrite [conv_eq]
  with_reducible rfl

/-- The convolved rows, element by element. -/
theorem xcA_at (U : FVec Ideal S4x8192x4096 .f32) (cw : FVec Ideal S3x2048 .f32) (cb : FVec Ideal S2048 .f32) (b : Fin 4) (n : Fin 8192) (e : Fin 2048) :
    xcA U cw cb (ix3 b n e) = convA U cw cb (ix3 b n e) * Ideal.div 1 (1 + Ideal.exp (-convA U cw cb (ix3 b n e))) := by
  unfold xcA
  pointwise

/-- The gates, element by element. -/
theorem gatesA_at (q k v : FVec Ideal S4x8192x2048 .f32) (wg : FVec Ideal S6144x16 .f32) (bg : FVec Ideal S16 .f32) (b : Fin 4) (n : Fin 8192) (o : Fin 16) :
    gatesA q k v wg bg (ix3 b n o) = (∑ e : Fin 2048, q (ix3 b n e) * wg (ix2 ⟨e.val, by omega⟩ o))
      + (∑ e : Fin 2048, k (ix3 b n e) * wg (ix2 ⟨2048 + e.val, by omega⟩ o))
      + (∑ e : Fin 2048, v (ix3 b n e) * wg (ix2 ⟨4096 + e.val, by omega⟩ o)) + bg (ix1 o) := by
  unfold gatesA
  pointwise
  rewrite [sum_three]
  refine congrArg (· + bg (ix1 o)) (congrArg₂ (· + ·) (congrArg₂ (· + ·) ?_ ?_) ?_)
  · refine Finset.sum_congr rfl fun e _ => ?_
    rewrite [dif_pos e.isLt]
    with_reducible rfl
  · refine Finset.sum_congr rfl fun e _ => ?_
    have he := e.isLt
    rewrite [dif_neg (by show ¬ 2048 + e.val < 2048; omega), dif_pos (by show 2048 + e.val - 2048 < 2048; omega)]
    exact congrArg (fun i => k (ix3 b n i) * wg (ix2 ⟨2048 + e.val, by omega⟩ o)) (Fin.ext (Nat.add_sub_cancel_left ..))
  · refine Finset.sum_congr rfl fun e _ => ?_
    have he := e.isLt
    rewrite [dif_neg (by show ¬ 4096 + e.val < 2048; omega), dif_neg (by show ¬ 4096 + e.val - 2048 < 2048; omega)]
    exact congrArg (fun i => v (ix3 b n i) * wg (ix2 ⟨4096 + e.val, by omega⟩ o)) (Fin.ext (by show 4096 + e.val - 2048 - 2048 = e.val; omega))

include hR in
/-- THE REFERENCE'S CONVOLVED ROWS, element by element. -/
theorem xc_at (b : Fin 4) (n : Fin 8192) (e : Fin 2048) : res_main_v50 m c (ix3 b n e) = xc R b n e := by
  rewrite [v50_eq, xcA_at, conv_at m c hR]
  rfl

include hR in
/-- THE REFERENCE'S QUERIES, element by element. -/
theorem q_at (b : Fin 4) (n : Fin 8192) (e : Fin 2048) : res_main_v54 m c (ix3 b n e) = q R b n e := by
  rewrite [v54_eq, bd_at]
  simp only [xc_at m c hR, hR.wq]
  rfl

include hR in
/-- The keys before their scale, element by element. -/
theorem k_at (b : Fin 4) (n : Fin 8192) (e : Fin 2048) :
    bdA (m ((c.tc : Thread nD τ).loc main_arg7)) (res_main_v50 m c) (ix3 b n e) = k R b n e := by
  rewrite [bd_at]
  simp only [xc_at m c hR, hR.wk]
  rfl

/-- A quotient by the scale, element by element. -/
theorem scaled_at (X : FVec Ideal S4x8192x2048 .f32) (b : Fin 4) (n : Fin 8192) (e : Fin 2048) :
    Host.divf X (broadcastInDim S4x8192x2048 ![] bcast_S_S4x8192x2048 (Host.sqrt (constant S_ .f32 0x44000000#32))) (ix3 b n e)
      = Ideal.div (X (ix3 b n e)) (Ideal.sqrt (Ideal.ofBits FTy.f32 0x44000000#32)) := by
  pointwise

include hR in
/-- THE REFERENCE'S KEYS, element by element. -/
theorem ks_at (b : Fin 4) (n : Fin 8192) (e : Fin 2048) : res_main_v70 m c (ix3 b n e) = ks R b n e := by
  rewrite [v70_eq, scaled_at, k_at m c hR]
  rfl

include hR in
/-- THE REFERENCE'S VALUES, element by element. -/
theorem v_at (b : Fin 4) (n : Fin 8192) (e : Fin 2048) :
    bdA (m ((c.tc : Thread nD τ).loc main_arg8)) (xmA (upA m c)) (ix3 b n e) = v R b n e := by
  rewrite [bd_at]
  simp only [xmA_at, up_at m c hR, hR.wv]
  rfl

include hR in
/-- THE REFERENCE'S OUTPUT GATES, element by element. -/
theorem z_at (b : Fin 4) (n : Fin 8192) (e : Fin 2048) :
    (extractStridedSlice S4x8192x2048 ![0, 0, 2048] (upA m c) slices_S4x8192x4096_S4x8192x2048_0_0_2048 : FVec Ideal S4x8192x2048 .f32) (ix3 b n e) = z R b n e := by
  pointwise
  exact up_at m c hR b n _

include hR in
/-- THE REFERENCE'S GATES, element by element. -/
theorem gates_at (b : Fin 4) (n : Fin 8192) (o : Fin 16) : res_main_v67 m c (ix3 b n o) = gates R b n o := by
  rewrite [v67_eq, gatesA_at]
  simp only [q_at m c hR, k_at m c hR, v_at m c hR, hR.wg, hR.bg]
  rfl

end Cert.Reference8Ideal.MlstmPre

end
-- ==== Proof.MlstmPreClaim.lean ====
/-
  The value claim of what precedes the scans: kernel and reference return the same six arrays, whatever the arguments.
-/
module

public import proofs.«01_k».proof.Defs
public import proofs.«01_k».proof.Proof.MlstmPreRun
public import proofs.«01_k».proof.Proof.MlstmPreRef

@[expose] public section

set_option maxRecDepth 16384

noncomputable section

namespace Cert.MlstmPre

open Idealize.ShloMosaic Idealize.ShloMosaic.TcCoe Idealize.SL.Sem

/-- THE NAMED SCALE: the kernel's scale of the keys is the real it was computed from. -/
theorem preserves : Cert.preserves_Kernel8_Kernel8Ideal :=
  IdealRules.named_const.statement Cert.Kernel8Ideal.κ "k_scale" .f32 0x3D3504F3#32 (((Real.sqrt 512)⁻¹ : ℝ) : EReal) rfl

/-- The kernel's scale denotes one over the root of 512. -/
theorem scale_eq : Named.named (F := Ideal) Cert.Kernel8Ideal.κ "k_scale" (φ := .f32) 0x3D3504F3#32 = (((Real.sqrt 512)⁻¹ : ℝ) : EReal) :=
  IdealRules.named_const.ideal_named_scalar _ _ _ _ rfl

/-- The reference's constant under the root is 512. -/
theorem ofBits_512 : Ideal.ofBits FTy.f32 0x44000000#32 = ((512 : ℝ) : EReal) := by
  simp [Ideal.ofBits, Ideal.ieee, -EReal.coe_mul]; norm_num

/-- The keys as the kernel scales them are the reference's. -/
theorem scaled_eq (R : Args) : Cert.Kernel8Ideal.MlstmPre.scaled R = ks R := by
  funext b n e
  unfold Cert.Kernel8Ideal.MlstmPre.scaled ks
  rewrite [scale_eq, ofBits_512, Ideal.sqrt_coe, if_neg (by norm_num), Ideal.div_coe (Real.sqrt_pos.mpr (by norm_num)).ne', one_div]
  rfl

variable (m : (ℓ : Loc Cert.Kernel8Ideal.nD Cert.Kernel8Ideal.τ Cert.Kernel8Ideal.sig) → Buf (Elt Ideal) ℓ) (c : Dev Cert.Kernel8Ideal.nD)

/-- A device's arguments, element by element. -/
def argsOf : Args where
  h b n d := m ((c.tc : Thread Cert.Kernel8Ideal.nD Cert.Kernel8Ideal.τ).loc Cert.Kernel8Ideal.main_arg0) (ix3 b n d)
  md b r d := m ((c.tc : Thread Cert.Kernel8Ideal.nD Cert.Kernel8Ideal.τ).loc Cert.Kernel8Ideal.main_arg1) (ix3 b r d)
  g d := m ((c.tc : Thread Cert.Kernel8Ideal.nD Cert.Kernel8Ideal.τ).loc Cert.Kernel8Ideal.main_arg2) (ix1 d)
  w d e := m ((c.tc : Thread Cert.Kernel8Ideal.nD Cert.Kernel8Ideal.τ).loc Cert.Kernel8Ideal.main_arg3) (ix2 d e)
  cw k e := m ((c.tc : Thread Cert.Kernel8Ideal.nD Cert.Kernel8Ideal.τ).loc Cert.Kernel8Ideal.main_arg4) (ix2 k e)
  cb e := m ((c.tc : Thread Cert.Kernel8Ideal.nD Cert.Kernel8Ideal.τ).loc Cert.Kernel8Ideal.main_arg5) (ix1 e)
  wq p d y := m ((c.tc : Thread Cert.Kernel8Ideal.nD Cert.Kernel8Ideal.τ).loc Cert.Kernel8Ideal.main_arg6) (ix3 p d y)
  wk p d y := m ((c.tc : Thread Cert.Kernel8Ideal.nD Cert.Kernel8Ideal.τ).loc Cert.Kernel8Ideal.main_arg7) (ix3 p d y)
  wv p d y := m ((c.tc : Thread Cert.Kernel8Ideal.nD Cert.Kernel8Ideal.τ).loc Cert.Kernel8Ideal.main_arg8) (ix3 p d y)
  wg e o := m ((c.tc : Thread Cert.Kernel8Ideal.nD Cert.Kernel8Ideal.τ).loc Cert.Kernel8Ideal.main_arg9) (ix2 e o)
  bg o := m ((c.tc : Thread Cert.Kernel8Ideal.nD Cert.Kernel8Ideal.τ).loc Cert.Kernel8Ideal.main_arg10) (ix1 o)

/-- The launch memory holds them. -/
theorem holds : Cert.Kernel8Ideal.MlstmPre.Holds m c (argsOf m c) :=
  ⟨fun _ _ _ => rfl, fun _ _ _ => rfl, fun _ => rfl, fun _ _ => rfl, fun _ _ => rfl, fun _ => rfl, fun _ _ _ => rfl, fun _ _ _ => rfl, fun _ _ _ => rfl,
    fun _ _ => rfl, fun _ => rfl⟩

open Cert.Kernel8Ideal.MlstmPre in
/-- THE VALUE CLAIM of what precedes the scans. -/
theorem algebraic : Cert.algebraic_Kernel8Ideal_Reference8Ideal := by
  intro m g m' g' _ hargs
  refine ⟨fun c => arr (q (argsOf m c)), fun c => arr (scaled (argsOf m c)), fun c => arr (v (argsOf m c)), fun c => arr (xc (argsOf m c)),
    fun c => arr (z (argsOf m c)), fun c => gatesArr (argsOf m c), ?_, ?_⟩
  · refine (θ_run _ _ _).mono (fun r h c => ?_) (Cert.Kernel8Ideal.Value.run_blocks m g)
    obtain ⟨h0, h1, h2, h3, h4, h5, hk⟩ := h c
    have H := holds m c
    exact ⟨h0.trans (final13 m c H), h1.trans (final14 m c H), h2.trans (final15 m c H), h3.trans (final16 m c H), h4.trans (final17 m c H),
      h5.trans (final18 m c H), hk⟩
  · refine (θ_run _ _ _).mono (fun r h c => ?_) (Cert.Reference8Ideal.Value.run m' g')
    obtain ⟨h0, h1, h2, h3, h4, h5, hk⟩ := h c
    obtain ⟨a0, a1, a2, a3, a4, a5, a6, a7, a8, a9, a10⟩ := hargs c
    have hR : Cert.Reference8Ideal.MlstmPre.Holds m' c (argsOf m c) :=
      ⟨fun _ _ _ => congrFun a0 _, fun _ _ _ => congrFun a1 _, fun _ => congrFun a2 _, fun _ _ => congrFun a3 _, fun _ _ => congrFun a4 _, fun _ => congrFun a5 _,
        fun _ _ _ => congrFun a6 _, fun _ _ _ => congrFun a7 _, fun _ _ _ => congrFun a8 _, fun _ _ => congrFun a9 _, fun _ => congrFun a10 _⟩
    refine ⟨h0.trans (funext fun i => ?_), h1.trans (funext fun i => ?_), h2.trans (funext fun i => ?_), h3.trans (funext fun i => ?_),
      h4.trans (funext fun i => ?_), h5.trans (funext fun i => ?_), hk⟩
    · idx_vars i
      exact Cert.Reference8Ideal.MlstmPre.q_at m' c hR i0 i1 i2
    · idx_vars i
      rewrite [scaled_eq]
      exact Cert.Reference8Ideal.MlstmPre.ks_at m' c hR i0 i1 i2
    · idx_vars i
      exact Cert.Reference8Ideal.MlstmPre.v_at m' c hR i0 i1 i2
    · idx_vars i
      exact Cert.Reference8Ideal.MlstmPre.xc_at m' c hR i0 i1 i2
    · idx_vars i
      exact Cert.Reference8Ideal.MlstmPre.z_at m' c hR i0 i1 i2
    · idx_vars i
      exact Cert.Reference8Ideal.MlstmPre.gates_at m' c hR i0 i1 i2

end Cert.MlstmPre

end
-- ==== Proof.lean ====
/-
  The certificate's claims, assembled: each program's frame, and the value claims of the scan and of the feed-forward block.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.Reference2Ideal.Run
public import proofs.«01_k».proof.Proof.Gen.ReferenceIdeal.Run
public import proofs.«01_k».proof.Proof.ScanClaim
public import proofs.«01_k».proof.Proof.FfnClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.FfnLastClaim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.FfnFirstClaim
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.LinResClaim
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.MlstmPostClaim
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.HyenaInClaim
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.MlstmPreClaim
public import Idealize.ShloMosaic.Adequacy
public import Idealize.ShloMosaic.Init

@[expose] public section

noncomputable section

namespace Cert.Proof

open Idealize.ShloMosaic Idealize.SL.Sem

/-- The scan reference's frame: its run keeps its arguments, and it declares no semaphore. -/
theorem frame_scan_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The feed-forward reference's frame: its run keeps its arguments, and it declares no semaphore. -/
theorem frame_ffn_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The frame of the reference of the last feed-forward block: its run keeps its arguments, and it declares no semaphore. -/
theorem frame_last_ffn_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The frame of the reference of the first feed-forward block: its run keeps its arguments, and it declares no semaphore. -/
theorem frame_first_ffn_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The frame of the reference of the output projection: its run keeps its arguments, and it declares no semaphore. -/
theorem frame_linres_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The frame of the reference of the scans' epilogue: its run keeps its arguments, and it declares no semaphore. -/
theorem frame_post_ref : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The frame of the reference of the Hyena input projection: its run keeps its arguments, and it declares no semaphore. -/
theorem frame_hyena_in_ref : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The frame of the reference of the projections before the scan: its run keeps its arguments, and it declares no semaphore. -/
theorem frame_pre_ref : Cert.quiescent_Reference8Ideal := fun m ρ _ =>
  (θ_run Cert.Reference8Ideal.defs _ _).mono (fun r h => ⟨fun c => (h c).2.2.2.2.2.2, sem_eq_zero_of_no_sems (by decide) r.2⟩)
    (Cert.Reference8Ideal.Value.run (F := Ideal) m ρ)

/-- The side conditions of the precondition's program. -/
theorem pre_facts : Cert.Pre_finite.Facts := ⟨by decide, by decide, by decide, by decide⟩

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    pre_facts,
    fun m ρ _ => Cert.Kernel.Gen.frame m ρ,
    fun m ρ _ => Cert.KernelIdeal.Gen.frame m ρ,
    fun m ρ _ => Cert.KernelIdeal.Gen.frame m ρ,
    frame_scan_ref,
    fun m ρ _ => frame_scan_ref m ρ trivial,
    fun m ρ _ => Cert.Kernel2.Gen.frame m ρ,
    fun m ρ _ => Cert.Kernel2Ideal.Gen.frame m ρ,
    frame_ffn_ref,
    fun m ρ _ => Cert.Kernel3.Gen.frame m ρ,
    fun m ρ _ => Cert.Kernel3Ideal.Gen.frame m ρ,
    frame_last_ffn_ref,
    fun m ρ _ => Cert.Kernel4.Gen.frame m ρ,
    fun m ρ _ => Cert.Kernel4Ideal.Gen.frame m ρ,
    frame_first_ffn_ref,
    fun m ρ _ => Cert.Kernel5.Gen.frame m ρ,
    fun m ρ _ => Cert.Kernel5Ideal.Gen.frame m ρ,
    frame_linres_ref,
    fun m ρ _ => Cert.Kernel6.Gen.frame m ρ,
    fun m ρ _ => Cert.Kernel6Ideal.Gen.frame m ρ,
    frame_post_ref,
    fun m ρ _ => Cert.Kernel7.Gen.frame m ρ,
    fun m ρ _ => Cert.Kernel7Ideal.Gen.frame m ρ,
    frame_hyena_in_ref,
    fun m ρ _ => Cert.Kernel8.Gen.frame m ρ,
    fun m ρ _ => Cert.Kernel8Ideal.Gen.frame m ρ,
    frame_pre_ref,
    trivial,
    @Cert.Scan.algebraic pre_facts,
    trivial,
    Cert.Ffn.algebraic,
    trivial,
    Cert.FfnLast.algebraic,
    trivial,
    Cert.FfnFirst.algebraic,
    trivial,
    Cert.LinRes.algebraic,
    trivial,
    Cert.MlstmPost.algebraic,
    trivial,
    Cert.HyenaIn.algebraic,
    Cert.MlstmPre.preserves,
    Cert.MlstmPre.algebraic⟩

end Cert.Proof

end
